-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_pre_value [hPre_pre_value : Cert.Pre_pre_value.Facts] (m : (ℓ : Loc Cert.KernelIdeal.nD Cert.KernelIdeal.τ Cert.KernelIdeal.sig) → Buf (Elt Ideal) ℓ) : Prop :=
  ∀ c : Dev Cert.KernelIdeal.nD,
    (Cert.Pre_pre_value.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_value [hPre_pre_value : Cert.Pre_pre_value.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_value.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre_value [hKernelIdeal : Cert.KernelIdeal.Facts] [hPre_pre_value : Cert.Pre_pre_value.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_value m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre_value [hReferenceIdeal : Cert.ReferenceIdeal.Facts] [hPre_pre_value : Cert.Pre_pre_value.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_value m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_half_log2e" .f32 0xBF38AA3B#32 ((-((1 / 2) * (Real.log 2)⁻¹) : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_pre_value [hKernelIdeal : Cert.KernelIdeal.Facts] [hReferenceIdeal : Cert.ReferenceIdeal.Facts] [hPre_pre_value : Cert.Pre_pre_value.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_value m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts) (hPre_pre_value : Cert.Pre_pre_value.Facts),
    quiescent_Kernel (hKernel := hKernel) (hPre_pre := hPre_pre)
    ∧ quiescent_KernelIdeal (hKernelIdeal := hKernelIdeal) (hPre_pre := hPre_pre)
    ∧ quiescent_KernelIdeal_pre_pre_value (hKernelIdeal := hKernelIdeal) (hPre_pre_value := hPre_pre_value)
    ∧ quiescent_ReferenceIdeal (hReferenceIdeal := hReferenceIdeal)
    ∧ quiescent_ReferenceIdeal_pre_pre_value (hReferenceIdeal := hReferenceIdeal) (hPre_pre_value := hPre_pre_value)
    ∧ preserves_Kernel_KernelIdeal
    ∧ algebraic_KernelIdeal_ReferenceIdeal_pre_pre_value (hKernelIdeal := hKernelIdeal) (hReferenceIdeal := hReferenceIdeal) (hPre_pre_value := hPre_pre_value)
-- ==== Pre_pre.lean ====
abbrev S6x32640x128 : Shape := ⟨3, ![6, 32640, 128]⟩
abbrev S255 : Shape := ⟨1, ![255]⟩
abbrev S1 : Shape := ⟨1, ![1]⟩
abbrev S3 : Shape := ⟨1, ![3]⟩
abbrev S_ : Shape := ⟨0, ![]⟩

class Facts : Prop where
  bcast_S_S255 : S_.BroadcastsInDim S255 (![] : Fin 0 → Fin S255.rank)

variable [Facts]

def fn {F : FTy → Type} [FloatOps F] (main_arg0 : IVec S6x32640x128 32) (main_arg1 : IVec S255 32) (main_arg2 : FVec F S1 .f32) (main_arg3 : FVec F S3 .f32) : IVec S255 1 :=
  let main_c : IVec S_ 32 := constantI S_ 32 40#32
  let main_v0 : IVec S255 32 := broadcastInDim S255 ![] bcast_S_S255 main_c
  let main_v1 : IVec S255 1 := cmpi .sle main_arg1 main_v0
  main_v1
-- ==== Pre_pre_value.lean ====
abbrev S6x32640x128 : Shape := ⟨3, ![6, 32640, 128]⟩
abbrev S255 : Shape := ⟨1, ![255]⟩
abbrev S1 : Shape := ⟨1, ![1]⟩
abbrev S3 : Shape := ⟨1, ![3]⟩
abbrev S6x128x32640 : Shape := ⟨3, ![6, 128, 32640]⟩
abbrev S768x32640 : Shape := ⟨2, ![768, 32640]⟩
abbrev S36 : Shape := ⟨1, ![36]⟩
abbrev S36x1 : Shape := ⟨2, ![36, 1]⟩
abbrev S1x32640 : Shape := ⟨2, ![1, 32640]⟩
abbrev S32640 : Shape := ⟨1, ![32640]⟩
abbrev S36x32640 : Shape := ⟨2, ![36, 32640]⟩
abbrev S_ : Shape := ⟨0, ![]⟩
abbrev S255x128 : Shape := ⟨2, ![255, 128]⟩
abbrev S255x1 : Shape := ⟨2, ![255, 1]⟩
abbrev S256x32640 : Shape := ⟨2, ![256, 32640]⟩
abbrev S192x32640 : Shape := ⟨2, ![192, 32640]⟩
abbrev S32x32640 : Shape := ⟨2, ![32, 32640]⟩
abbrev S4x32640 : Shape := ⟨2, ![4, 32640]⟩
abbrev S36x1x32640 : Shape := ⟨3, ![36, 1, 32640]⟩
abbrev S4x16x4 : Shape := ⟨3, ![4, 16, 4]⟩
abbrev S256 : Shape := ⟨1, ![256]⟩
abbrev S1x256x1 : Shape := ⟨3, ![1, 256, 1]⟩
abbrev S36x256x32640 : Shape := ⟨3, ![36, 256, 32640]⟩

class Facts : Prop where
  transposes_S6x32640x128_S6x128x32640_0_2_1 : S6x32640x128.Transposes [0, 2, 1] S6x128x32640
  shapeCasts_S6x128x32640_S768x32640 : S6x128x32640.ShapeCasts S768x32640
  bcast_S36_S36x1_0 : S36.BroadcastsInDim S36x1 (![0] : Fin 1 → Fin S36x1.rank)
  slices_S768x32640_S1x32640_736_0 : S768x32640.Slices ![736, 0] S1x32640
  shapeCasts_S1x32640_S32640 : S1x32640.ShapeCasts S32640
  bcast_S32640_S1x32640_1 : S32640.BroadcastsInDim S1x32640 (![1] : Fin 1 → Fin S1x32640.rank)
  bcast_S36x1_S36x32640_0_1 : S36x1.BroadcastsInDim S36x32640 (![0, 1] : Fin 2 → Fin S36x32640.rank)
  bcast_S1x32640_S36x32640_0_1 : S1x32640.BroadcastsInDim S36x32640 (![0, 1] : Fin 2 → Fin S36x32640.rank)
  bcast_S_S255 : S_.BroadcastsInDim S255 (![] : Fin 0 → Fin S255.rank)
  reducesTo_S255_S_d0 : S255.ReducesTo [0] S_
  h_S_ : 0 < S_.numel
  shapeCasts_S32640_S255x128 : S32640.ShapeCasts S255x128
  bcast_S255_S255x1_0 : S255.BroadcastsInDim S255x1 (![0] : Fin 1 → Fin S255x1.rank)
  bcast_S255x1_S255x128_0_1 : S255x1.BroadcastsInDim S255x128 (![0, 1] : Fin 2 → Fin S255x128.rank)
  reducesTo_S255x128_S_d0_1 : S255x128.ReducesTo [0, 1] S_
  bcast_S_S1 : S_.BroadcastsInDim S1 (![] : Fin 0 → Fin S1.rank)
  reducesTo_S1_S_d0 : S1.ReducesTo [0] S_
  bcast_S_S3 : S_.BroadcastsInDim S3 (![] : Fin 0 → Fin S3.rank)
  reducesTo_S3_S_d0 : S3.ReducesTo [0] S_
  slices_S768x32640_S256x32640_0_0 : S768x32640.Slices ![0, 0] S256x32640
  bcast_S_S256x32640 : S_.BroadcastsInDim S256x32640 (![] : Fin 0 → Fin S256x32640.rank)
  reducesTo_S256x32640_S_d0_1 : S256x32640.ReducesTo [0, 1] S_
  slices_S768x32640_S192x32640_256_0 : S768x32640.Slices ![256, 0] S192x32640
  bcast_S_S192x32640 : S_.BroadcastsInDim S192x32640 (![] : Fin 0 → Fin S192x32640.rank)
  reducesTo_S192x32640_S_d0_1 : S192x32640.ReducesTo [0, 1] S_
  slices_S768x32640_S32x32640_448_0 : S768x32640.Slices ![448, 0] S32x32640
  slices_S768x32640_S4x32640_704_0 : S768x32640.Slices ![704, 0] S4x32640
  concatenates_S32x32640_S4x32640_S36x32640_d0 : Shape.Concatenates [S32x32640, S4x32640] S36x32640 0
  bcast_S_S36x32640 : S_.BroadcastsInDim S36x32640 (![] : Fin 0 → Fin S36x32640.rank)
  reducesTo_S36x32640_S_d0_1 : S36x32640.ReducesTo [0, 1] S_
  slices_S768x32640_S32x32640_480_0 : S768x32640.Slices ![480, 0] S32x32640
  slices_S768x32640_S4x32640_708_0 : S768x32640.Slices ![708, 0] S4x32640
  slices_S768x32640_S32x32640_512_0 : S768x32640.Slices ![512, 0] S32x32640
  slices_S768x32640_S4x32640_712_0 : S768x32640.Slices ![712, 0] S4x32640
  slices_S768x32640_S32x32640_544_0 : S768x32640.Slices ![544, 0] S32x32640
  slices_S768x32640_S4x32640_716_0 : S768x32640.Slices ![716, 0] S4x32640
  slices_S768x32640_S32x32640_576_0 : S768x32640.Slices ![576, 0] S32x32640
  slices_S768x32640_S4x32640_720_0 : S768x32640.Slices ![720, 0] S4x32640
  slices_S768x32640_S32x32640_608_0 : S768x32640.Slices ![608, 0] S32x32640
  slices_S768x32640_S4x32640_724_0 : S768x32640.Slices ![724, 0] S4x32640
  slices_S768x32640_S32x32640_672_0 : S768x32640.Slices ![672, 0] S32x32640
  slices_S768x32640_S4x32640_732_0 : S768x32640.Slices ![732, 0] S4x32640
  slices_S768x32640_S32x32640_640_0 : S768x32640.Slices ![640, 0] S32x32640
  slices_S768x32640_S4x32640_728_0 : S768x32640.Slices ![728, 0] S4x32640
  bcast_S36x32640_S36x1x32640_0_2 : S36x32640.BroadcastsInDim S36x1x32640 (![0, 2] : Fin 2 → Fin S36x1x32640.rank)
  shapeCasts_S4x16x4_S256 : S4x16x4.ShapeCasts S256
  bcast_S_S256 : S_.BroadcastsInDim S256 (![] : Fin 0 → Fin S256.rank)
  bcast_S256_S1x256x1_1 : S256.BroadcastsInDim S1x256x1 (![1] : Fin 1 → Fin S1x256x1.rank)
  bcast_S36x1x32640_S36x256x32640_0_1_2 : S36x1x32640.BroadcastsInDim S36x256x32640 (![0, 1, 2] : Fin 3 → Fin S36x256x32640.rank)
  bcast_S1x256x1_S36x256x32640_0_1_2 : S1x256x1.BroadcastsInDim S36x256x32640 (![0, 1, 2] : Fin 3 → Fin S36x256x32640.rank)
  bcast_S_S36x256x32640 : S_.BroadcastsInDim S36x256x32640 (![] : Fin 0 → Fin S36x256x32640.rank)
  reducesTo_S36x256x32640_S_d0_1_2 : S36x256x32640.ReducesTo [0, 1, 2] S_

variable [Facts]

def fn_where {F : FTy → Type} [FloatOps F] (arg0 : IVec S36x1x32640 1) (arg1 : FVec F S36x256x32640 .f32) (arg2 : FVec F S_ .f32) : FVec F S36x256x32640 .f32 :=
  let v0 : FVec F S_ .f32 := id arg2
  let v1 : IVec S36x256x32640 1 := broadcastInDim S36x256x32640 ![0, 1, 2] bcast_S36x1x32640_S36x256x32640_0_1_2 arg0
  let v2 : FVec F S36x256x32640 .f32 := broadcastInDim S36x256x32640 ![] bcast_S_S36x256x32640 v0
  let v3 : FVec F S36x256x32640 .f32 := select v1 arg1 v2
  v3

def fn_part13 {F : FTy → Type} [FloatOps F] (main_v166 : IVec S_ 1) (main_v250 : FVec F S36x256x32640 .f32) (main_v251 : FVec F S36x256x32640 .f32) : IVec S_ 1 :=
  let main_v252 : FVec F S36x256x32640 .f32 := subf main_v251 main_v250
  let main_cst_58 : FVec F S_ .f32 := constant S_ .f32 0x00000000#32
  let main_v253 : FVec F S36x256x32640 .f32 := broadcastInDim S36x256x32640 ![] bcast_S_S36x256x32640 main_cst_58
  let main_v254 : IVec S36x256x32640 1 := cmpf .une main_v252 main_v253
  let main_c_59 : IVec S_ 1 := constantI S_ 1 1#1
  let main_v255 : IVec S_ 1 := (fun x v => Host.reduce IntOp.andi x v reducesTo_S36x256x32640_S_d0_1_2 h_S_) main_v254 main_c_59
  let main_v256 : IVec S_ 1 := andi main_v166 main_v255
  main_v256

def fn_part12 {F : FTy → Type} [FloatOps F] (main_v1 : IVec S768x32640 32) (main_v166 : IVec S_ 1) (main_v186 : FVec F S36x1x32640 .f32) (main_v196 : FVec F S36x1x32640 .f32) (main_v219 : FVec F S36x256x32640 .f32) (main_v223 : FVec F S36x256x32640 .f32) (main_v230 : FVec F S36x256x32640 .f32) : IVec S_ 1 :=
  let main_cst_55 : FVec F S_ .f32 := constant S_ .f32 0x3F000000#32
  let main_v231 : FVec F S36x256x32640 .f32 := broadcastInDim S36x256x32640 ![] bcast_S_S36x256x32640 main_cst_55
  let main_v232 : FVec F S36x256x32640 .f32 := mulf main_v231 main_v230
  let main_v233 : FVec F S36x256x32640 .f32 := broadcastInDim S36x256x32640 ![0, 1, 2] bcast_S36x1x32640_S36x256x32640_0_1_2 main_v186
  let main_v234 : FVec F S36x256x32640 .f32 := mulf main_v233 main_v219
  let main_v235 : FVec F S36x256x32640 .f32 := mulf main_v234 main_v223
  let main_v236 : FVec F S36x256x32640 .f32 := addf main_v232 main_v235
  let main_v237 : FVec F S36x256x32640 .f32 := Host.negf main_v236
  let main_v238 : FVec F S36x256x32640 .f32 := Host.exp main_v237
  let main_v239 : IVec S36 32 := iotaInDim S36 32 0
  let main_v240 : IVec S36x1 32 := broadcastInDim S36x1 ![0] bcast_S36_S36x1_0 main_v239
  let main_v241 : IVec S1x32640 32 := (extractStridedSlice S1x32640 ![736, 0] · slices_S768x32640_S1x32640_736_0) main_v1
  let main_v242 : IVec S32640 32 := shapeCast S32640 main_v241 shapeCasts_S1x32640_S32640
  let main_v243 : IVec S1x32640 32 := broadcastInDim S1x32640 ![1] bcast_S32640_S1x32640_1 main_v242
  let main_v244 : IVec S36x32640 32 := broadcastInDim S36x32640 ![0, 1] bcast_S36x1_S36x32640_0_1 main_v240
  let main_v245 : IVec S36x32640 32 := broadcastInDim S36x32640 ![0, 1] bcast_S1x32640_S36x32640_0_1 main_v243
  let main_v246 : IVec S36x32640 1 := cmpi .slt main_v244 main_v245
  let main_v247 : IVec S36x1x32640 1 := broadcastInDim S36x1x32640 ![0, 2] bcast_S36x32640_S36x1x32640_0_2 main_v246
  let main_v248 : FVec F S36x256x32640 .f32 := broadcastInDim S36x256x32640 ![0, 1, 2] bcast_S36x1x32640_S36x256x32640_0_1_2 main_v196
  let main_v249 : FVec F S36x256x32640 .f32 := mulf main_v248 main_v238
  let main_cst_56 : FVec F S_ .f32 := constant S_ .f32 0x00000000#32
  let main_v250 : FVec F S36x256x32640 .f32 := fn_where (F := F) main_v247 main_v249 main_cst_56
  let main_cst_57 : FVec F S_ .f32 := constant S_ .f32 0x3F800000#32
  let main_v251 : FVec F S36x256x32640 .f32 := broadcastInDim S36x256x32640 ![] bcast_S_S36x256x32640 main_cst_57
  fn_part13 (F := F) main_v166 main_v250 main_v251

def fn_part11 {F : FTy → Type} [FloatOps F] (main_v1 : IVec S768x32640 32) (main_v166 : IVec S_ 1) (main_v171 : FVec F S36x1x32640 .f32) (main_v176 : FVec F S36x1x32640 .f32) (main_v181 : FVec F S36x1x32640 .f32) (main_v186 : FVec F S36x1x32640 .f32) (main_v191 : FVec F S36x1x32640 .f32) (main_v196 : FVec F S36x1x32640 .f32) (main_v203 : FVec F S256 .f32) (main_v207 : IVec S256 32) (main_v208 : IVec S4x16x4 32) : IVec S_ 1 :=
  let main_v209 : IVec S256 32 := shapeCast S256 main_v208 shapeCasts_S4x16x4_S256
  let main_v210 : IVec S256 32 := addi main_v207 main_v209
  let main_v211 : FVec F S256 .f32 := sitofp .f32 main_v210
  let main_cst_53 : FVec F S_ .f32 := constant S_ .f32 0x3F000000#32
  let main_v212 : FVec F S256 .f32 := broadcastInDim S256 ![] bcast_S_S256 main_cst_53
  let main_v213 : FVec F S256 .f32 := addf main_v211 main_v212
  let main_cst_54 : FVec F S_ .f32 := constant S_ .f32 0x41000000#32
  let main_v214 : FVec F S256 .f32 := broadcastInDim S256 ![] bcast_S_S256 main_cst_54
  let main_v215 : FVec F S256 .f32 := subf main_v213 main_v214
  let main_v216 : FVec F S1x256x1 .f32 := broadcastInDim S1x256x1 ![1] bcast_S256_S1x256x1_1 main_v203
  let main_v217 : FVec F S36x256x32640 .f32 := broadcastInDim S36x256x32640 ![0, 1, 2] bcast_S36x1x32640_S36x256x32640_0_1_2 main_v171
  let main_v218 : FVec F S36x256x32640 .f32 := broadcastInDim S36x256x32640 ![0, 1, 2] bcast_S1x256x1_S36x256x32640_0_1_2 main_v216
  let main_v219 : FVec F S36x256x32640 .f32 := subf main_v217 main_v218
  let main_v220 : FVec F S1x256x1 .f32 := broadcastInDim S1x256x1 ![1] bcast_S256_S1x256x1_1 main_v215
  let main_v221 : FVec F S36x256x32640 .f32 := broadcastInDim S36x256x32640 ![0, 1, 2] bcast_S36x1x32640_S36x256x32640_0_1_2 main_v176
  let main_v222 : FVec F S36x256x32640 .f32 := broadcastInDim S36x256x32640 ![0, 1, 2] bcast_S1x256x1_S36x256x32640_0_1_2 main_v220
  let main_v223 : FVec F S36x256x32640 .f32 := subf main_v221 main_v222
  let main_v224 : FVec F S36x256x32640 .f32 := broadcastInDim S36x256x32640 ![0, 1, 2] bcast_S36x1x32640_S36x256x32640_0_1_2 main_v181
  let main_v225 : FVec F S36x256x32640 .f32 := mulf main_v224 main_v219
  let main_v226 : FVec F S36x256x32640 .f32 := mulf main_v225 main_v219
  let main_v227 : FVec F S36x256x32640 .f32 := broadcastInDim S36x256x32640 ![0, 1, 2] bcast_S36x1x32640_S36x256x32640_0_1_2 main_v191
  let main_v228 : FVec F S36x256x32640 .f32 := mulf main_v227 main_v223
  let main_v229 : FVec F S36x256x32640 .f32 := mulf main_v228 main_v223
  let main_v230 : FVec F S36x256x32640 .f32 := addf main_v226 main_v229
  fn_part12 (F := F) main_v1 main_v166 main_v186 main_v196 main_v219 main_v223 main_v230

def fn_part10 {F : FTy → Type} [FloatOps F] (main_v1 : IVec S768x32640 32) (main_v166 : IVec S_ 1) (main_v171 : FVec F S36x1x32640 .f32) (main_v176 : FVec F S36x1x32640 .f32) (main_v181 : FVec F S36x1x32640 .f32) (main_v186 : FVec F S36x1x32640 .f32) (main_v187 : IVec S32x32640 32) : IVec S_ 1 :=
  let main_v188 : IVec S4x32640 32 := (extractStridedSlice S4x32640 ![720, 0] · slices_S768x32640_S4x32640_720_0) main_v1
  let main_v189 : IVec S36x32640 32 := (fun a b => concatenate S36x32640 0 [⟨S32x32640, a⟩, ⟨S4x32640, b⟩] concatenates_S32x32640_S4x32640_S36x32640_d0) main_v187 main_v188
  let main_v190 : FVec F S36x32640 .f32 := bitcastToFloat .f32 main_v189
  let main_v191 : FVec F S36x1x32640 .f32 := broadcastInDim S36x1x32640 ![0, 2] bcast_S36x32640_S36x1x32640_0_2 main_v190
  let main_v192 : IVec S32x32640 32 := (extractStridedSlice S32x32640 ![608, 0] · slices_S768x32640_S32x32640_608_0) main_v1
  let main_v193 : IVec S4x32640 32 := (extractStridedSlice S4x32640 ![724, 0] · slices_S768x32640_S4x32640_724_0) main_v1
  let main_v194 : IVec S36x32640 32 := (fun a b => concatenate S36x32640 0 [⟨S32x32640, a⟩, ⟨S4x32640, b⟩] concatenates_S32x32640_S4x32640_S36x32640_d0) main_v192 main_v193
  let main_v195 : FVec F S36x32640 .f32 := bitcastToFloat .f32 main_v194
  let main_v196 : FVec F S36x1x32640 .f32 := broadcastInDim S36x1x32640 ![0, 2] bcast_S36x32640_S36x1x32640_0_2 main_v195
  let main_v197 : IVec S4x16x4 32 := iotaInDim S4x16x4 32 1
  let main_v198 : IVec S256 32 := shapeCast S256 main_v197 shapeCasts_S4x16x4_S256
  let main_v199 : FVec F S256 .f32 := sitofp .f32 main_v198
  let main_cst_50 : FVec F S_ .f32 := constant S_ .f32 0x3F000000#32
  let main_v200 : FVec F S256 .f32 := broadcastInDim S256 ![] bcast_S_S256 main_cst_50
  let main_v201 : FVec F S256 .f32 := addf main_v199 main_v200
  let main_cst_51 : FVec F S_ .f32 := constant S_ .f32 0x41000000#32
  let main_v202 : FVec F S256 .f32 := broadcastInDim S256 ![] bcast_S_S256 main_cst_51
  let main_v203 : FVec F S256 .f32 := subf main_v201 main_v202
  let main_v204 : IVec S4x16x4 32 := iotaInDim S4x16x4 32 0
  let main_v205 : IVec S256 32 := shapeCast S256 main_v204 shapeCasts_S4x16x4_S256
  let main_c_52 : IVec S_ 32 := constantI S_ 32 4#32
  let main_v206 : IVec S256 32 := broadcastInDim S256 ![] bcast_S_S256 main_c_52
  let main_v207 : IVec S256 32 := muli main_v206 main_v205
  let main_v208 : IVec S4x16x4 32 := iotaInDim S4x16x4 32 2
  fn_part11 (F := F) main_v1 main_v166 main_v171 main_v176 main_v181 main_v186 main_v191 main_v196 main_v203 main_v207 main_v208

def fn_part9 {F : FTy → Type} [FloatOps F] (main_v1 : IVec S768x32640 32) (main_v156 : IVec S_ 1) (main_v164 : IVec S36x32640 1) : IVec S_ 1 :=
  let main_c_49 : IVec S_ 1 := constantI S_ 1 1#1
  let main_v165 : IVec S_ 1 := (fun x v => Host.reduce IntOp.andi x v reducesTo_S36x32640_S_d0_1 h_S_) main_v164 main_c_49
  let main_v166 : IVec S_ 1 := andi main_v156 main_v165
  let main_v167 : IVec S32x32640 32 := (extractStridedSlice S32x32640 ![448, 0] · slices_S768x32640_S32x32640_448_0) main_v1
  let main_v168 : IVec S4x32640 32 := (extractStridedSlice S4x32640 ![704, 0] · slices_S768x32640_S4x32640_704_0) main_v1
  let main_v169 : IVec S36x32640 32 := (fun a b => concatenate S36x32640 0 [⟨S32x32640, a⟩, ⟨S4x32640, b⟩] concatenates_S32x32640_S4x32640_S36x32640_d0) main_v167 main_v168
  let main_v170 : FVec F S36x32640 .f32 := bitcastToFloat .f32 main_v169
  let main_v171 : FVec F S36x1x32640 .f32 := broadcastInDim S36x1x32640 ![0, 2] bcast_S36x32640_S36x1x32640_0_2 main_v170
  let main_v172 : IVec S32x32640 32 := (extractStridedSlice S32x32640 ![480, 0] · slices_S768x32640_S32x32640_480_0) main_v1
  let main_v173 : IVec S4x32640 32 := (extractStridedSlice S4x32640 ![708, 0] · slices_S768x32640_S4x32640_708_0) main_v1
  let main_v174 : IVec S36x32640 32 := (fun a b => concatenate S36x32640 0 [⟨S32x32640, a⟩, ⟨S4x32640, b⟩] concatenates_S32x32640_S4x32640_S36x32640_d0) main_v172 main_v173
  let main_v175 : FVec F S36x32640 .f32 := bitcastToFloat .f32 main_v174
  let main_v176 : FVec F S36x1x32640 .f32 := broadcastInDim S36x1x32640 ![0, 2] bcast_S36x32640_S36x1x32640_0_2 main_v175
  let main_v177 : IVec S32x32640 32 := (extractStridedSlice S32x32640 ![512, 0] · slices_S768x32640_S32x32640_512_0) main_v1
  let main_v178 : IVec S4x32640 32 := (extractStridedSlice S4x32640 ![712, 0] · slices_S768x32640_S4x32640_712_0) main_v1
  let main_v179 : IVec S36x32640 32 := (fun a b => concatenate S36x32640 0 [⟨S32x32640, a⟩, ⟨S4x32640, b⟩] concatenates_S32x32640_S4x32640_S36x32640_d0) main_v177 main_v178
  let main_v180 : FVec F S36x32640 .f32 := bitcastToFloat .f32 main_v179
  let main_v181 : FVec F S36x1x32640 .f32 := broadcastInDim S36x1x32640 ![0, 2] bcast_S36x32640_S36x1x32640_0_2 main_v180
  let main_v182 : IVec S32x32640 32 := (extractStridedSlice S32x32640 ![544, 0] · slices_S768x32640_S32x32640_544_0) main_v1
  let main_v183 : IVec S4x32640 32 := (extractStridedSlice S4x32640 ![716, 0] · slices_S768x32640_S4x32640_716_0) main_v1
  let main_v184 : IVec S36x32640 32 := (fun a b => concatenate S36x32640 0 [⟨S32x32640, a⟩, ⟨S4x32640, b⟩] concatenates_S32x32640_S4x32640_S36x32640_d0) main_v182 main_v183
  let main_v185 : FVec F S36x32640 .f32 := bitcastToFloat .f32 main_v184
  let main_v186 : FVec F S36x1x32640 .f32 := broadcastInDim S36x1x32640 ![0, 2] bcast_S36x32640_S36x1x32640_0_2 main_v185
  let main_v187 : IVec S32x32640 32 := (extractStridedSlice S32x32640 ![576, 0] · slices_S768x32640_S32x32640_576_0) main_v1
  fn_part10 (F := F) main_v1 main_v166 main_v171 main_v176 main_v181 main_v186 main_v187

def fn_part8 {F : FTy → Type} [FloatOps F] (main_v1 : IVec S768x32640 32) (main_v10 : IVec S36x32640 1) (main_v136 : IVec S_ 1) (main_v145 : IVec S_ 1) : IVec S_ 1 :=
  let main_v146 : IVec S_ 1 := andi main_v136 main_v145
  let main_v147 : IVec S32x32640 32 := (extractStridedSlice S32x32640 ![640, 0] · slices_S768x32640_S32x32640_640_0) main_v1
  let main_v148 : IVec S4x32640 32 := (extractStridedSlice S4x32640 ![728, 0] · slices_S768x32640_S4x32640_728_0) main_v1
  let main_v149 : IVec S36x32640 32 := (fun a b => concatenate S36x32640 0 [⟨S32x32640, a⟩, ⟨S4x32640, b⟩] concatenates_S32x32640_S4x32640_S36x32640_d0) main_v147 main_v148
  let main_c_44 : IVec S_ 32 := constantI S_ 32 32512#32
  let main_v150 : IVec S36x32640 32 := broadcastInDim S36x32640 ![] bcast_S_S36x32640 main_c_44
  let main_v151 : IVec S36x32640 32 := andi main_v149 main_v150
  let main_c_45 : IVec S_ 32 := constantI S_ 32 32512#32
  let main_v152 : IVec S36x32640 32 := broadcastInDim S36x32640 ![] bcast_S_S36x32640 main_c_45
  let main_v153 : IVec S36x32640 1 := cmpi .ne main_v151 main_v152
  let main_v154 : IVec S36x32640 1 := ori main_v153 main_v10
  let main_c_46 : IVec S_ 1 := constantI S_ 1 1#1
  let main_v155 : IVec S_ 1 := (fun x v => Host.reduce IntOp.andi x v reducesTo_S36x32640_S_d0_1 h_S_) main_v154 main_c_46
  let main_v156 : IVec S_ 1 := andi main_v146 main_v155
  let main_v157 : IVec S32x32640 32 := (extractStridedSlice S32x32640 ![640, 0] · slices_S768x32640_S32x32640_640_0) main_v1
  let main_v158 : IVec S4x32640 32 := (extractStridedSlice S4x32640 ![728, 0] · slices_S768x32640_S4x32640_728_0) main_v1
  let main_v159 : IVec S36x32640 32 := (fun a b => concatenate S36x32640 0 [⟨S32x32640, a⟩, ⟨S4x32640, b⟩] concatenates_S32x32640_S4x32640_S36x32640_d0) main_v157 main_v158
  let main_c_47 : IVec S_ 32 := constantI S_ 32 8323072#32
  let main_v160 : IVec S36x32640 32 := broadcastInDim S36x32640 ![] bcast_S_S36x32640 main_c_47
  let main_v161 : IVec S36x32640 32 := andi main_v159 main_v160
  let main_c_48 : IVec S_ 32 := constantI S_ 32 8323072#32
  let main_v162 : IVec S36x32640 32 := broadcastInDim S36x32640 ![] bcast_S_S36x32640 main_c_48
  let main_v163 : IVec S36x32640 1 := cmpi .ne main_v161 main_v162
  let main_v164 : IVec S36x32640 1 := ori main_v163 main_v10
  fn_part9 (F := F) main_v1 main_v156 main_v164

def fn_part7 {F : FTy → Type} [FloatOps F] (main_v1 : IVec S768x32640 32) (main_v10 : IVec S36x32640 1) (main_v126 : IVec S_ 1) (main_v127 : IVec S32x32640 32) : IVec S_ 1 :=
  let main_v128 : IVec S4x32640 32 := (extractStridedSlice S4x32640 ![732, 0] · slices_S768x32640_S4x32640_732_0) main_v1
  let main_v129 : IVec S36x32640 32 := (fun a b => concatenate S36x32640 0 [⟨S32x32640, a⟩, ⟨S4x32640, b⟩] concatenates_S32x32640_S4x32640_S36x32640_d0) main_v127 main_v128
  let main_c_38 : IVec S_ 32 := constantI S_ 32 2139095040#32
  let main_v130 : IVec S36x32640 32 := broadcastInDim S36x32640 ![] bcast_S_S36x32640 main_c_38
  let main_v131 : IVec S36x32640 32 := andi main_v129 main_v130
  let main_c_39 : IVec S_ 32 := constantI S_ 32 2139095040#32
  let main_v132 : IVec S36x32640 32 := broadcastInDim S36x32640 ![] bcast_S_S36x32640 main_c_39
  let main_v133 : IVec S36x32640 1 := cmpi .ne main_v131 main_v132
  let main_v134 : IVec S36x32640 1 := ori main_v133 main_v10
  let main_c_40 : IVec S_ 1 := constantI S_ 1 1#1
  let main_v135 : IVec S_ 1 := (fun x v => Host.reduce IntOp.andi x v reducesTo_S36x32640_S_d0_1 h_S_) main_v134 main_c_40
  let main_v136 : IVec S_ 1 := andi main_v126 main_v135
  let main_v137 : IVec S32x32640 32 := (extractStridedSlice S32x32640 ![640, 0] · slices_S768x32640_S32x32640_640_0) main_v1
  let main_v138 : IVec S4x32640 32 := (extractStridedSlice S4x32640 ![728, 0] · slices_S768x32640_S4x32640_728_0) main_v1
  let main_v139 : IVec S36x32640 32 := (fun a b => concatenate S36x32640 0 [⟨S32x32640, a⟩, ⟨S4x32640, b⟩] concatenates_S32x32640_S4x32640_S36x32640_d0) main_v137 main_v138
  let main_c_41 : IVec S_ 32 := constantI S_ 32 127#32
  let main_v140 : IVec S36x32640 32 := broadcastInDim S36x32640 ![] bcast_S_S36x32640 main_c_41
  let main_v141 : IVec S36x32640 32 := andi main_v139 main_v140
  let main_c_42 : IVec S_ 32 := constantI S_ 32 127#32
  let main_v142 : IVec S36x32640 32 := broadcastInDim S36x32640 ![] bcast_S_S36x32640 main_c_42
  let main_v143 : IVec S36x32640 1 := cmpi .ne main_v141 main_v142
  let main_v144 : IVec S36x32640 1 := ori main_v143 main_v10
  let main_c_43 : IVec S_ 1 := constantI S_ 1 1#1
  let main_v145 : IVec S_ 1 := (fun x v => Host.reduce IntOp.andi x v reducesTo_S36x32640_S_d0_1 h_S_) main_v144 main_c_43
  fn_part8 (F := F) main_v1 main_v10 main_v136 main_v145

def fn_part6 {F : FTy → Type} [FloatOps F] (main_v1 : IVec S768x32640 32) (main_v10 : IVec S36x32640 1) (main_v106 : IVec S_ 1) (main_v109 : IVec S36x32640 32) : IVec S_ 1 :=
  let main_c_32 : IVec S_ 32 := constantI S_ 32 2139095040#32
  let main_v110 : IVec S36x32640 32 := broadcastInDim S36x32640 ![] bcast_S_S36x32640 main_c_32
  let main_v111 : IVec S36x32640 32 := andi main_v109 main_v110
  let main_c_33 : IVec S_ 32 := constantI S_ 32 2139095040#32
  let main_v112 : IVec S36x32640 32 := broadcastInDim S36x32640 ![] bcast_S_S36x32640 main_c_33
  let main_v113 : IVec S36x32640 1 := cmpi .ne main_v111 main_v112
  let main_v114 : IVec S36x32640 1 := ori main_v113 main_v10
  let main_c_34 : IVec S_ 1 := constantI S_ 1 1#1
  let main_v115 : IVec S_ 1 := (fun x v => Host.reduce IntOp.andi x v reducesTo_S36x32640_S_d0_1 h_S_) main_v114 main_c_34
  let main_v116 : IVec S_ 1 := andi main_v106 main_v115
  let main_v117 : IVec S32x32640 32 := (extractStridedSlice S32x32640 ![608, 0] · slices_S768x32640_S32x32640_608_0) main_v1
  let main_v118 : IVec S4x32640 32 := (extractStridedSlice S4x32640 ![724, 0] · slices_S768x32640_S4x32640_724_0) main_v1
  let main_v119 : IVec S36x32640 32 := (fun a b => concatenate S36x32640 0 [⟨S32x32640, a⟩, ⟨S4x32640, b⟩] concatenates_S32x32640_S4x32640_S36x32640_d0) main_v117 main_v118
  let main_c_35 : IVec S_ 32 := constantI S_ 32 2139095040#32
  let main_v120 : IVec S36x32640 32 := broadcastInDim S36x32640 ![] bcast_S_S36x32640 main_c_35
  let main_v121 : IVec S36x32640 32 := andi main_v119 main_v120
  let main_c_36 : IVec S_ 32 := constantI S_ 32 2139095040#32
  let main_v122 : IVec S36x32640 32 := broadcastInDim S36x32640 ![] bcast_S_S36x32640 main_c_36
  let main_v123 : IVec S36x32640 1 := cmpi .ne main_v121 main_v122
  let main_v124 : IVec S36x32640 1 := ori main_v123 main_v10
  let main_c_37 : IVec S_ 1 := constantI S_ 1 1#1
  let main_v125 : IVec S_ 1 := (fun x v => Host.reduce IntOp.andi x v reducesTo_S36x32640_S_d0_1 h_S_) main_v124 main_c_37
  let main_v126 : IVec S_ 1 := andi main_v116 main_v125
  let main_v127 : IVec S32x32640 32 := (extractStridedSlice S32x32640 ![672, 0] · slices_S768x32640_S32x32640_672_0) main_v1
  fn_part7 (F := F) main_v1 main_v10 main_v126 main_v127

def fn_part5 {F : FTy → Type} [FloatOps F] (main_v1 : IVec S768x32640 32) (main_v10 : IVec S36x32640 1) (main_v86 : IVec S_ 1) (main_v89 : IVec S36x32640 32) (main_v90 : IVec S36x32640 32) : IVec S_ 1 :=
  let main_v91 : IVec S36x32640 32 := andi main_v89 main_v90
  let main_c_27 : IVec S_ 32 := constantI S_ 32 2139095040#32
  let main_v92 : IVec S36x32640 32 := broadcastInDim S36x32640 ![] bcast_S_S36x32640 main_c_27
  let main_v93 : IVec S36x32640 1 := cmpi .ne main_v91 main_v92
  let main_v94 : IVec S36x32640 1 := ori main_v93 main_v10
  let main_c_28 : IVec S_ 1 := constantI S_ 1 1#1
  let main_v95 : IVec S_ 1 := (fun x v => Host.reduce IntOp.andi x v reducesTo_S36x32640_S_d0_1 h_S_) main_v94 main_c_28
  let main_v96 : IVec S_ 1 := andi main_v86 main_v95
  let main_v97 : IVec S32x32640 32 := (extractStridedSlice S32x32640 ![544, 0] · slices_S768x32640_S32x32640_544_0) main_v1
  let main_v98 : IVec S4x32640 32 := (extractStridedSlice S4x32640 ![716, 0] · slices_S768x32640_S4x32640_716_0) main_v1
  let main_v99 : IVec S36x32640 32 := (fun a b => concatenate S36x32640 0 [⟨S32x32640, a⟩, ⟨S4x32640, b⟩] concatenates_S32x32640_S4x32640_S36x32640_d0) main_v97 main_v98
  let main_c_29 : IVec S_ 32 := constantI S_ 32 2139095040#32
  let main_v100 : IVec S36x32640 32 := broadcastInDim S36x32640 ![] bcast_S_S36x32640 main_c_29
  let main_v101 : IVec S36x32640 32 := andi main_v99 main_v100
  let main_c_30 : IVec S_ 32 := constantI S_ 32 2139095040#32
  let main_v102 : IVec S36x32640 32 := broadcastInDim S36x32640 ![] bcast_S_S36x32640 main_c_30
  let main_v103 : IVec S36x32640 1 := cmpi .ne main_v101 main_v102
  let main_v104 : IVec S36x32640 1 := ori main_v103 main_v10
  let main_c_31 : IVec S_ 1 := constantI S_ 1 1#1
  let main_v105 : IVec S_ 1 := (fun x v => Host.reduce IntOp.andi x v reducesTo_S36x32640_S_d0_1 h_S_) main_v104 main_c_31
  let main_v106 : IVec S_ 1 := andi main_v96 main_v105
  let main_v107 : IVec S32x32640 32 := (extractStridedSlice S32x32640 ![576, 0] · slices_S768x32640_S32x32640_576_0) main_v1
  let main_v108 : IVec S4x32640 32 := (extractStridedSlice S4x32640 ![720, 0] · slices_S768x32640_S4x32640_720_0) main_v1
  let main_v109 : IVec S36x32640 32 := (fun a b => concatenate S36x32640 0 [⟨S32x32640, a⟩, ⟨S4x32640, b⟩] concatenates_S32x32640_S4x32640_S36x32640_d0) main_v107 main_v108
  fn_part6 (F := F) main_v1 main_v10 main_v106 main_v109

def fn_part4 {F : FTy → Type} [FloatOps F] (main_v1 : IVec S768x32640 32) (main_v10 : IVec S36x32640 1) (main_v66 : IVec S_ 1) (main_v71 : IVec S36x32640 32) (main_c_21 : IVec S_ 32) : IVec S_ 1 :=
  let main_v72 : IVec S36x32640 32 := broadcastInDim S36x32640 ![] bcast_S_S36x32640 main_c_21
  let main_v73 : IVec S36x32640 1 := cmpi .ne main_v71 main_v72
  let main_v74 : IVec S36x32640 1 := ori main_v73 main_v10
  let main_c_22 : IVec S_ 1 := constantI S_ 1 1#1
  let main_v75 : IVec S_ 1 := (fun x v => Host.reduce IntOp.andi x v reducesTo_S36x32640_S_d0_1 h_S_) main_v74 main_c_22
  let main_v76 : IVec S_ 1 := andi main_v66 main_v75
  let main_v77 : IVec S32x32640 32 := (extractStridedSlice S32x32640 ![480, 0] · slices_S768x32640_S32x32640_480_0) main_v1
  let main_v78 : IVec S4x32640 32 := (extractStridedSlice S4x32640 ![708, 0] · slices_S768x32640_S4x32640_708_0) main_v1
  let main_v79 : IVec S36x32640 32 := (fun a b => concatenate S36x32640 0 [⟨S32x32640, a⟩, ⟨S4x32640, b⟩] concatenates_S32x32640_S4x32640_S36x32640_d0) main_v77 main_v78
  let main_c_23 : IVec S_ 32 := constantI S_ 32 2139095040#32
  let main_v80 : IVec S36x32640 32 := broadcastInDim S36x32640 ![] bcast_S_S36x32640 main_c_23
  let main_v81 : IVec S36x32640 32 := andi main_v79 main_v80
  let main_c_24 : IVec S_ 32 := constantI S_ 32 2139095040#32
  let main_v82 : IVec S36x32640 32 := broadcastInDim S36x32640 ![] bcast_S_S36x32640 main_c_24
  let main_v83 : IVec S36x32640 1 := cmpi .ne main_v81 main_v82
  let main_v84 : IVec S36x32640 1 := ori main_v83 main_v10
  let main_c_25 : IVec S_ 1 := constantI S_ 1 1#1
  let main_v85 : IVec S_ 1 := (fun x v => Host.reduce IntOp.andi x v reducesTo_S36x32640_S_d0_1 h_S_) main_v84 main_c_25
  let main_v86 : IVec S_ 1 := andi main_v76 main_v85
  let main_v87 : IVec S32x32640 32 := (extractStridedSlice S32x32640 ![512, 0] · slices_S768x32640_S32x32640_512_0) main_v1
  let main_v88 : IVec S4x32640 32 := (extractStridedSlice S4x32640 ![712, 0] · slices_S768x32640_S4x32640_712_0) main_v1
  let main_v89 : IVec S36x32640 32 := (fun a b => concatenate S36x32640 0 [⟨S32x32640, a⟩, ⟨S4x32640, b⟩] concatenates_S32x32640_S4x32640_S36x32640_d0) main_v87 main_v88
  let main_c_26 : IVec S_ 32 := constantI S_ 32 2139095040#32
  let main_v90 : IVec S36x32640 32 := broadcastInDim S36x32640 ![] bcast_S_S36x32640 main_c_26
  fn_part5 (F := F) main_v1 main_v10 main_v86 main_v89 main_v90

def fn_part3 {F : FTy → Type} [FloatOps F] (main_v1 : IVec S768x32640 32) (main_v10 : IVec S36x32640 1) (main_v52 : IVec S_ 1) (main_v53 : IVec S192x32640 32) (main_v54 : IVec S192x32640 32) : IVec S_ 1 :=
  let main_v55 : IVec S192x32640 32 := andi main_v53 main_v54
  let main_c_15 : IVec S_ 32 := constantI S_ 32 8126464#32
  let main_v56 : IVec S192x32640 32 := broadcastInDim S192x32640 ![] bcast_S_S192x32640 main_c_15
  let main_v57 : IVec S192x32640 1 := cmpi .ne main_v55 main_v56
  let main_c_16 : IVec S_ 1 := constantI S_ 1 1#1
  let main_v58 : IVec S_ 1 := (fun x v => Host.reduce IntOp.andi x v reducesTo_S192x32640_S_d0_1 h_S_) main_v57 main_c_16
  let main_v59 : IVec S_ 1 := andi main_v52 main_v58
  let main_v60 : IVec S192x32640 32 := (extractStridedSlice S192x32640 ![256, 0] · slices_S768x32640_S192x32640_256_0) main_v1
  let main_c_17 : IVec S_ 32 := constantI S_ 32 2080374784#32
  let main_v61 : IVec S192x32640 32 := broadcastInDim S192x32640 ![] bcast_S_S192x32640 main_c_17
  let main_v62 : IVec S192x32640 32 := andi main_v60 main_v61
  let main_c_18 : IVec S_ 32 := constantI S_ 32 2080374784#32
  let main_v63 : IVec S192x32640 32 := broadcastInDim S192x32640 ![] bcast_S_S192x32640 main_c_18
  let main_v64 : IVec S192x32640 1 := cmpi .ne main_v62 main_v63
  let main_c_19 : IVec S_ 1 := constantI S_ 1 1#1
  let main_v65 : IVec S_ 1 := (fun x v => Host.reduce IntOp.andi x v reducesTo_S192x32640_S_d0_1 h_S_) main_v64 main_c_19
  let main_v66 : IVec S_ 1 := andi main_v59 main_v65
  let main_v67 : IVec S32x32640 32 := (extractStridedSlice S32x32640 ![448, 0] · slices_S768x32640_S32x32640_448_0) main_v1
  let main_v68 : IVec S4x32640 32 := (extractStridedSlice S4x32640 ![704, 0] · slices_S768x32640_S4x32640_704_0) main_v1
  let main_v69 : IVec S36x32640 32 := (fun a b => concatenate S36x32640 0 [⟨S32x32640, a⟩, ⟨S4x32640, b⟩] concatenates_S32x32640_S4x32640_S36x32640_d0) main_v67 main_v68
  let main_c_20 : IVec S_ 32 := constantI S_ 32 2139095040#32
  let main_v70 : IVec S36x32640 32 := broadcastInDim S36x32640 ![] bcast_S_S36x32640 main_c_20
  let main_v71 : IVec S36x32640 32 := andi main_v69 main_v70
  let main_c_21 : IVec S_ 32 := constantI S_ 32 2139095040#32
  fn_part4 (F := F) main_v1 main_v10 main_v66 main_v71 main_c_21

def fn_part2 {F : FTy → Type} [FloatOps F] (main_v1 : IVec S768x32640 32) (main_v10 : IVec S36x32640 1) (main_v21 : IVec S_ 1) (main_v37 : IVec S_ 1) : IVec S_ 1 :=
  let main_v38 : IVec S_ 1 := andi main_v21 main_v37
  let main_v39 : IVec S192x32640 32 := (extractStridedSlice S192x32640 ![256, 0] · slices_S768x32640_S192x32640_256_0) main_v1
  let main_c_8 : IVec S_ 32 := constantI S_ 32 124#32
  let main_v40 : IVec S192x32640 32 := broadcastInDim S192x32640 ![] bcast_S_S192x32640 main_c_8
  let main_v41 : IVec S192x32640 32 := andi main_v39 main_v40
  let main_c_9 : IVec S_ 32 := constantI S_ 32 124#32
  let main_v42 : IVec S192x32640 32 := broadcastInDim S192x32640 ![] bcast_S_S192x32640 main_c_9
  let main_v43 : IVec S192x32640 1 := cmpi .ne main_v41 main_v42
  let main_c_10 : IVec S_ 1 := constantI S_ 1 1#1
  let main_v44 : IVec S_ 1 := (fun x v => Host.reduce IntOp.andi x v reducesTo_S192x32640_S_d0_1 h_S_) main_v43 main_c_10
  let main_v45 : IVec S_ 1 := andi main_v38 main_v44
  let main_v46 : IVec S192x32640 32 := (extractStridedSlice S192x32640 ![256, 0] · slices_S768x32640_S192x32640_256_0) main_v1
  let main_c_11 : IVec S_ 32 := constantI S_ 32 31744#32
  let main_v47 : IVec S192x32640 32 := broadcastInDim S192x32640 ![] bcast_S_S192x32640 main_c_11
  let main_v48 : IVec S192x32640 32 := andi main_v46 main_v47
  let main_c_12 : IVec S_ 32 := constantI S_ 32 31744#32
  let main_v49 : IVec S192x32640 32 := broadcastInDim S192x32640 ![] bcast_S_S192x32640 main_c_12
  let main_v50 : IVec S192x32640 1 := cmpi .ne main_v48 main_v49
  let main_c_13 : IVec S_ 1 := constantI S_ 1 1#1
  let main_v51 : IVec S_ 1 := (fun x v => Host.reduce IntOp.andi x v reducesTo_S192x32640_S_d0_1 h_S_) main_v50 main_c_13
  let main_v52 : IVec S_ 1 := andi main_v45 main_v51
  let main_v53 : IVec S192x32640 32 := (extractStridedSlice S192x32640 ![256, 0] · slices_S768x32640_S192x32640_256_0) main_v1
  let main_c_14 : IVec S_ 32 := constantI S_ 32 8126464#32
  let main_v54 : IVec S192x32640 32 := broadcastInDim S192x32640 ![] bcast_S_S192x32640 main_c_14
  fn_part3 (F := F) main_v1 main_v10 main_v52 main_v53 main_v54

def fn_part1 {F : FTy → Type} [FloatOps F] (main_arg2 : FVec F S1 .f32) (main_arg3 : FVec F S3 .f32) (main_v1 : IVec S768x32640 32) (main_v10 : IVec S36x32640 1) (main_v13 : IVec S_ 1) (main_v20 : IVec S_ 1) : IVec S_ 1 :=
  let main_v21 : IVec S_ 1 := andi main_v13 main_v20
  let main_v22 : FVec F S1 .f32 := Host.absf main_arg2
  let main_cst : FVec F S_ .f32 := constant S_ .f32 0x7F800000#32
  let main_v23 : FVec F S1 .f32 := broadcastInDim S1 ![] bcast_S_S1 main_cst
  let main_v24 : IVec S1 1 := cmpf .olt main_v22 main_v23
  let main_c_2 : IVec S_ 1 := constantI S_ 1 1#1
  let main_v25 : IVec S_ 1 := (fun x v => Host.reduce IntOp.andi x v reducesTo_S1_S_d0 h_S_) main_v24 main_c_2
  let main_v26 : FVec F S3 .f32 := Host.absf main_arg3
  let main_cst_3 : FVec F S_ .f32 := constant S_ .f32 0x7F800000#32
  let main_v27 : FVec F S3 .f32 := broadcastInDim S3 ![] bcast_S_S3 main_cst_3
  let main_v28 : IVec S3 1 := cmpf .olt main_v26 main_v27
  let main_c_4 : IVec S_ 1 := constantI S_ 1 1#1
  let main_v29 : IVec S_ 1 := (fun x v => Host.reduce IntOp.andi x v reducesTo_S3_S_d0 h_S_) main_v28 main_c_4
  let main_v30 : IVec S_ 1 := andi main_v25 main_v29
  let main_v31 : IVec S256x32640 32 := (extractStridedSlice S256x32640 ![0, 0] · slices_S768x32640_S256x32640_0_0) main_v1
  let main_c_5 : IVec S_ 32 := constantI S_ 32 2139095040#32
  let main_v32 : IVec S256x32640 32 := broadcastInDim S256x32640 ![] bcast_S_S256x32640 main_c_5
  let main_v33 : IVec S256x32640 32 := andi main_v31 main_v32
  let main_c_6 : IVec S_ 32 := constantI S_ 32 2139095040#32
  let main_v34 : IVec S256x32640 32 := broadcastInDim S256x32640 ![] bcast_S_S256x32640 main_c_6
  let main_v35 : IVec S256x32640 1 := cmpi .ne main_v33 main_v34
  let main_c_7 : IVec S_ 1 := constantI S_ 1 1#1
  let main_v36 : IVec S_ 1 := (fun x v => Host.reduce IntOp.andi x v reducesTo_S256x32640_S_d0_1 h_S_) main_v35 main_c_7
  let main_v37 : IVec S_ 1 := andi main_v30 main_v36
  fn_part2 (F := F) main_v1 main_v10 main_v21 main_v37

def fn {F : FTy → Type} [FloatOps F] (main_arg0 : IVec S6x32640x128 32) (main_arg1 : IVec S255 32) (main_arg2 : FVec F S1 .f32) (main_arg3 : FVec F S3 .f32) : IVec S_ 1 :=
  let main_v0 : IVec S6x128x32640 32 := (transpose S6x128x32640 [0, 2, 1] · transposes_S6x32640x128_S6x128x32640_0_2_1) main_arg0
  let main_v1 : IVec S768x32640 32 := shapeCast S768x32640 main_v0 shapeCasts_S6x128x32640_S768x32640
  let main_v2 : IVec S36 32 := iotaInDim S36 32 0
  let main_v3 : IVec S36x1 32 := broadcastInDim S36x1 ![0] bcast_S36_S36x1_0 main_v2
  let main_v4 : IVec S1x32640 32 := (extractStridedSlice S1x32640 ![736, 0] · slices_S768x32640_S1x32640_736_0) main_v1
  let main_v5 : IVec S32640 32 := shapeCast S32640 main_v4 shapeCasts_S1x32640_S32640
  let main_v6 : IVec S1x32640 32 := broadcastInDim S1x32640 ![1] bcast_S32640_S1x32640_1 main_v5
  let main_v7 : IVec S36x32640 32 := broadcastInDim S36x32640 ![0, 1] bcast_S36x1_S36x32640_0_1 main_v3
  let main_v8 : IVec S36x32640 32 := broadcastInDim S36x32640 ![0, 1] bcast_S1x32640_S36x32640_0_1 main_v6
  let main_v9 : IVec S36x32640 1 := cmpi .slt main_v7 main_v8
  let main_v10 : IVec S36x32640 1 := noti main_v9
  let main_c : IVec S_ 32 := constantI S_ 32 36#32
  let main_v11 : IVec S255 32 := broadcastInDim S255 ![] bcast_S_S255 main_c
  let main_v12 : IVec S255 1 := cmpi .sle main_arg1 main_v11
  let main_c_0 : IVec S_ 1 := constantI S_ 1 1#1
  let main_v13 : IVec S_ 1 := (fun x v => Host.reduce IntOp.andi x v reducesTo_S255_S_d0 h_S_) main_v12 main_c_0
  let main_v14 : IVec S1x32640 32 := (extractStridedSlice S1x32640 ![736, 0] · slices_S768x32640_S1x32640_736_0) main_v1
  let main_v15 : IVec S32640 32 := shapeCast S32640 main_v14 shapeCasts_S1x32640_S32640
  let main_v16 : IVec S255x128 32 := shapeCast S255x128 main_v15 shapeCasts_S32640_S255x128
  let main_v17 : IVec S255x1 32 := broadcastInDim S255x1 ![0] bcast_S255_S255x1_0 main_arg1
  let main_v18 : IVec S255x128 32 := broadcastInDim S255x128 ![0, 1] bcast_S255x1_S255x128_0_1 main_v17
  let main_v19 : IVec S255x128 1 := cmpi .sle main_v16 main_v18
  let main_c_1 : IVec S_ 1 := constantI S_ 1 1#1
  let main_v20 : IVec S_ 1 := (fun x v => Host.reduce IntOp.andi x v reducesTo_S255x128_S_d0_1 h_S_) main_v19 main_c_1
  fn_part1 (F := F) main_arg2 main_arg3 main_v1 main_v10 main_v13 main_v20
-- ==== Kernel.lean ====
abbrev S6x32640x128 : Shape := ⟨3, ![6, 32640, 128]⟩
abbrev S255 : Shape := ⟨1, ![255]⟩
abbrev S1 : Shape := ⟨1, ![1]⟩
abbrev S3 : Shape := ⟨1, ![3]⟩
abbrev S3x32640x128 : Shape := ⟨3, ![3, 32640, 128]⟩
abbrev S6x128x128 : Shape := ⟨3, ![6, 128, 128]⟩
abbrev S3x128x128 : Shape := ⟨3, ![3, 128, 128]⟩
abbrev S768x128 : Shape := ⟨2, ![768, 128]⟩
abbrev S256x128 : Shape := ⟨2, ![256, 128]⟩
abbrev S3x256x128 : Shape := ⟨3, ![3, 256, 128]⟩
abbrev S8x40x128 : Shape := ⟨3, ![8, 40, 128]⟩
abbrev S9x40x128 : Shape := ⟨3, ![9, 40, 128]⟩
abbrev S9x320x128 : Shape := ⟨3, ![9, 320, 128]⟩
abbrev S160x128 : Shape := ⟨2, ![160, 128]⟩
abbrev S1x128x128 : Shape := ⟨3, ![1, 128, 128]⟩
abbrev S128x128 : Shape := ⟨2, ![128, 128]⟩
abbrev S64x128 : Shape := ⟨2, ![64, 128]⟩
abbrev S1x256x128 : Shape := ⟨3, ![1, 256, 128]⟩
abbrev S32x128 : Shape := ⟨2, ![32, 128]⟩
abbrev S1x32x128 : Shape := ⟨3, ![1, 32, 128]⟩
abbrev S4x128 : Shape := ⟨2, ![4, 128]⟩
abbrev S8x128 : Shape := ⟨2, ![8, 128]⟩
abbrev S1x8x128 : Shape := ⟨3, ![1, 8, 128]⟩
abbrev S1x128 : Shape := ⟨2, ![1, 128]⟩
abbrev S40x128 : Shape := ⟨2, ![40, 128]⟩
abbrev S1x40x128 : Shape := ⟨3, ![1, 40, 128]⟩
abbrev S1x1x128 : Shape := ⟨3, ![1, 1, 128]⟩
abbrev S60x128 : Shape := ⟨2, ![60, 128]⟩
abbrev S384x128 : Shape := ⟨2, ![384, 128]⟩

abbrev nBuf : Space → Nat
  | .hbm => 4
  | .vmem => 12
  | .smem => 3
  | _ => 0

abbrev bufTy : (tb : Table) → Fin (tcTables nBuf tb) → BufTy
  | .hbm, ⟨0, _⟩ => ⟨S6x32640x128, .i32⟩
  | .hbm, ⟨1, _⟩ => ⟨S1, .f32⟩
  | .hbm, ⟨2, _⟩ => ⟨S3, .f32⟩
  | .hbm, ⟨3, _⟩ => ⟨S3x32640x128, .f32⟩
  | .local _ .vmem, ⟨0, _⟩ => ⟨S6x128x128, .i32⟩
  | .local _ .vmem, ⟨1, _⟩ => ⟨S6x128x128, .i32⟩
  | .local _ .vmem, ⟨2, _⟩ => ⟨S3x128x128, .f32⟩
  | .local _ .vmem, ⟨3, _⟩ => ⟨S3x128x128, .f32⟩
  | .local _ .vmem, ⟨4, _⟩ => ⟨S768x128, .i32⟩
  | .local _ .vmem, ⟨5, _⟩ => ⟨S256x128, .f32⟩
  | .local _ .vmem, ⟨6, _⟩ => ⟨S256x128, .f32⟩
  | .local _ .vmem, ⟨7, _⟩ => ⟨S3x256x128, .f32⟩
  | .local _ .vmem, ⟨8, _⟩ => ⟨S8x40x128, .i32⟩
  | .local _ .vmem, ⟨9, _⟩ => ⟨S9x40x128, .f32⟩
  | .local _ .vmem, ⟨10, _⟩ => ⟨S9x320x128, .f32⟩
  | .local _ .vmem, ⟨11, _⟩ => ⟨S160x128, .f32⟩
  | .local _ .smem, ⟨0, _⟩ => ⟨S255, .i32⟩
  | .local _ .smem, ⟨1, _⟩ => ⟨S1, .f32⟩
  | .local _ .smem, ⟨2, _⟩ => ⟨S3, .f32⟩
  | _, _ => ⟨S6x32640x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![255], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_182 : BitVec 32 := 1#32
  ⟨c0_i32_180, v247, c1_i32_182⟩

def k0_off2 (v1 : BitVec 32) (k0_t1 : Fin (k0_t1_loop v1).trips) : Fin 3 → Nat :=
  let c0_2030 : Index := 0#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3439 : Index := Scalar.indexCast v3438
  let c0_2031 : Index := 0#32
  ![0, v3439.toNat, 0]
def k0_off3 (v1 : BitVec 32) (k0_t1 : Fin (k0_t1_loop v1).trips) : Fin 3 → Nat :=
  let c1_2032 : Index := 1#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3444 : Index := Scalar.indexCast v3438
  let c0_2033 : Index := 0#32
  ![1, v3444.toNat, 0]
def k0_off4 (v1 : BitVec 32) (k0_t1 : Fin (k0_t1_loop v1).trips) : Fin 3 → Nat :=
  let c2_2034 : Index := 2#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3449 : Index := Scalar.indexCast v3438
  let c0_2035 : Index := 0#32
  ![2, v3449.toNat, 0]
def k0_off5 (v1 : BitVec 32) (k0_t1 : Fin (k0_t1_loop v1).trips) : Fin 3 → Nat :=
  let c3_2036 : Index := 3#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3454 : Index := Scalar.indexCast v3438
  let c0_2037 : Index := 0#32
  ![3, v3454.toNat, 0]
def k0_off6 (v1 : BitVec 32) (k0_t1 : Fin (k0_t1_loop v1).trips) : Fin 3 → Nat :=
  let c4_2038 : Index := 4#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3459 : Index := Scalar.indexCast v3438
  let c0_2039 : Index := 0#32
  ![4, v3459.toNat, 0]
def k0_off7 (v1 : BitVec 32) (k0_t1 : Fin (k0_t1_loop v1).trips) : Fin 3 → Nat :=
  let c5_2040 : Index := 5#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3464 : Index := Scalar.indexCast v3438
  let c0_2041 : Index := 0#32
  ![5, v3464.toNat, 0]
def k0_off8 (v1 : BitVec 32) (k0_t1 : Fin (k0_t1_loop v1).trips) : Fin 3 → Nat :=
  let c6_2042 : Index := 6#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3469 : Index := Scalar.indexCast v3438
  let c0_2043 : Index := 0#32
  ![6, v3469.toNat, 0]
def k0_off9 (v1 : BitVec 32) (k0_t1 : Fin (k0_t1_loop v1).trips) : Fin 3 → Nat :=
  let c7_2044 : Index := 7#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3474 : Index := Scalar.indexCast v3438
  let c0_2045 : Index := 0#32
  ![7, v3474.toNat, 0]
def k0_off10 (v1 : BitVec 32) (k0_t1 : Fin (k0_t1_loop v1).trips) : Fin 3 → Nat :=
  let c8_2046 : Index := 8#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let v3479 : Index := Scalar.indexCast v3438
  let c0_2047 : Index := 0#32
  ![8, v3479.toNat, 0]
def k0_mult1 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2708 : BitVec 32 := 8#32
  let v4949 : BitVec 32 := Scalar.muli v3438 c8_i32_2708
  v4949
def k0_off11 (v1 : BitVec 32) (k0_t1 : Fin (k0_t1_loop v1).trips) : Fin 3 → Nat :=
  let c0_2709 : Index := 0#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2708 : BitVec 32 := 8#32
  let v4949 : BitVec 32 := Scalar.muli v3438 c8_i32_2708
  let v4950 : BitVec 32 := v4949
  let v4951 : Index := Scalar.indexCast v4950
  let c0_2710 : Index := 0#32
  ![0, v4951.toNat, 0]
def k0_mult2 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2711 : BitVec 32 := 8#32
  let v4955 : BitVec 32 := Scalar.muli v3438 c8_i32_2711
  v4955
def k0_off12 (v1 : BitVec 32) (k0_t1 : Fin (k0_t1_loop v1).trips) : Fin 3 → Nat :=
  let c1_2712 : Index := 1#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2711 : BitVec 32 := 8#32
  let v4955 : BitVec 32 := Scalar.muli v3438 c8_i32_2711
  let v4956 : BitVec 32 := v4955
  let v4957 : Index := Scalar.indexCast v4956
  let c0_2713 : Index := 0#32
  ![1, v4957.toNat, 0]
def k0_mult3 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2714 : BitVec 32 := 8#32
  let v4961 : BitVec 32 := Scalar.muli v3438 c8_i32_2714
  v4961
def k0_off13 (v1 : BitVec 32) (k0_t1 : Fin (k0_t1_loop v1).trips) : Fin 3 → Nat :=
  let c2_2715 : Index := 2#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2714 : BitVec 32 := 8#32
  let v4961 : BitVec 32 := Scalar.muli v3438 c8_i32_2714
  let v4962 : BitVec 32 := v4961
  let v4963 : Index := Scalar.indexCast v4962
  let c0_2716 : Index := 0#32
  ![2, v4963.toNat, 0]
def k0_mult4 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2717 : BitVec 32 := 8#32
  let v4967 : BitVec 32 := Scalar.muli v3438 c8_i32_2717
  v4967
def k0_off14 (v1 : BitVec 32) (k0_t1 : Fin (k0_t1_loop v1).trips) : Fin 3 → Nat :=
  let c3_2718 : Index := 3#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2717 : BitVec 32 := 8#32
  let v4967 : BitVec 32 := Scalar.muli v3438 c8_i32_2717
  let v4968 : BitVec 32 := v4967
  let v4969 : Index := Scalar.indexCast v4968
  let c0_2719 : Index := 0#32
  ![3, v4969.toNat, 0]
def k0_mult5 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2720 : BitVec 32 := 8#32
  let v4973 : BitVec 32 := Scalar.muli v3438 c8_i32_2720
  v4973
def k0_off15 (v1 : BitVec 32) (k0_t1 : Fin (k0_t1_loop v1).trips) : Fin 3 → Nat :=
  let c4_2721 : Index := 4#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2720 : BitVec 32 := 8#32
  let v4973 : BitVec 32 := Scalar.muli v3438 c8_i32_2720
  let v4974 : BitVec 32 := v4973
  let v4975 : Index := Scalar.indexCast v4974
  let c0_2722 : Index := 0#32
  ![4, v4975.toNat, 0]
def k0_mult6 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2723 : BitVec 32 := 8#32
  let v4979 : BitVec 32 := Scalar.muli v3438 c8_i32_2723
  v4979
def k0_off16 (v1 : BitVec 32) (k0_t1 : Fin (k0_t1_loop v1).trips) : Fin 3 → Nat :=
  let c5_2724 : Index := 5#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2723 : BitVec 32 := 8#32
  let v4979 : BitVec 32 := Scalar.muli v3438 c8_i32_2723
  let v4980 : BitVec 32 := v4979
  let v4981 : Index := Scalar.indexCast v4980
  let c0_2725 : Index := 0#32
  ![5, v4981.toNat, 0]
def k0_mult7 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2726 : BitVec 32 := 8#32
  let v4985 : BitVec 32 := Scalar.muli v3438 c8_i32_2726
  v4985
def k0_off17 (v1 : BitVec 32) (k0_t1 : Fin (k0_t1_loop v1).trips) : Fin 3 → Nat :=
  let c6_2727 : Index := 6#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2726 : BitVec 32 := 8#32
  let v4985 : BitVec 32 := Scalar.muli v3438 c8_i32_2726
  let v4986 : BitVec 32 := v4985
  let v4987 : Index := Scalar.indexCast v4986
  let c0_2728 : Index := 0#32
  ![6, v4987.toNat, 0]
def k0_mult8 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2729 : BitVec 32 := 8#32
  let v4991 : BitVec 32 := Scalar.muli v3438 c8_i32_2729
  v4991
def k0_off18 (v1 : BitVec 32) (k0_t1 : Fin (k0_t1_loop v1).trips) : Fin 3 → Nat :=
  let c7_2730 : Index := 7#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2729 : BitVec 32 := 8#32
  let v4991 : BitVec 32 := Scalar.muli v3438 c8_i32_2729
  let v4992 : BitVec 32 := v4991
  let v4993 : Index := Scalar.indexCast v4992
  let c0_2731 : Index := 0#32
  ![7, v4993.toNat, 0]
def k0_mult9 (v1 : BitVec 32) (k0_t1 : Fin (k0_t1_loop v1).trips) : BitVec 32 :=
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2732 : BitVec 32 := 8#32
  let v4997 : BitVec 32 := Scalar.muli v3438 c8_i32_2732
  v4997
def k0_off19 (v1 : BitVec 32) (k0_t1 : Fin (k0_t1_loop v1).trips) : Fin 3 → Nat :=
  let c8_2733 : Index := 8#32
  let c1_i32_2029 : BitVec 32 := 1#32
  let v3437 : BitVec 32 := Scalar.subi v1 c1_i32_2029
  let c0_i32_180 : BitVec 32 := 0#32
  let c1_i32_182 : BitVec 32 := 1#32
  let arg14 : BitVec 32 := Scf.iv c0_i32_180 c1_i32_182 k0_t1
  let v3438 : BitVec 32 := Scalar.subi v3437 arg14
  let c8_i32_2732 : BitVec 32 := 8#32
  let v4997 : BitVec 32 := Scalar.muli v3438 c8_i32_2732
  let v4998 : BitVec 32 := v4997
  let v4999 : Index := Scalar.indexCast v4998
  let c0_2734 : Index := 0#32
  ![8, v4999.toNat, 0]
@[reducible] def k0_t2_loop (v1 : BitVec 32) : Scf.Loop 32 :=
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let v244 : BitVec 32 := Scalar.addi c0_i32_180 v243
  let c1_i32_183 : BitVec 32 := 1#32
  ⟨v247, v244, c1_i32_183⟩
def k0_off20 (v1 : BitVec 32) (k0_t2 : Fin (k0_t2_loop v1).trips) : Fin 3 → Nat :=
  let c0_2030 : Index := 0#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3439 : Index := Scalar.indexCast v3438
  let c0_2031 : Index := 0#32
  ![0, v3439.toNat, 0]
def k0_off21 (v1 : BitVec 32) (k0_t2 : Fin (k0_t2_loop v1).trips) : Fin 3 → Nat :=
  let c1_2032 : Index := 1#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3444 : Index := Scalar.indexCast v3438
  let c0_2033 : Index := 0#32
  ![1, v3444.toNat, 0]
def k0_off22 (v1 : BitVec 32) (k0_t2 : Fin (k0_t2_loop v1).trips) : Fin 3 → Nat :=
  let c2_2034 : Index := 2#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3449 : Index := Scalar.indexCast v3438
  let c0_2035 : Index := 0#32
  ![2, v3449.toNat, 0]
def k0_off23 (v1 : BitVec 32) (k0_t2 : Fin (k0_t2_loop v1).trips) : Fin 3 → Nat :=
  let c3_2036 : Index := 3#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3454 : Index := Scalar.indexCast v3438
  let c0_2037 : Index := 0#32
  ![3, v3454.toNat, 0]
def k0_off24 (v1 : BitVec 32) (k0_t2 : Fin (k0_t2_loop v1).trips) : Fin 3 → Nat :=
  let c4_2038 : Index := 4#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3459 : Index := Scalar.indexCast v3438
  let c0_2039 : Index := 0#32
  ![4, v3459.toNat, 0]
def k0_off25 (v1 : BitVec 32) (k0_t2 : Fin (k0_t2_loop v1).trips) : Fin 3 → Nat :=
  let c5_2040 : Index := 5#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3464 : Index := Scalar.indexCast v3438
  let c0_2041 : Index := 0#32
  ![5, v3464.toNat, 0]
def k0_off26 (v1 : BitVec 32) (k0_t2 : Fin (k0_t2_loop v1).trips) : Fin 3 → Nat :=
  let c6_2042 : Index := 6#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3469 : Index := Scalar.indexCast v3438
  let c0_2043 : Index := 0#32
  ![6, v3469.toNat, 0]
def k0_off27 (v1 : BitVec 32) (k0_t2 : Fin (k0_t2_loop v1).trips) : Fin 3 → Nat :=
  let c7_2044 : Index := 7#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3474 : Index := Scalar.indexCast v3438
  let c0_2045 : Index := 0#32
  ![7, v3474.toNat, 0]
def k0_off28 (v1 : BitVec 32) (k0_t2 : Fin (k0_t2_loop v1).trips) : Fin 3 → Nat :=
  let c8_2046 : Index := 8#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let v3479 : Index := Scalar.indexCast v3438
  let c0_2047 : Index := 0#32
  ![8, v3479.toNat, 0]
def k0_mult10 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2708 : BitVec 32 := 8#32
  let v4949 : BitVec 32 := Scalar.muli v3438 c8_i32_2708
  v4949
def k0_off29 (v1 : BitVec 32) (k0_t2 : Fin (k0_t2_loop v1).trips) : Fin 3 → Nat :=
  let c0_2709 : Index := 0#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2708 : BitVec 32 := 8#32
  let v4949 : BitVec 32 := Scalar.muli v3438 c8_i32_2708
  let v4950 : BitVec 32 := v4949
  let v4951 : Index := Scalar.indexCast v4950
  let c0_2710 : Index := 0#32
  ![0, v4951.toNat, 0]
def k0_mult11 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2711 : BitVec 32 := 8#32
  let v4955 : BitVec 32 := Scalar.muli v3438 c8_i32_2711
  v4955
def k0_off30 (v1 : BitVec 32) (k0_t2 : Fin (k0_t2_loop v1).trips) : Fin 3 → Nat :=
  let c1_2712 : Index := 1#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2711 : BitVec 32 := 8#32
  let v4955 : BitVec 32 := Scalar.muli v3438 c8_i32_2711
  let v4956 : BitVec 32 := v4955
  let v4957 : Index := Scalar.indexCast v4956
  let c0_2713 : Index := 0#32
  ![1, v4957.toNat, 0]
def k0_mult12 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2714 : BitVec 32 := 8#32
  let v4961 : BitVec 32 := Scalar.muli v3438 c8_i32_2714
  v4961
def k0_off31 (v1 : BitVec 32) (k0_t2 : Fin (k0_t2_loop v1).trips) : Fin 3 → Nat :=
  let c2_2715 : Index := 2#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2714 : BitVec 32 := 8#32
  let v4961 : BitVec 32 := Scalar.muli v3438 c8_i32_2714
  let v4962 : BitVec 32 := v4961
  let v4963 : Index := Scalar.indexCast v4962
  let c0_2716 : Index := 0#32
  ![2, v4963.toNat, 0]
def k0_mult13 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2717 : BitVec 32 := 8#32
  let v4967 : BitVec 32 := Scalar.muli v3438 c8_i32_2717
  v4967
def k0_off32 (v1 : BitVec 32) (k0_t2 : Fin (k0_t2_loop v1).trips) : Fin 3 → Nat :=
  let c3_2718 : Index := 3#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2717 : BitVec 32 := 8#32
  let v4967 : BitVec 32 := Scalar.muli v3438 c8_i32_2717
  let v4968 : BitVec 32 := v4967
  let v4969 : Index := Scalar.indexCast v4968
  let c0_2719 : Index := 0#32
  ![3, v4969.toNat, 0]
def k0_mult14 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2720 : BitVec 32 := 8#32
  let v4973 : BitVec 32 := Scalar.muli v3438 c8_i32_2720
  v4973
def k0_off33 (v1 : BitVec 32) (k0_t2 : Fin (k0_t2_loop v1).trips) : Fin 3 → Nat :=
  let c4_2721 : Index := 4#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2720 : BitVec 32 := 8#32
  let v4973 : BitVec 32 := Scalar.muli v3438 c8_i32_2720
  let v4974 : BitVec 32 := v4973
  let v4975 : Index := Scalar.indexCast v4974
  let c0_2722 : Index := 0#32
  ![4, v4975.toNat, 0]
def k0_mult15 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2723 : BitVec 32 := 8#32
  let v4979 : BitVec 32 := Scalar.muli v3438 c8_i32_2723
  v4979
def k0_off34 (v1 : BitVec 32) (k0_t2 : Fin (k0_t2_loop v1).trips) : Fin 3 → Nat :=
  let c5_2724 : Index := 5#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2723 : BitVec 32 := 8#32
  let v4979 : BitVec 32 := Scalar.muli v3438 c8_i32_2723
  let v4980 : BitVec 32 := v4979
  let v4981 : Index := Scalar.indexCast v4980
  let c0_2725 : Index := 0#32
  ![5, v4981.toNat, 0]
def k0_mult16 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2726 : BitVec 32 := 8#32
  let v4985 : BitVec 32 := Scalar.muli v3438 c8_i32_2726
  v4985
def k0_off35 (v1 : BitVec 32) (k0_t2 : Fin (k0_t2_loop v1).trips) : Fin 3 → Nat :=
  let c6_2727 : Index := 6#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2726 : BitVec 32 := 8#32
  let v4985 : BitVec 32 := Scalar.muli v3438 c8_i32_2726
  let v4986 : BitVec 32 := v4985
  let v4987 : Index := Scalar.indexCast v4986
  let c0_2728 : Index := 0#32
  ![6, v4987.toNat, 0]
def k0_mult17 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2729 : BitVec 32 := 8#32
  let v4991 : BitVec 32 := Scalar.muli v3438 c8_i32_2729
  v4991
def k0_off36 (v1 : BitVec 32) (k0_t2 : Fin (k0_t2_loop v1).trips) : Fin 3 → Nat :=
  let c7_2730 : Index := 7#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2729 : BitVec 32 := 8#32
  let v4991 : BitVec 32 := Scalar.muli v3438 c8_i32_2729
  let v4992 : BitVec 32 := v4991
  let v4993 : Index := Scalar.indexCast v4992
  let c0_2731 : Index := 0#32
  ![7, v4993.toNat, 0]
def k0_mult18 (v1 : BitVec 32) (k0_t2 : Fin (k0_t2_loop v1).trips) : BitVec 32 :=
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2732 : BitVec 32 := 8#32
  let v4997 : BitVec 32 := Scalar.muli v3438 c8_i32_2732
  v4997
def k0_off37 (v1 : BitVec 32) (k0_t2 : Fin (k0_t2_loop v1).trips) : Fin 3 → Nat :=
  let c8_2733 : Index := 8#32
  let c1_i32_2029 : BitVec 32 := 1#32
  let v3437 : BitVec 32 := Scalar.subi v1 c1_i32_2029
  let c0_i32_180 : BitVec 32 := 0#32
  let v243 : BitVec 32 := Scalar.subi v1 c0_i32_180
  let c1_i32 : BitVec 32 := 1#32
  let v245 : BitVec 32 := Scalar.divsi v243 c1_i32
  let v246 : BitVec 32 := Scalar.muli v245 c1_i32
  let v247 : BitVec 32 := Scalar.addi c0_i32_180 v246
  let c1_i32_183 : BitVec 32 := 1#32
  let arg14 : BitVec 32 := Scf.iv v247 c1_i32_183 k0_t2
  let v3438 : BitVec 32 := Scalar.subi v3437 arg14
  let c8_i32_2732 : BitVec 32 := 8#32
  let v4997 : BitVec 32 := Scalar.muli v3438 c8_i32_2732
  let v4998 : BitVec 32 := v4997
  let v4999 : Index := Scalar.indexCast v4998
  let c0_2734 : Index := 0#32
  ![8, v4999.toNat, 0]

def k0_chk1_0 (v1 : BitVec 32) : Prop :=
  ((k0_t1_loop v1).OK) ∧
  (∀ k0_t1 : Fin (k0_t1_loop v1).trips, ∀ a, (k0_off2 v1 k0_t1) a + S1x1x128.size a ≤ S9x40x128.size a) ∧
  (∀ k0_t1 : Fin (k0_t1_loop v1).trips, ∀ a, (k0_off3 v1 k0_t1) a + S1x1x128.size a ≤ S9x40x128.size a) ∧
  (∀ k0_t1 : Fin (k0_t1_loop v1).trips, ∀ a, (k0_off4 v1 k0_t1) a + S1x1x128.size a ≤ S9x40x128.size a) ∧
  (∀ k0_t1 : Fin (k0_t1_loop v1).trips, ∀ a, (k0_off5 v1 k0_t1) a + S1x1x128.size a ≤ S9x40x128.size a) ∧
  (∀ k0_t1 : Fin (k0_t1_loop v1).trips, ∀ a, (k0_off6 v1 k0_t1) a + S1x1x128.size a ≤ S9x40x128.size a) ∧
  (∀ k0_t1 : Fin (k0_t1_loop v1).trips, ∀ a, (k0_off7 v1 k0_t1) a + S1x1x128.size a ≤ S9x40x128.size a) ∧
  (∀ k0_t1 : Fin (k0_t1_loop v1).trips, ∀ a, (k0_off8 v1 k0_t1) a + S1x1x128.size a ≤ S9x40x128.size a) ∧
  (∀ k0_t1 : Fin (k0_t1_loop v1).trips, ∀ a, (k0_off9 v1 k0_t1) a + S1x1x128.size a ≤ S9x40x128.size a) ∧
  (∀ k0_t1 : Fin (k0_t1_loop v1).trips, ∀ a, (k0_off10 v1 k0_t1) a + S1x1x128.size a ≤ S9x40x128.size a) ∧
  (∀ k0_t1 : Fin (k0_t1_loop v1).trips, 8 ∣ (k0_mult1 v1 k0_t1).toNat) ∧
  (∀ k0_t1 : Fin (k0_t1_loop v1).trips, ∀ a, (k0_off11 v1 k0_t1) a + S1x8x128.size a ≤ S9x320x128.size a) ∧
  (∀ k0_t1 : Fin (k0_t1_loop v1).trips, 8 ∣ (k0_mult2 v1 k0_t1).toNat) ∧
  (∀ k0_t1 : Fin (k0_t1_loop v1).trips, ∀ a, (k0_off12 v1 k0_t1) a + S1x8x128.size a ≤ S9x320x128.size a) ∧
  (∀ k0_t1 : Fin (k0_t1_loop v1).trips, 8 ∣ (k0_mult3 v1 k0_t1).toNat) ∧
  (∀ k0_t1 : Fin (k0_t1_loop v1).trips, ∀ a, (k0_off13 v1 k0_t1) a + S1x8x128.size a ≤ S9x320x128.size a) ∧
  (∀ k0_t1 : Fin (k0_t1_loop v1).trips, 8 ∣ (k0_mult4 v1 k0_t1).toNat) ∧
  (∀ k0_t1 : Fin (k0_t1_loop v1).trips, ∀ a, (k0_off14 v1 k0_t1) a + S1x8x128.size a ≤ S9x320x128.size a) ∧
  (∀ k0_t1 : Fin (k0_t1_loop v1).trips, 8 ∣ (k0_mult5 v1 k0_t1).toNat) ∧
  (∀ k0_t1 : Fin (k0_t1_loop v1).trips, ∀ a, (k0_off15 v1 k0_t1) a + S1x8x128.size a ≤ S9x320x128.size a) ∧
  (∀ k0_t1 : Fin (k0_t1_loop v1).trips, 8 ∣ (k0_mult6 v1 k0_t1).toNat) ∧
  (∀ k0_t1 : Fin (k0_t1_loop v1).trips, ∀ a, (k0_off16 v1 k0_t1) a + S1x8x128.size a ≤ S9x320x128.size a) ∧
  (∀ k0_t1 : Fin (k0_t1_loop v1).trips, 8 ∣ (k0_mult7 v1 k0_t1).toNat) ∧
  (∀ k0_t1 : Fin (k0_t1_loop v1).trips, ∀ a, (k0_off17 v1 k0_t1) a + S1x8x128.size a ≤ S9x320x128.size a) ∧
  (∀ k0_t1 : Fin (k0_t1_loop v1).trips, 8 ∣ (k0_mult8 v1 k0_t1).toNat) ∧
  (∀ k0_t1 : Fin (k0_t1_loop v1).trips, ∀ a, (k0_off18 v1 k0_t1) a + S1x8x128.size a ≤ S9x320x128.size a) ∧
  (∀ k0_t1 : Fin (k0_t1_loop v1).trips, 8 ∣ (k0_mult9 v1 k0_t1).toNat) ∧
  (∀ k0_t1 : Fin (k0_t1_loop v1).trips, ∀ a, (k0_off19 v1 k0_t1) a + S1x8x128.size a ≤ S9x320x128.size a) ∧
  ((k0_t2_loop v1).OK) ∧
  (∀ k0_t2 : Fin (k0_t2_loop v1).trips, ∀ a, (k0_off20 v1 k0_t2) a + S1x1x128.size a ≤ S9x40x128.size a) ∧
  (∀ k0_t2 : Fin (k0_t2_loop v1).trips, ∀ a, (k0_off21 v1 k0_t2) a + S1x1x128.size a ≤ S9x40x128.size a) ∧
  (∀ k0_t2 : Fin (k0_t2_loop v1).trips, ∀ a, (k0_off22 v1 k0_t2) a + S1x1x128.size a ≤ S9x40x128.size a)
def k0_chk1_1 (v1 : BitVec 32) : Prop :=
  (∀ k0_t2 : Fin (k0_t2_loop v1).trips, ∀ a, (k0_off23 v1 k0_t2) a + S1x1x128.size a ≤ S9x40x128.size a) ∧
  (∀ k0_t2 : Fin (k0_t2_loop v1).trips, ∀ a, (k0_off24 v1 k0_t2) a + S1x1x128.size a ≤ S9x40x128.size a) ∧
  (∀ k0_t2 : Fin (k0_t2_loop v1).trips, ∀ a, (k0_off25 v1 k0_t2) a + S1x1x128.size a ≤ S9x40x128.size a) ∧
  (∀ k0_t2 : Fin (k0_t2_loop v1).trips, ∀ a, (k0_off26 v1 k0_t2) a + S1x1x128.size a ≤ S9x40x128.size a) ∧
  (∀ k0_t2 : Fin (k0_t2_loop v1).trips, ∀ a, (k0_off27 v1 k0_t2) a + S1x1x128.size a ≤ S9x40x128.size a) ∧
  (∀ k0_t2 : Fin (k0_t2_loop v1).trips, ∀ a, (k0_off28 v1 k0_t2) a + S1x1x128.size a ≤ S9x40x128.size a) ∧
  (∀ k0_t2 : Fin (k0_t2_loop v1).trips, 8 ∣ (k0_mult10 v1 k0_t2).toNat) ∧
  (∀ k0_t2 : Fin (k0_t2_loop v1).trips, ∀ a, (k0_off29 v1 k0_t2) a + S1x8x128.size a ≤ S9x320x128.size a) ∧
  (∀ k0_t2 : Fin (k0_t2_loop v1).trips, 8 ∣ (k0_mult11 v1 k0_t2).toNat) ∧
  (∀ k0_t2 : Fin (k0_t2_loop v1).trips, ∀ a, (k0_off30 v1 k0_t2) a + S1x8x128.size a ≤ S9x320x128.size a) ∧
  (∀ k0_t2 : Fin (k0_t2_loop v1).trips, 8 ∣ (k0_mult12 v1 k0_t2).toNat) ∧
  (∀ k0_t2 : Fin (k0_t2_loop v1).trips, ∀ a, (k0_off31 v1 k0_t2) a + S1x8x128.size a ≤ S9x320x128.size a) ∧
  (∀ k0_t2 : Fin (k0_t2_loop v1).trips, 8 ∣ (k0_mult13 v1 k0_t2).toNat) ∧
  (∀ k0_t2 : Fin (k0_t2_loop v1).trips, ∀ a, (k0_off32 v1 k0_t2) a + S1x8x128.size a ≤ S9x320x128.size a) ∧
  (∀ k0_t2 : Fin (k0_t2_loop v1).trips, 8 ∣ (k0_mult14 v1 k0_t2).toNat) ∧
  (∀ k0_t2 : Fin (k0_t2_loop v1).trips, ∀ a, (k0_off33 v1 k0_t2) a + S1x8x128.size a ≤ S9x320x128.size a) ∧
  (∀ k0_t2 : Fin (k0_t2_loop v1).trips, 8 ∣ (k0_mult15 v1 k0_t2).toNat) ∧
  (∀ k0_t2 : Fin (k0_t2_loop v1).trips, ∀ a, (k0_off34 v1 k0_t2) a + S1x8x128.size a ≤ S9x320x128.size a) ∧
  (∀ k0_t2 : Fin (k0_t2_loop v1).trips, 8 ∣ (k0_mult16 v1 k0_t2).toNat) ∧
  (∀ k0_t2 : Fin (k0_t2_loop v1).trips, ∀ a, (k0_off35 v1 k0_t2) a + S1x8x128.size a ≤ S9x320x128.size a) ∧
  (∀ k0_t2 : Fin (k0_t2_loop v1).trips, 8 ∣ (k0_mult17 v1 k0_t2).toNat) ∧
  (∀ k0_t2 : Fin (k0_t2_loop v1).trips, ∀ a, (k0_off36 v1 k0_t2) a + S1x8x128.size a ≤ S9x320x128.size a) ∧
  (∀ k0_t2 : Fin (k0_t2_loop v1).trips, 8 ∣ (k0_mult18 v1 k0_t2).toNat) ∧
  (∀ k0_t2 : Fin (k0_t2_loop v1).trips, ∀ a, (k0_off37 v1 k0_t2) a + S1x8x128.size a ≤ S9x320x128.size a)
def k0_chk1 (v1 : BitVec 32) : Prop :=
  k0_chk1_0 v1 ∧
  k0_chk1_1 v1
theorem k0_t1_ok : ∀ (v1 : BitVec 32) (k0_hw1 : k0_chk1 v1), (k0_t1_loop v1).OK := fun v1 k0_hw1 => k0_hw1.1.1
theorem k0_off2_inb : ∀ (v1 : BitVec 32) (k0_hw1 : k0_chk1 v1) (k0_t1 : Fin (k0_t1_loop v1).trips), ∀ a, (k0_off2 v1 k0_t1) a + S1x1x128.size a ≤ S9x40x128.size a := fun v1 k0_hw1 k0_t1 => k0_hw1.1.2.1 k0_t1
theorem k0_off3_inb : ∀ (v1 : BitVec 32) (k0_hw1 : k0_chk1 v1) (k0_t1 : Fin (k0_t1_loop v1).trips), ∀ a, (k0_off3 v1 k0_t1) a + S1x1x128.size a ≤ S9x40x128.size a := fun v1 k0_hw1 k0_t1 => k0_hw1.1.2.2.1 k0_t1
theorem k0_off4_inb : ∀ (v1 : BitVec 32) (k0_hw1 : k0_chk1 v1) (k0_t1 : Fin (k0_t1_loop v1).trips), ∀ a, (k0_off4 v1 k0_t1) a + S1x1x128.size a ≤ S9x40x128.size a := fun v1 k0_hw1 k0_t1 => k0_hw1.1.2.2.2.1 k0_t1
theorem k0_off5_inb : ∀ (v1 : BitVec 32) (k0_hw1 : k0_chk1 v1) (k0_t1 : Fin (k0_t1_loop v1).trips), ∀ a, (k0_off5 v1 k0_t1) a + S1x1x128.size a ≤ S9x40x128.size a := fun v1 k0_hw1 k0_t1 => k0_hw1.1.2.2.2.2.1 k0_t1
theorem k0_off6_inb : ∀ (v1 : BitVec 32) (k0_hw1 : k0_chk1 v1) (k0_t1 : Fin (k0_t1_loop v1).trips), ∀ a, (k0_off6 v1 k0_t1) a + S1x1x128.size a ≤ S9x40x128.size a := fun v1 k0_hw1 k0_t1 => k0_hw1.1.2.2.2.2.2.1 k0_t1
theorem k0_off7_inb : ∀ (v1 : BitVec 32) (k0_hw1 : k0_chk1 v1) (k0_t1 : Fin (k0_t1_loop v1).trips), ∀ a, (k0_off7 v1 k0_t1) a + S1x1x128.size a ≤ S9x40x128.size a := fun v1 k0_hw1 k0_t1 => k0_hw1.1.2.2.2.2.2.2.1 k0_t1
theorem k0_off8_inb : ∀ (v1 : BitVec 32) (k0_hw1 : k0_chk1 v1) (k0_t1 : Fin (k0_t1_loop v1).trips), ∀ a, (k0_off8 v1 k0_t1) a + S1x1x128.size a ≤ S9x40x128.size a := fun v1 k0_hw1 k0_t1 => k0_hw1.1.2.2.2.2.2.2.2.1 k0_t1
theorem k0_off9_inb : ∀ (v1 : BitVec 32) (k0_hw1 : k0_chk1 v1) (k0_t1 : Fin (k0_t1_loop v1).trips), ∀ a, (k0_off9 v1 k0_t1) a + S1x1x128.size a ≤ S9x40x128.size a := fun v1 k0_hw1 k0_t1 => k0_hw1.1.2.2.2.2.2.2.2.2.1 k0_t1
theorem k0_off10_inb : ∀ (v1 : BitVec 32) (k0_hw1 : k0_chk1 v1) (k0_t1 : Fin (k0_t1_loop v1).trips), ∀ a, (k0_off10 v1 k0_t1) a + S1x1x128.size a ≤ S9x40x128.size a := fun v1 k0_hw1 k0_t1 => k0_hw1.1.2.2.2.2.2.2.2.2.2.1 k0_t1
theorem k0_mult1_dvd : ∀ (v1 : BitVec 32) (k0_hw1 : k0_chk1 v1) (k0_t1 : Fin (k0_t1_loop v1).trips), 8 ∣ (k0_mult1 v1 k0_t1).toNat := fun v1 k0_hw1 k0_t1 => k0_hw1.1.2.2.2.2.2.2.2.2.2.2.1 k0_t1
theorem k0_off11_inb : ∀ (v1 : BitVec 32) (k0_hw1 : k0_chk1 v1) (k0_t1 : Fin (k0_t1_loop v1).trips), ∀ a, (k0_off11 v1 k0_t1) a + S1x8x128.size a ≤ S9x320x128.size a := fun v1 k0_hw1 k0_t1 => k0_hw1.1.2.2.2.2.2.2.2.2.2.2.2.1 k0_t1
theorem k0_mult2_dvd : ∀ (v1 : BitVec 32) (k0_hw1 : k0_chk1 v1) (k0_t1 : Fin (k0_t1_loop v1).trips), 8 ∣ (k0_mult2 v1 k0_t1).toNat := fun v1 k0_hw1 k0_t1 => k0_hw1.1.2.2.2.2.2.2.2.2.2.2.2.2.1 k0_t1
theorem k0_off12_inb : ∀ (v1 : BitVec 32) (k0_hw1 : k0_chk1 v1) (k0_t1 : Fin (k0_t1_loop v1).trips), ∀ a, (k0_off12 v1 k0_t1) a + S1x8x128.size a ≤ S9x320x128.size a := fun v1 k0_hw1 k0_t1 => k0_hw1.1.2.2.2.2.2.2.2.2.2.2.2.2.2.1 k0_t1
theorem k0_mult3_dvd : ∀ (v1 : BitVec 32) (k0_hw1 : k0_chk1 v1) (k0_t1 : Fin (k0_t1_loop v1).trips), 8 ∣ (k0_mult3 v1 k0_t1).toNat := fun v1 k0_hw1 k0_t1 => k0_hw1.1.2.2.2.2.2.2.2.2.2.2.2.2.2.2.1 k0_t1
theorem k0_off13_inb : ∀ (v1 : BitVec 32) (k0_hw1 : k0_chk1 v1) (k0_t1 : Fin (k0_t1_loop v1).trips), ∀ a, (k0_off13 v1 k0_t1) a + S1x8x128.size a ≤ S9x320x128.size a := fun v1 k0_hw1 k0_t1 => k0_hw1.1.2.2.2.2.2.2.2.2.2.2.2.2.2.2.2.1 k0_t1
theorem k0_mult4_dvd : ∀ (v1 : BitVec 32) (k0_hw1 : k0_chk1 v1) (k0_t1 : Fin (k0_t1_loop v1).trips), 8 ∣ (k0_mult4 v1 k0_t1).toNat := fun v1 k0_hw1 k0_t1 => k0_hw1.1.2.2.2.2.2.2.2.2.2.2.2.2.2.2.2.2.1 k0_t1
theorem k0_off14_inb : ∀ (v1 : BitVec 32) (k0_hw1 : k0_chk1 v1) (k0_t1 : Fin (k0_t1_loop v1).trips), ∀ a, (k0_off14 v1 k0_t1) a + S1x8x128.size a ≤ S9x320x128.size a := fun v1 k0_hw1 k0_t1 => k0_hw1.1.2.2.2.2.2.2.2.2.2.2.2.2.2.2.2.2.2.1 k0_t1
theorem k0_mult5_dvd : ∀ (v1 : BitVec 32) (k0_hw1 : k0_chk1 v1) (k0_t1 : Fin (k0_t1_loop v1).trips), 8 ∣ (k0_mult5 v1 k0_t1).toNat := fun v1 k0_hw1 k0_t1 => k0_hw1.1.2.2.2.2.2.2.2.2.2.2.2.2.2.2.2.2.2.2.1 k0_t1
theorem k0_off15_inb : ∀ (v1 : BitVec 32) (k0_hw1 : k0_chk1 v1) (k0_t1 : Fin (k0_t1_loop v1).trips), ∀ a, (k0_off15 v1 k0_t1) a + S1x8x128.size a ≤ S9x320x128.size a := fun v1 k0_hw1 k0_t1 => k0_hw1.1.2.2.2.2.2.2.2.2.2.2.2.2.2.2.2.2.2.2.2.1 k0_t1
theorem k0_mult6_dvd : ∀ (v1 : BitVec 32) (k0_hw1 : k0_chk1 v1) (k0_t1 : Fin (k0_t1_loop v1).trips), 8 ∣ (k0_mult6 v1 k0_t1).toNat := fun v1 k0_hw1 k0_t1 => k0_hw1.1.2.2.2.2.2.2.2.2.2.2.2.2.2.2.2.2.2.2.2.2.1 k0_t1
theorem k0_off16_inb : ∀ (v1 : BitVec 32) (k0_hw1 : k0_chk1 v1) (k0_t1 : Fin (k0_t1_loop v1).trips), ∀ a, (k0_off16 v1 k0_t1) a + S1x8x128.size a ≤ S9x320x128.size a := fun v1 k0_hw1 k0_t1 => k0_hw1.1.2.2.2.2.2.2.2.2.2.2.2.2.2.2.2.2.2.2.2.2.2.1 k0_t1
theorem k0_mult7_dvd : ∀ (v1 : BitVec 32) (k0_hw1 : k0_chk1 v1) (k0_t1 : Fin (k0_t1_loop v1).trips), 8 ∣ (k0_mult7 v1 k0_t1).toNat := fun v1 k0_hw1 k0_t1 => k0_hw1.1.2.2.2.2.2.2.2.2.2.2.2.2.2.2.2.2.2.2.2.2.2.2.1 k0_t1
theorem k0_off17_inb : ∀ (v1 : BitVec 32) (k0_hw1 : k0_chk1 v1) (k0_t1 : Fin (k0_t1_loop v1).trips), ∀ a, (k0_off17 v1 k0_t1) a + S1x8x128.size a ≤ S9x320x128.size a := fun v1 k0_hw1 k0_t1 => k0_hw1.1.2.2.2.2.2.2.2.2.2.2.2.2.2.2.2.2.2.2.2.2.2.2.2.1 k0_t1
theorem k0_mult8_dvd : ∀ (v1 : BitVec 32) (k0_hw1 : k0_chk1 v1) (k0_t1 : Fin (k0_t1_loop v1).trips), 8 ∣ (k0_mult8 v1 k0_t1).toNat := fun v1 k0_hw1 k0_t1 => k0_hw1.1.2.2.2.2.2.2.2.2.2.2.2.2.2.2.2.2.2.2.2.2.2.2.2.2.1 k0_t1
theorem k0_off18_inb : ∀ (v1 : BitVec 32) (k0_hw1 : k0_chk1 v1) (k0_t1 : Fin (k0_t1_loop v1).trips), ∀ a, (k0_off18 v1 k0_t1) a + S1x8x128.size a ≤ S9x320x128.size a := fun v1 k0_hw1 k0_t1 => k0_hw1.1.2.2.2.2.2.2.2.2.2.2.2.2.2.2.2.2.2.2.2.2.2.2.2.2.2.1 k0_t1
theorem k0_mult9_dvd : ∀ (v1 : BitVec 32) (k0_hw1 : k0_chk1 v1) (k0_t1 : Fin (k0_t1_loop v1).trips), 8 ∣ (k0_mult9 v1 k0_t1).toNat := fun v1 k0_hw1 k0_t1 => k0_hw1.1.2.2.2.2.2.2.2.2.2.2.2.2.2.2.2.2.2.2.2.2.2.2.2.2.2.2.1 k0_t1
theorem k0_off19_inb : ∀ (v1 : BitVec 32) (k0_hw1 : k0_chk1 v1) (k0_t1 : Fin (k0_t1_loop v1).trips), ∀ a, (k0_off19 v1 k0_t1) a + S1x8x128.size a ≤ S9x320x128.size a := fun v1 k0_hw1 k0_t1 => k0_hw1.1.2.2.2.2.2.2.2.2.2.2.2.2.2.2.2.2.2.2.2.2.2.2.2.2.2.2.2.1 k0_t1
theorem k0_t2_ok : ∀ (v1 : BitVec 32) (k0_hw1 : k0_chk1 v1), (k0_t2_loop v1).OK := fun v1 k0_hw1 => k0_hw1.1.2.2.2.2.2.2.2.2.2.2.2.2.2.2.2.2.2.2.2.2.2.2.2.2.2.2.2.2.1
theorem k0_off20_inb : ∀ (v1 : BitVec 32) (k0_hw1 : k0_chk1 v1) (k0_t2 : Fin (k0_t2_loop v1).trips), ∀ a, (k0_off20 v1 k0_t2) a + S1x1x128.size a ≤ S9x40x128.size a := fun v1 k0_hw1 k0_t2 => k0_hw1.1.2.2.2.2.2.2.2.2.2.2.2.2.2.2.2.2.2.2.2.2.2.2.2.2.2.2.2.2.2.1 k0_t2
theorem k0_off21_inb : ∀ (v1 : BitVec 32) (k0_hw1 : k0_chk1 v1) (k0_t2 : Fin (k0_t2_loop v1).trips), ∀ a, (k0_off21 v1 k0_t2) a + S1x1x128.size a ≤ S9x40x128.size a := fun v1 k0_hw1 k0_t2 => k0_hw1.1.2.2.2.2.2.2.2.2.2.2.2.2.2.2.2.2.2.2.2.2.2.2.2.2.2.2.2.2.2.2.1 k0_t2
theorem k0_off22_inb : ∀ (v1 : BitVec 32) (k0_hw1 : k0_chk1 v1) (k0_t2 : Fin (k0_t2_loop v1).trips), ∀ a, (k0_off22 v1 k0_t2) a + S1x1x128.size a ≤ S9x40x128.size a := fun v1 k0_hw1 k0_t2 => k0_hw1.1.2.2.2.2.2.2.2.2.2.2.2.2.2.2.2.2.2.2.2.2.2.2.2.2.2.2.2.2.2.2.2 k0_t2
theorem k0_off23_inb : ∀ (v1 : BitVec 32) (k0_hw1 : k0_chk1 v1) (k0_t2 : Fin (k0_t2_loop v1).trips), ∀ a, (k0_off23 v1 k0_t2) a + S1x1x128.size a ≤ S9x40x128.size a := fun v1 k0_hw1 k0_t2 => k0_hw1.2.1 k0_t2
theorem k0_off24_inb : ∀ (v1 : BitVec 32) (k0_hw1 : k0_chk1 v1) (k0_t2 : Fin (k0_t2_loop v1).trips), ∀ a, (k0_off24 v1 k0_t2) a + S1x1x128.size a ≤ S9x40x128.size a := fun v1 k0_hw1 k0_t2 => k0_hw1.2.2.1 k0_t2
theorem k0_off25_inb : ∀ (v1 : BitVec 32) (k0_hw1 : k0_chk1 v1) (k0_t2 : Fin (k0_t2_loop v1).trips), ∀ a, (k0_off25 v1 k0_t2) a + S1x1x128.size a ≤ S9x40x128.size a := fun v1 k0_hw1 k0_t2 => k0_hw1.2.2.2.1 k0_t2
theorem k0_off26_inb : ∀ (v1 : BitVec 32) (k0_hw1 : k0_chk1 v1) (k0_t2 : Fin (k0_t2_loop v1).trips), ∀ a, (k0_off26 v1 k0_t2) a + S1x1x128.size a ≤ S9x40x128.size a := fun v1 k0_hw1 k0_t2 => k0_hw1.2.2.2.2.1 k0_t2
theorem k0_off27_inb : ∀ (v1 : BitVec 32) (k0_hw1 : k0_chk1 v1) (k0_t2 : Fin (k0_t2_loop v1).trips), ∀ a, (k0_off27 v1 k0_t2) a + S1x1x128.size a ≤ S9x40x128.size a := fun v1 k0_hw1 k0_t2 => k0_hw1.2.2.2.2.2.1 k0_t2
theorem k0_off28_inb : ∀ (v1 : BitVec 32) (k0_hw1 : k0_chk1 v1) (k0_t2 : Fin (k0_t2_loop v1).trips), ∀ a, (k0_off28 v1 k0_t2) a + S1x1x128.size a ≤ S9x40x128.size a := fun v1 k0_hw1 k0_t2 => k0_hw1.2.2.2.2.2.2.1 k0_t2
theorem k0_mult10_dvd : ∀ (v1 : BitVec 32) (k0_hw1 : k0_chk1 v1) (k0_t2 : Fin (k0_t2_loop v1).trips), 8 ∣ (k0_mult10 v1 k0_t2).toNat := fun v1 k0_hw1 k0_t2 => k0_hw1.2.2.2.2.2.2.2.1 k0_t2
theorem k0_off29_inb : ∀ (v1 : BitVec 32) (k0_hw1 : k0_chk1 v1) (k0_t2 : Fin (k0_t2_loop v1).trips), ∀ a, (k0_off29 v1 k0_t2) a + S1x8x128.size a ≤ S9x320x128.size a := fun v1 k0_hw1 k0_t2 => k0_hw1.2.2.2.2.2.2.2.2.1 k0_t2
theorem k0_mult11_dvd : ∀ (v1 : BitVec 32) (k0_hw1 : k0_chk1 v1) (k0_t2 : Fin (k0_t2_loop v1).trips), 8 ∣ (k0_mult11 v1 k0_t2).toNat := fun v1 k0_hw1 k0_t2 => k0_hw1.2.2.2.2.2.2.2.2.2.1 k0_t2
theorem k0_off30_inb : ∀ (v1 : BitVec 32) (k0_hw1 : k0_chk1 v1) (k0_t2 : Fin (k0_t2_loop v1).trips), ∀ a, (k0_off30 v1 k0_t2) a + S1x8x128.size a ≤ S9x320x128.size a := fun v1 k0_hw1 k0_t2 => k0_hw1.2.2.2.2.2.2.2.2.2.2.1 k0_t2
theorem k0_mult12_dvd : ∀ (v1 : BitVec 32) (k0_hw1 : k0_chk1 v1) (k0_t2 : Fin (k0_t2_loop v1).trips), 8 ∣ (k0_mult12 v1 k0_t2).toNat := fun v1 k0_hw1 k0_t2 => k0_hw1.2.2.2.2.2.2.2.2.2.2.2.1 k0_t2
theorem k0_off31_inb : ∀ (v1 : BitVec 32) (k0_hw1 : k0_chk1 v1) (k0_t2 : Fin (k0_t2_loop v1).trips), ∀ a, (k0_off31 v1 k0_t2) a + S1x8x128.size a ≤ S9x320x128.size a := fun v1 k0_hw1 k0_t2 => k0_hw1.2.2.2.2.2.2.2.2.2.2.2.2.1 k0_t2
theorem k0_mult13_dvd : ∀ (v1 : BitVec 32) (k0_hw1 : k0_chk1 v1) (k0_t2 : Fin (k0_t2_loop v1).trips), 8 ∣ (k0_mult13 v1 k0_t2).toNat := fun v1 k0_hw1 k0_t2 => k0_hw1.2.2.2.2.2.2.2.2.2.2.2.2.2.1 k0_t2
theorem k0_off32_inb : ∀ (v1 : BitVec 32) (k0_hw1 : k0_chk1 v1) (k0_t2 : Fin (k0_t2_loop v1).trips), ∀ a, (k0_off32 v1 k0_t2) a + S1x8x128.size a ≤ S9x320x128.size a := fun v1 k0_hw1 k0_t2 => k0_hw1.2.2.2.2.2.2.2.2.2.2.2.2.2.2.1 k0_t2
theorem k0_mult14_dvd : ∀ (v1 : BitVec 32) (k0_hw1 : k0_chk1 v1) (k0_t2 : Fin (k0_t2_loop v1).trips), 8 ∣ (k0_mult14 v1 k0_t2).toNat := fun v1 k0_hw1 k0_t2 => k0_hw1.2.2.2.2.2.2.2.2.2.2.2.2.2.2.2.1 k0_t2
theorem k0_off33_inb : ∀ (v1 : BitVec 32) (k0_hw1 : k0_chk1 v1) (k0_t2 : Fin (k0_t2_loop v1).trips), ∀ a, (k0_off33 v1 k0_t2) a + S1x8x128.size a ≤ S9x320x128.size a := fun v1 k0_hw1 k0_t2 => k0_hw1.2.2.2.2.2.2.2.2.2.2.2.2.2.2.2.2.1 k0_t2
theorem k0_mult15_dvd : ∀ (v1 : BitVec 32) (k0_hw1 : k0_chk1 v1) (k0_t2 : Fin (k0_t2_loop v1).trips), 8 ∣ (k0_mult15 v1 k0_t2).toNat := fun v1 k0_hw1 k0_t2 => k0_hw1.2.2.2.2.2.2.2.2.2.2.2.2.2.2.2.2.2.1 k0_t2
theorem k0_off34_inb : ∀ (v1 : BitVec 32) (k0_hw1 : k0_chk1 v1) (k0_t2 : Fin (k0_t2_loop v1).trips), ∀ a, (k0_off34 v1 k0_t2) a + S1x8x128.size a ≤ S9x320x128.size a := fun v1 k0_hw1 k0_t2 => k0_hw1.2.2.2.2.2.2.2.2.2.2.2.2.2.2.2.2.2.2.1 k0_t2
theorem k0_mult16_dvd : ∀ (v1 : BitVec 32) (k0_hw1 : k0_chk1 v1) (k0_t2 : Fin (k0_t2_loop v1).trips), 8 ∣ (k0_mult16 v1 k0_t2).toNat := fun v1 k0_hw1 k0_t2 => k0_hw1.2.2.2.2.2.2.2.2.2.2.2.2.2.2.2.2.2.2.2.1 k0_t2
theorem k0_off35_inb : ∀ (v1 : BitVec 32) (k0_hw1 : k0_chk1 v1) (k0_t2 : Fin (k0_t2_loop v1).trips), ∀ a, (k0_off35 v1 k0_t2) a + S1x8x128.size a ≤ S9x320x128.size a := fun v1 k0_hw1 k0_t2 => k0_hw1.2.2.2.2.2.2.2.2.2.2.2.2.2.2.2.2.2.2.2.2.1 k0_t2
theorem k0_mult17_dvd : ∀ (v1 : BitVec 32) (k0_hw1 : k0_chk1 v1) (k0_t2 : Fin (k0_t2_loop v1).trips), 8 ∣ (k0_mult17 v1 k0_t2).toNat := fun v1 k0_hw1 k0_t2 => k0_hw1.2.2.2.2.2.2.2.2.2.2.2.2.2.2.2.2.2.2.2.2.2.1 k0_t2
theorem k0_off36_inb : ∀ (v1 : BitVec 32) (k0_hw1 : k0_chk1 v1) (k0_t2 : Fin (k0_t2_loop v1).trips), ∀ a, (k0_off36 v1 k0_t2) a + S1x8x128.size a ≤ S9x320x128.size a := fun v1 k0_hw1 k0_t2 => k0_hw1.2.2.2.2.2.2.2.2.2.2.2.2.2.2.2.2.2.2.2.2.2.2.1 k0_t2
theorem k0_mult18_dvd : ∀ (v1 : BitVec 32) (k0_hw1 : k0_chk1 v1) (k0_t2 : Fin (k0_t2_loop v1).trips), 8 ∣ (k0_mult18 v1 k0_t2).toNat := fun v1 k0_hw1 k0_t2 => k0_hw1.2.2.2.2.2.2.2.2.2.2.2.2.2.2.2.2.2.2.2.2.2.2.2.1 k0_t2
theorem k0_off37_inb : ∀ (v1 : BitVec 32) (k0_hw1 : k0_chk1 v1) (k0_t2 : Fin (k0_t2_loop v1).trips), ∀ a, (k0_off37 v1 k0_t2) a + S1x8x128.size a ≤ S9x320x128.size a := fun v1 k0_hw1 k0_t2 => k0_hw1.2.2.2.2.2.2.2.2.2.2.2.2.2.2.2.2.2.2.2.2.2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S6x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "neg_half_log2e" => some ((-((1 / 2) * (Real.log 2)⁻¹) : ℝ) : EReal)
  | "neg_log2e" => some ((-((Real.log 2)⁻¹) : ℝ) : EReal)
  | _ => none
-- ==== ReferenceIdeal.lean ====
abbrev S6x32640x128 : Shape := ⟨3, ![6, 32640, 128]⟩
abbrev S255 : Shape := ⟨1, ![255]⟩
abbrev S1 : Shape := ⟨1, ![1]⟩
abbrev S3 : Shape := ⟨1, ![3]⟩
abbrev S6x128x32640 : Shape := ⟨3, ![6, 128, 32640]⟩
abbrev S768x32640 : Shape := ⟨2, ![768, 32640]⟩
abbrev S256x32640 : Shape := ⟨2, ![256, 32640]⟩
abbrev S192x32640 : Shape := ⟨2, ![192, 32640]⟩
abbrev S32x32640 : Shape := ⟨2, ![32, 32640]⟩
abbrev S4x32640 : Shape := ⟨2, ![4, 32640]⟩
abbrev S36x32640 : Shape := ⟨2, ![36, 32640]⟩
abbrev S144x32640 : Shape := ⟨2, ![144, 32640]⟩
abbrev S3x256x32640 : Shape := ⟨3, ![3, 256, 32640]⟩
abbrev S_ : Shape := ⟨0, ![]⟩
abbrev S36x4x32640 : Shape := ⟨3, ![36, 4, 32640]⟩
abbrev S36x3x32640 : Shape := ⟨3, ![36, 3, 32640]⟩
abbrev S36x1x32640 : Shape := ⟨3, ![36, 1, 32640]⟩
abbrev S4x16x4 : Shape := ⟨3, ![4, 16, 4]⟩
abbrev S256 : Shape := ⟨1, ![256]⟩
abbrev S1x256x1 : Shape := ⟨3, ![1, 256, 1]⟩
abbrev S36x256x32640 : Shape := ⟨3, ![36, 256, 32640]⟩
abbrev S36 : Shape := ⟨1, ![36]⟩
abbrev S36x1 : Shape := ⟨2, ![36, 1]⟩
abbrev S1x32640 : Shape := ⟨2, ![1, 32640]⟩
abbrev S32640 : Shape := ⟨1, ![32640]⟩
abbrev S1x36 : Shape := ⟨2, ![1, 36]⟩
abbrev S36x36 : Shape := ⟨2, ![36, 36]⟩
abbrev S36x36x1x1 : Shape := ⟨4, ![36, 36, 1, 1]⟩
abbrev S1x256x32640 : Shape := ⟨3, ![1, 256, 32640]⟩
abbrev S1x36x256x32640 : Shape := ⟨4, ![1, 36, 256, 32640]⟩
abbrev S36x36x256x32640 : Shape := ⟨4, ![36, 36, 256, 32640]⟩
abbrev S36x18x256x32640 : Shape := ⟨4, ![36, 18, 256, 32640]⟩
abbrev S36x9x256x32640 : Shape := ⟨4, ![36, 9, 256, 32640]⟩
abbrev S36x3x256x32640 : Shape := ⟨4, ![36, 3, 256, 32640]⟩
abbrev S36x1x256x32640 : Shape := ⟨4, ![36, 1, 256, 32640]⟩
abbrev S1x36x32640 : Shape := ⟨3, ![1, 36, 32640]⟩
abbrev S9x36x32640 : Shape := ⟨3, ![9, 36, 32640]⟩
abbrev S9x32x32640 : Shape := ⟨3, ![9, 32, 32640]⟩
abbrev S288x32640 : Shape := ⟨2, ![288, 32640]⟩
abbrev S9x4x32640 : Shape := ⟨3, ![9, 4, 32640]⟩
abbrev S60x32640 : Shape := ⟨2, ![60, 32640]⟩
abbrev S384x32640 : Shape := ⟨2, ![384, 32640]⟩
abbrev S3x128x32640 : Shape := ⟨3, ![3, 128, 32640]⟩
abbrev S3x32640x128 : Shape := ⟨3, ![3, 32640, 128]⟩

abbrev nBuf : Space → Nat
  | .hbm => 326
  | .vmem => 4
  | .smem => 0
  | _ => 0

abbrev hbmTy0_0 (i : Nat) : BufTy := match i % 128 with
  | 0 => ⟨S6x32640x128, .i32⟩
  | 1 => ⟨S255, .i32⟩
  | 2 => ⟨S1, .f32⟩
  | 3 => ⟨S3, .f32⟩
  | 4 => ⟨S6x128x32640, .i32⟩
  | 5 => ⟨S768x32640, .i32⟩
  | 6 => ⟨S256x32640, .i32⟩
  | 7 => ⟨S256x32640, .f32⟩
  | 8 => ⟨S192x32640, .i32⟩
  | 9 => ⟨S32x32640, .i32⟩
  | 10 => ⟨S4x32640, .i32⟩
  | 11 => ⟨S36x32640, .i32⟩
  | 12 => ⟨S768x32640, .f32⟩
  | 13 => ⟨S144x32640, .f32⟩
  | 14 => ⟨S3x256x32640, .f32⟩
  | 15 => ⟨S_, .f32⟩
  | 16 => ⟨S3x256x32640, .f32⟩
  | 17 => ⟨S3x256x32640, .f32⟩
  | 18 => ⟨S36x4x32640, .f32⟩
  | 19 => ⟨S36x3x32640, .f32⟩
  | 20 => ⟨S32x32640, .i32⟩
  | 21 => ⟨S4x32640, .i32⟩
  | 22 => ⟨S36x32640, .i32⟩
  | 23 => ⟨S36x32640, .f32⟩
  | 24 => ⟨S36x1x32640, .f32⟩
  | 25 => ⟨S36x3x32640, .f32⟩
  | 26 => ⟨S36x3x32640, .f32⟩
  | 27 => ⟨S32x32640, .i32⟩
  | 28 => ⟨S4x32640, .i32⟩
  | 29 => ⟨S36x32640, .i32⟩
  | 30 => ⟨S36x32640, .f32⟩
  | 31 => ⟨S36x1x32640, .f32⟩
  | 32 => ⟨S32x32640, .i32⟩
  | 33 => ⟨S4x32640, .i32⟩
  | 34 => ⟨S36x32640, .i32⟩
  | 35 => ⟨S36x32640, .f32⟩
  | 36 => ⟨S36x1x32640, .f32⟩
  | 37 => ⟨S32x32640, .i32⟩
  | 38 => ⟨S4x32640, .i32⟩
  | 39 => ⟨S36x32640, .i32⟩
  | 40 => ⟨S36x32640, .f32⟩
  | 41 => ⟨S36x1x32640, .f32⟩
  | 42 => ⟨S32x32640, .i32⟩
  | 43 => ⟨S4x32640, .i32⟩
  | 44 => ⟨S36x32640, .i32⟩
  | 45 => ⟨S36x32640, .f32⟩
  | 46 => ⟨S36x1x32640, .f32⟩
  | 47 => ⟨S32x32640, .i32⟩
  | 48 => ⟨S4x32640, .i32⟩
  | 49 => ⟨S36x32640, .i32⟩
  | 50 => ⟨S36x32640, .f32⟩
  | 51 => ⟨S36x1x32640, .f32⟩
  | 52 => ⟨S32x32640, .i32⟩
  | 53 => ⟨S4x32640, .i32⟩
  | 54 => ⟨S36x32640, .i32⟩
  | 55 => ⟨S36x32640, .f32⟩
  | 56 => ⟨S36x1x32640, .f32⟩
  | 57 => ⟨S4x16x4, .i32⟩
  | 58 => ⟨S256, .i32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S256, .f32⟩
  | 66 => ⟨S4x16x4, .i32⟩
  | 67 => ⟨S256, .i32⟩
  | 68 => ⟨S_, .i32⟩
  | 69 => ⟨S256, .i32⟩
  | 70 => ⟨S256, .i32⟩
  | 71 => ⟨S4x16x4, .i32⟩
  | 72 => ⟨S256, .i32⟩
  | 73 => ⟨S256, .i32⟩
  | 74 => ⟨S256, .f32⟩
  | 75 => ⟨S_, .f32⟩
  | 76 => ⟨S256, .f32⟩
  | 77 => ⟨S256, .f32⟩
  | 78 => ⟨S_, .f32⟩
  | 79 => ⟨S256, .f32⟩
  | 80 => ⟨S256, .f32⟩
  | 81 => ⟨S1x256x1, .f32⟩
  | 82 => ⟨S36x256x32640, .f32⟩
  | 83 => ⟨S36x256x32640, .f32⟩
  | 84 => ⟨S36x256x32640, .f32⟩
  | 85 => ⟨S1x256x1, .f32⟩
  | 86 => ⟨S36x256x32640, .f32⟩
  | 87 => ⟨S36x256x32640, .f32⟩
  | 88 => ⟨S36x256x32640, .f32⟩
  | 89 => ⟨S36x256x32640, .f32⟩
  | 90 => ⟨S36x256x32640, .f32⟩
  | 91 => ⟨S36x256x32640, .f32⟩
  | 92 => ⟨S36x256x32640, .f32⟩
  | 93 => ⟨S36x256x32640, .f32⟩
  | 94 => ⟨S36x256x32640, .f32⟩
  | 95 => ⟨S36x256x32640, .f32⟩
  | 96 => ⟨S_, .f32⟩
  | 97 => ⟨S36x256x32640, .f32⟩
  | 98 => ⟨S36x256x32640, .f32⟩
  | 99 => ⟨S36x256x32640, .f32⟩
  | 100 => ⟨S36x256x32640, .f32⟩
  | 101 => ⟨S36x256x32640, .f32⟩
  | 102 => ⟨S36x256x32640, .f32⟩
  | 103 => ⟨S36x256x32640, .f32⟩
  | 104 => ⟨S36x256x32640, .f32⟩
  | 105 => ⟨S36, .i32⟩
  | 106 => ⟨S36x1, .i32⟩
  | 107 => ⟨S1x32640, .i32⟩
  | 108 => ⟨S32640, .i32⟩
  | 109 => ⟨S1x32640, .i32⟩
  | 110 => ⟨S36x32640, .i32⟩
  | 111 => ⟨S36x32640, .i32⟩
  | 112 => ⟨S36x32640, .i1⟩
  | 113 => ⟨S36x1x32640, .i1⟩
  | 114 => ⟨S36x256x32640, .f32⟩
  | 115 => ⟨S36x256x32640, .f32⟩
  | 116 => ⟨S_, .f32⟩
  | 117 => ⟨S_, .f32⟩
  | 118 => ⟨S36x256x32640, .i1⟩
  | 119 => ⟨S36x256x32640, .f32⟩
  | 120 => ⟨S36x256x32640, .f32⟩
  | 121 => ⟨S_, .f32⟩
  | 122 => ⟨S36x256x32640, .f32⟩
  | 123 => ⟨S36x256x32640, .f32⟩
  | 124 => ⟨S36, .i32⟩
  | 125 => ⟨S36x1, .i32⟩
  | 126 => ⟨S1x36, .i32⟩
  | 127 => ⟨S36x36, .i32⟩
  | _ => ⟨S6x32640x128, .i32⟩

abbrev hbmTy0_1 (i : Nat) : BufTy := match i % 128 with
  | 0 => ⟨S36x36, .i32⟩
  | 1 => ⟨S36x36, .i1⟩
  | 2 => ⟨S36x36x1x1, .i1⟩
  | 3 => ⟨S1x256x32640, .f32⟩
  | 4 => ⟨S1x36x256x32640, .f32⟩
  | 5 => ⟨S_, .f32⟩
  | 6 => ⟨S_, .f32⟩
  | 7 => ⟨S36x36x256x32640, .i1⟩
  | 8 => ⟨S36x36x256x32640, .f32⟩
  | 9 => ⟨S36x36x256x32640, .f32⟩
  | 10 => ⟨S36x36x256x32640, .f32⟩
  | 11 => ⟨S36x18x256x32640, .f32⟩
  | 12 => ⟨S36x18x256x32640, .f32⟩
  | 13 => ⟨S36x18x256x32640, .f32⟩
  | 14 => ⟨S36x9x256x32640, .f32⟩
  | 15 => ⟨S36x9x256x32640, .f32⟩
  | 16 => ⟨S36x9x256x32640, .f32⟩
  | 17 => ⟨S36x3x256x32640, .f32⟩
  | 18 => ⟨S36x3x256x32640, .f32⟩
  | 19 => ⟨S36x3x256x32640, .f32⟩
  | 20 => ⟨S36x3x256x32640, .f32⟩
  | 21 => ⟨S36x3x256x32640, .f32⟩
  | 22 => ⟨S36x1x256x32640, .f32⟩
  | 23 => ⟨S36x256x32640, .f32⟩
  | 24 => ⟨S36x1x256x32640, .f32⟩
  | 25 => ⟨S36x256x32640, .f32⟩
  | 26 => ⟨S36x256x32640, .f32⟩
  | 27 => ⟨S36x1x256x32640, .f32⟩
  | 28 => ⟨S36x256x32640, .f32⟩
  | 29 => ⟨S36x256x32640, .f32⟩
  | 30 => ⟨S36x256x32640, .f32⟩
  | 31 => ⟨S36x256x32640, .f32⟩
  | 32 => ⟨S36x256x32640, .f32⟩
  | 33 => ⟨S36x1x32640, .f32⟩
  | 34 => ⟨S36x32640, .f32⟩
  | 35 => ⟨S36x1x32640, .f32⟩
  | 36 => ⟨S1x256x32640, .f32⟩
  | 37 => ⟨S256x32640, .f32⟩
  | 38 => ⟨S1x256x32640, .f32⟩
  | 39 => ⟨S36x256x32640, .f32⟩
  | 40 => ⟨S36x256x32640, .f32⟩
  | 41 => ⟨S36x256x32640, .f32⟩
  | 42 => ⟨S36x1x32640, .f32⟩
  | 43 => ⟨S36x32640, .f32⟩
  | 44 => ⟨S36x1x32640, .f32⟩
  | 45 => ⟨S1x256x32640, .f32⟩
  | 46 => ⟨S256x32640, .f32⟩
  | 47 => ⟨S1x256x32640, .f32⟩
  | 48 => ⟨S36x256x32640, .f32⟩
  | 49 => ⟨S36x256x32640, .f32⟩
  | 50 => ⟨S36x256x32640, .f32⟩
  | 51 => ⟨S36x256x32640, .f32⟩
  | 52 => ⟨S36x1x32640, .f32⟩
  | 53 => ⟨S36x32640, .f32⟩
  | 54 => ⟨S36x1x32640, .f32⟩
  | 55 => ⟨S1x256x32640, .f32⟩
  | 56 => ⟨S256x32640, .f32⟩
  | 57 => ⟨S1x256x32640, .f32⟩
  | 58 => ⟨S36x256x32640, .f32⟩
  | 59 => ⟨S36x256x32640, .f32⟩
  | 60 => ⟨S36x256x32640, .f32⟩
  | 61 => ⟨S36x256x32640, .f32⟩
  | 62 => ⟨S1x256x32640, .f32⟩
  | 63 => ⟨S256x32640, .f32⟩
  | 64 => ⟨S1, .f32⟩
  | 65 => ⟨S_, .f32⟩
  | 66 => ⟨S256x32640, .f32⟩
  | 67 => ⟨S256x32640, .f32⟩
  | 68 => ⟨S1x256x32640, .f32⟩
  | 69 => ⟨S256x32640, .f32⟩
  | 70 => ⟨S1, .f32⟩
  | 71 => ⟨S_, .f32⟩
  | 72 => ⟨S256x32640, .f32⟩
  | 73 => ⟨S256x32640, .f32⟩
  | 74 => ⟨S256x32640, .f32⟩
  | 75 => ⟨S1x256x32640, .f32⟩
  | 76 => ⟨S256x32640, .f32⟩
  | 77 => ⟨S1, .f32⟩
  | 78 => ⟨S_, .f32⟩
  | 79 => ⟨S256x32640, .f32⟩
  | 80 => ⟨S256x32640, .f32⟩
  | 81 => ⟨S256x32640, .f32⟩
  | 82 => ⟨S36x256x32640, .f32⟩
  | 83 => ⟨S36x1, .i32⟩
  | 84 => ⟨S1x36, .i32⟩
  | 85 => ⟨S36x36, .i32⟩
  | 86 => ⟨S36x36, .i32⟩
  | 87 => ⟨S36x36, .i1⟩
  | 88 => ⟨S36x36x1x1, .i1⟩
  | 89 => ⟨S1x36x256x32640, .f32⟩
  | 90 => ⟨S_, .f32⟩
  | 91 => ⟨S_, .f32⟩
  | 92 => ⟨S36x36x256x32640, .i1⟩
  | 93 => ⟨S36x36x256x32640, .f32⟩
  | 94 => ⟨S36x36x256x32640, .f32⟩
  | 95 => ⟨S36x36x256x32640, .f32⟩
  | 96 => ⟨S_, .f32⟩
  | 97 => ⟨S36x256x32640, .f32⟩
  | 98 => ⟨S256x32640, .f32⟩
  | 99 => ⟨S1x256x32640, .f32⟩
  | 100 => ⟨S36x256x32640, .f32⟩
  | 101 => ⟨S36x256x32640, .f32⟩
  | 102 => ⟨S36, .i32⟩
  | 103 => ⟨S36x1, .i32⟩
  | 104 => ⟨S1x32640, .i32⟩
  | 105 => ⟨S32640, .i32⟩
  | 106 => ⟨S1x32640, .i32⟩
  | 107 => ⟨S36x32640, .i32⟩
  | 108 => ⟨S36x32640, .i32⟩
  | 109 => ⟨S36x32640, .i1⟩
  | 110 => ⟨S36x1x32640, .i1⟩
  | 111 => ⟨S36x256x32640, .f32⟩
  | 112 => ⟨S36x256x32640, .f32⟩
  | 113 => ⟨S36x256x32640, .f32⟩
  | 114 => ⟨S_, .f32⟩
  | 115 => ⟨S_, .f32⟩
  | 116 => ⟨S36x256x32640, .i1⟩
  | 117 => ⟨S36x256x32640, .f32⟩
  | 118 => ⟨S36x256x32640, .f32⟩
  | 119 => ⟨S36x256x32640, .f32⟩
  | 120 => ⟨S36x256x32640, .f32⟩
  | 121 => ⟨S36x256x32640, .f32⟩
  | 122 => ⟨S36x256x32640, .f32⟩
  | 123 => ⟨S36x256x32640, .f32⟩
  | 124 => ⟨S36x256x32640, .f32⟩
  | 125 => ⟨S36x256x32640, .f32⟩
  | 126 => ⟨S36x256x32640, .f32⟩
  | 127 => ⟨S_, .f32⟩
  | _ => ⟨S6x32640x128, .i32⟩

abbrev hbmTy0_2 (i : Nat) : BufTy := match i % 128 with
  | 0 => ⟨S36x32640, .f32⟩
  | 1 => ⟨S36x256x32640, .f32⟩
  | 2 => ⟨S36x256x32640, .f32⟩
  | 3 => ⟨S36x256x32640, .f32⟩
  | 4 => ⟨S36x256x32640, .f32⟩
  | 5 => ⟨S36x256x32640, .f32⟩
  | 6 => ⟨S36x256x32640, .f32⟩
  | 7 => ⟨S_, .f32⟩
  | 8 => ⟨S36x32640, .f32⟩
  | 9 => ⟨S36x256x32640, .f32⟩
  | 10 => ⟨S_, .f32⟩
  | 11 => ⟨S36x32640, .f32⟩
  | 12 => ⟨S_, .f32⟩
  | 13 => ⟨S36x256x32640, .f32⟩
  | 14 => ⟨S36x256x32640, .f32⟩
  | 15 => ⟨S36x256x32640, .f32⟩
  | 16 => ⟨S36x256x32640, .f32⟩
  | 17 => ⟨S_, .f32⟩
  | 18 => ⟨S36x32640, .f32⟩
  | 19 => ⟨S36x256x32640, .f32⟩
  | 20 => ⟨S36x256x32640, .f32⟩
  | 21 => ⟨S_, .f32⟩
  | 22 => ⟨S36x32640, .f32⟩
  | 23 => ⟨S_, .f32⟩
  | 24 => ⟨S36x256x32640, .f32⟩
  | 25 => ⟨S36x256x32640, .f32⟩
  | 26 => ⟨S36x256x32640, .f32⟩
  | 27 => ⟨S36x256x32640, .f32⟩
  | 28 => ⟨S_, .f32⟩
  | 29 => ⟨S36x32640, .f32⟩
  | 30 => ⟨S1x256x32640, .f32⟩
  | 31 => ⟨S256x32640, .f32⟩
  | 32 => ⟨S1x256x32640, .f32⟩
  | 33 => ⟨S36x256x32640, .f32⟩
  | 34 => ⟨S36x256x32640, .f32⟩
  | 35 => ⟨S_, .f32⟩
  | 36 => ⟨S36x32640, .f32⟩
  | 37 => ⟨S1x256x32640, .f32⟩
  | 38 => ⟨S256x32640, .f32⟩
  | 39 => ⟨S1x256x32640, .f32⟩
  | 40 => ⟨S36x256x32640, .f32⟩
  | 41 => ⟨S36x256x32640, .f32⟩
  | 42 => ⟨S_, .f32⟩
  | 43 => ⟨S36x32640, .f32⟩
  | 44 => ⟨S1x256x32640, .f32⟩
  | 45 => ⟨S256x32640, .f32⟩
  | 46 => ⟨S1x256x32640, .f32⟩
  | 47 => ⟨S36x256x32640, .f32⟩
  | 48 => ⟨S36x256x32640, .f32⟩
  | 49 => ⟨S_, .f32⟩
  | 50 => ⟨S36x32640, .f32⟩
  | 51 => ⟨S1x36x32640, .f32⟩
  | 52 => ⟨S1x36x32640, .f32⟩
  | 53 => ⟨S1x36x32640, .f32⟩
  | 54 => ⟨S1x36x32640, .f32⟩
  | 55 => ⟨S1x36x32640, .f32⟩
  | 56 => ⟨S1x36x32640, .f32⟩
  | 57 => ⟨S1x36x32640, .f32⟩
  | 58 => ⟨S1x36x32640, .f32⟩
  | 59 => ⟨S1x36x32640, .f32⟩
  | 60 => ⟨S9x36x32640, .f32⟩
  | 61 => ⟨S9x32x32640, .f32⟩
  | 62 => ⟨S288x32640, .f32⟩
  | 63 => ⟨S9x4x32640, .f32⟩
  | 64 => ⟨S36x32640, .f32⟩
  | 65 => ⟨S_, .f32⟩
  | 66 => ⟨S60x32640, .f32⟩
  | 67 => ⟨S384x32640, .f32⟩
  | 68 => ⟨S3x128x32640, .f32⟩
  | 69 => ⟨S3x32640x128, .f32⟩
  | _ => ⟨S6x32640x128, .i32⟩

abbrev hbmTy (i : Nat) : BufTy := match i / 128 with
  | 0 => hbmTy0_0 i
  | 1 => hbmTy0_1 i
  | 2 => hbmTy0_2 i
  | _ => ⟨S6x32640x128, .i32⟩

abbrev bufTy : (tb : Table) → Fin (tcTables nBuf tb) → BufTy
  | .hbm, ⟨i, _⟩ => hbmTy i
  | .local _ .vmem, ⟨0, _⟩ => ⟨S192x32640, .i32⟩
  | .local _ .vmem, ⟨1, _⟩ => ⟨S36x32640, .i32⟩
  | .local _ .vmem, ⟨2, _⟩ => ⟨S768x32640, .f32⟩
  | .local _ .vmem, ⟨3, _⟩ => ⟨S144x32640, .f32⟩
  | _, _ => ⟨S6x32640x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_cst : Ref sig .tc := ⟨.hbm, 60, rfl⟩
abbrev main_v55 : Ref sig .tc := ⟨.hbm, 61, rfl⟩
abbrev main_v56 : Ref sig .tc := ⟨.hbm, 62, rfl⟩
abbrev main_cst_0 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_c : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_1 : Ref sig .tc := ⟨.hbm, 75, rfl⟩
abbrev main_v67 : Ref sig .tc := ⟨.hbm, 76, rfl⟩
abbrev main_v68 : Ref sig .tc := ⟨.hbm, 77, rfl⟩
abbrev main_cst_2 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_3 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_cst_4 : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_v105 : Ref sig .tc := ⟨.hbm, 120, rfl⟩
abbrev main_cst_5 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_cst_6 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_cst_7 : Ref sig .tc := ⟨.hbm, 218, rfl⟩
abbrev main_call2_v0 : Ref sig .tc := ⟨.hbm, 219, rfl⟩
abbrev main_call2_v1 : Ref sig .tc := ⟨.hbm, 220, rfl⟩
abbrev main_call2_v2 : Ref sig .tc := ⟨.hbm, 221, rfl⟩
abbrev main_call2_v3 : Ref sig .tc := ⟨.hbm, 222, rfl⟩
abbrev main_v197 : Ref sig .tc := ⟨.hbm, 223, rfl⟩
abbrev main_cst_8 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_cst_9 : Ref sig .tc := ⟨.hbm, 242, rfl⟩
abbrev main_call3_v0 : Ref sig .tc := ⟨.hbm, 243, rfl⟩
abbrev main_call3_v1 : Ref sig .tc := ⟨.hbm, 244, rfl⟩
abbrev main_call3_v2 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_cst_10 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_cst_11 : Ref sig .tc := ⟨.hbm, 263, rfl⟩
abbrev main_v231 : Ref sig .tc := ⟨.hbm, 264, rfl⟩
abbrev main_v232 : Ref sig .tc := ⟨.hbm, 265, rfl⟩
abbrev main_cst_12 : Ref sig .tc := ⟨.hbm, 266, rfl⟩
abbrev main_v233 : Ref sig .tc := ⟨.hbm, 267, rfl⟩
abbrev main_cst_13 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_cst_14 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_cst_15 : Ref sig .tc := ⟨.hbm, 277, rfl⟩
abbrev main_v241 : Ref sig .tc := ⟨.hbm, 278, rfl⟩
abbrev main_cst_16 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_cst_17 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_cst_18 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_cst_19 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_cst_20 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_cst_21 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S192x32640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x32640 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x32640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x32640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RunKernel.lean ====
/- The kernel body's run on whole buffers: what its stores leave in each buffer, as pieces, found by running the body
   part by part. The body's first part itself calls parts, so it is opened before the parts are put in their skeleton form. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The moments' contents as loaded before they are first stored are never used: the part that is handed them runs as
    if handed the zeros it stores. -/
theorem k0_part89_dead : k0_part89 (F := F) = fun i arg1 harg1 arg2 harg2 arg3 harg3 arg4 harg4 arg5 harg5 arg6 harg6 arg7 harg7 arg8 harg8 arg9 harg9 arg10 harg10 arg11 harg11 arg12 harg12 arg13 harg13 v1 k0_hw1 v228 _ => k0_part89_skel i arg1 harg1 arg2 harg2 arg3 harg3 arg4 harg4 arg5 harg5 arg6 harg6 arg7 harg7 arg8 harg8 arg9 harg9 arg10 harg10 arg11 harg11 arg12 harg12 arg13 harg13 v1 k0_hw1 v228 v228 := by
  funext i arg1 harg1 arg2 harg2 arg3 harg3 arg4 harg4 arg5 harg5 arg6 harg6 arg7 harg7 arg8 harg8 arg9 harg9 arg10 harg10 arg11 harg11 arg12 harg12 arg13 harg13 v1 k0_hw1 v228 v229
  exact congrArg (fun f => f i arg1 harg1 arg2 harg2 arg3 harg3 arg4 harg4 arg5 harg5 arg6 harg6 arg7 harg7 arg8 harg8 arg9 harg9 arg10 harg10 arg11 harg11 arg12 harg12 arg13 harg13 v1 k0_hw1 v228 v229) (k0_part89_eq_skeleton (F := F))

-- (the run's proof term is large: the definition's epilogue — `abstractNestedProofs` — walks it past the default budget)
set_option maxHeartbeats 40000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole)
    (x0 : Vec F S6x128x128 .i32) (x1 : Vec F S1 .f32) (x2 : Vec F S3 .f32) (xt0 : TbBuf0 (F := F) c tbM0_0) (k0_hw1 : k0_chk1 (tbM0_0.view.readAt (Elt F) (Rect.unit (s := S255) (k0_off1 i) S1.size (k0_off1_inb i)).toLoadRect xt0 (Shape.Idx.first (numel1_S1.symm ▸ Nat.one_pos)))) :
    Σ' (L3 : List (View.Piece (Elt F) S3x128x128 .f32)), Σ' (LT0 : List (View.Piece (Elt F) S768x128 .i32)), Σ' (LT4 : List (View.Piece (Elt F) S8x40x128 .i32)), Σ' (LT5 : List (View.Piece (Elt F) S9x40x128 .f32)), { LT7 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LT4) ∗ (∃ f, arg11.view.loc (c : Thread nD τ) ↦[arg11.view.set]{fullShare} arg11.view.writes (Elt F) f LT5) ∗ (∃ d, owns (c : Thread nD τ) arg12 fullShare d) ∗ (∃ f, arg13.view.loc (c : Thread nD τ) ↦[arg13.view.set]{fullShare} arg13.view.writes (Elt F) f LT7) ∗ tbPt0 c tbM0_0 xt0) -∗ K ⟨⟩))
          ⊢ wp frame (wpE (defs₀ (F := F)) Variants.none c none) E (cc0_main i tbM0_0 htbM0_0 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_main_eq_skeleton]; unfold cc0_main_skel
    simp only [k0_part174_eq_skeleton]; unfold k0_part174_skel
    simp only [k0_part81_eq_skeleton, k0_part82_eq_skeleton, k0_part83_eq_skeleton, k0_part84_eq_skeleton, k0_part85_eq_skeleton, k0_part86_eq_skeleton, k0_part87_eq_skeleton, k0_part88_eq_skeleton, k0_part89_dead, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
    obtain rfl := harg2.eq_unread hf0; obtain rfl := harg3.eq_unread hf1; obtain rfl := harg4.eq_unread hf2
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    isplitl [HS5]; · iexists _; iexact HS5
    isplitl [HS6]
    · iexists _, _; isplitr; swap; · iexact HS6
      ipureintro; rfl
    isplitl [HS7]; · iexists _; iexact HS7
    iexact HT0

end Cert.Kernel.Gen

end
-- ==== Proof.FrameKernel.lean ====
/- What the kernel's output holds point by point, the obligation of its body, the run of the whole program and its
   frame, from the run of the body in the module imported here. -/
module

public import proofs.«01_k».proof.Proof.RunKernel
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 3 tile its block (3 stores of `S1x128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole)
    (x0 : Vec F S6x128x128 .i32) (x1 : Vec F S1 .f32) (x2 : Vec F S3 .f32) (xt0 : TbBuf0 (F := F) c tbM0_0) (k0_hw1 : k0_chk1 (tbM0_0.view.readAt (Elt F) (Rect.unit (s := S255) (k0_off1 i) S1.size (k0_off1_inb i)).toLoadRect xt0 (Shape.Idx.first (numel1_S1.symm ▸ Nat.one_pos)))) (y : S3x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 xt0 k0_hw1).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 xt0 k0_hw1).1 S1x128x128.size (by sl_kernel_rfl) y

/-- What the run leaves in output 3's staging buffer: its pieces read back over junk. -/
def out0_A_3 (c : Dev nD) (i : grid0.Coords) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole)
    (x0 : Vec F S6x128x128 .i32) (x1 : Vec F S1 .f32) (x2 : Vec F S3 .f32) (xt0 : TbBuf0 (F := F) c tbM0_0) (k0_hw1 : k0_chk1 (tbM0_0.view.readAt (Elt F) (Rect.unit (s := S255) (k0_off1 i) S1.size (k0_off1_inb i)).toLoadRect xt0 (Shape.Idx.first (numel1_S1.symm ▸ Nat.one_pos)))) : Vec F S3x128x128 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 arg13 harg13 x0 x1 x2 xt0 k0_hw1).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S3x128x128 .f32 :=
  out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (tbl m 0) (Hyps.c0 hH c t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO hH c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = (outsAt0 m hO hH c t) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3]
  rw [show (dats m hO hH 0 c).Φ t.castSucc = iprop(Pipeline.ΦA spec0 c ∗ Pipeline.ΦT pre0 (tbl m) c) from rfl, PhiT0_eq, PhiA0_eq]
  unfold outsAt0
  unfold out0_A_3
  iintro ⟨⟨⟨⟨HS0, HS1, HS2, HS3, HS4, HS5, HS6, HS7⟩, Hg⟩, HT0⟩, Ho, ⟨%d0, H0⟩, ⟨%d1, H1⟩, ⟨%d2, H2⟩, ⟨%d3, H3⟩⟩
  iapply ((kernelRun0_A c (grid0.coords t) _ _ _ _ _ _ _ _ _ _ _ _ _ _ _ _ _ _ _ _ _ _ _ _ (iblk m hO c 0 t) (iblk m hO c 1 t) (iblk m hO c 2 t) (tbl m 0) (Hyps.c0 hH c t)).2.2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HT0]; · iexact HT0
  iintro ⟨H0, H1, H2, ⟨%e3, H3⟩, ⟨%fT0, HS0⟩, HS1, HS2, HS3, ⟨%fT4, HS4⟩, ⟨%fT5, HS5⟩, HS6, ⟨%fT7, HS7⟩, HT0⟩
  isplitl [HS0 HS1 HS2 HS3 HS4 HS5 HS6 HS7 Hg HT0]
  · isplitl [HS0 HS1 HS2 HS3 HS4 HS5 HS6 HS7 Hg]
    · isplitl [HS0 HS1 HS2 HS3 HS4 HS5 HS6 HS7]
      · isplitl [HS0]
        · iexists _; unfold owns; iexists _; isplitr
          swap; · iexact HS0
          ipureintro; rfl
        isplitl [HS1]
        · iexact HS1
        isplitl [HS2]
        · iexact HS2
        isplitl [HS3]
        · iexact HS3
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexact HS6
        iexists _; unfold owns; iexists _; isplitr
        swap; · iexact HS7
        ipureintro; rfl
      iexact Hg
    iexact HT0
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO hH) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.Kernel.Gen

end
-- ==== Proof.HypsKernel.lean ====
/- The precondition `pre` gives what the frame asks: each side condition the body assumes of the word it reads from `kmax`
   holds of every word that is at most 40. -/
module

public import proofs.«01_k».proof.Proof.FrameKernel
public import proofs.«01_k».proof.Proof.Gen.Pre_pre
public import proofs.«01_k».proof.Defs

@[expose] public section

noncomputable section

namespace Cert.Kernel.Hand

open Cert.Kernel Cert.Kernel.Gen Idealize.ShloMosaic Idealize.ShloMosaic.TcCoe Idealize.SL.Sem

set_option maxRecDepth 100000 in
theorem chk1_ofNat : ∀ n : Fin 41, k0_chk1 (BitVec.ofNat 32 n.val) := by
  decide +kernel

theorem chk1_of (w : BitVec 32) (h : w.toNat ≤ 40) : k0_chk1 w := by
  have e := chk1_ofNat ⟨w.toNat, by omega⟩
  rwa [show BitVec.ofNat 32 w.toNat = w from BitVec.ofNat_toNat 32 w ▸ by simp] at e

/-- The two loops' upper bound is the word itself. -/
theorem bound (w : BitVec 32) :
    Scalar.addi 0#32 (Scalar.muli (Scalar.divsi (Scalar.subi w 0#32) 1#32) 1#32) = w ∧ Scalar.addi 0#32 (Scalar.subi w 0#32) = w := by
  have hc : ¬ IntOp.SDivCorner w 1#32 := by
    rintro (h | h) <;> revert h <;> simp
  simp [Scalar.addi, Scalar.muli, Scalar.divsi, Scalar.subi, IntOp.addi, IntOp.muli, IntOp.subi, IntOp.divsi, hc]

/-- Below zero neither loop has a trip, -/
theorem trips1 (w : BitVec 32) (h : w.toInt < 0) : (k0_t1_loop w).trips = 0 := by
  show Scf.trips 0#32 (Scalar.addi 0#32 (Scalar.muli (Scalar.divsi (Scalar.subi w 0#32) 1#32) 1#32)) 1#32 = 0
  rw [(bound w).1, Scf.trips, show (0#32).toInt = 0 from rfl, show (1#32).toInt = 1 from rfl]
  omega

theorem trips2 (w : BitVec 32) : (k0_t2_loop w).trips = 0 := by
  show Scf.trips (Scalar.addi 0#32 (Scalar.muli (Scalar.divsi (Scalar.subi w 0#32) 1#32) 1#32))
    (Scalar.addi 0#32 (Scalar.subi w 0#32)) 1#32 = 0
  rw [(bound w).1, (bound w).2, Scf.trips, show (1#32).toInt = 1 from rfl]
  omega

theorem ok1 (w : BitVec 32) (h : w.toInt < 0) : (k0_t1_loop w).OK := by
  refine ⟨show (0 : ℤ) < (1#32).toInt by decide, ?_⟩
  rw [show Scf.trips _ _ _ = 0 from trips1 w h]
  show (0#32).toInt + ((0 : ℕ) : ℤ) * (1#32).toInt < 2 ^ (32 - 1)
  decide

theorem ok2 (w : BitVec 32) : (k0_t2_loop w).OK := by
  refine ⟨show (0 : ℤ) < (1#32).toInt by decide, ?_⟩
  rw [show Scf.trips _ _ _ = 0 from trips2 w]
  show (Scalar.addi 0#32 (Scalar.muli (Scalar.divsi (Scalar.subi w 0#32) 1#32) 1#32)).toInt + _ < _
  rw [(bound w).1]
  have := BitVec.toInt_lt (x := w)
  omega

/-- and every condition on a trip holds of none. -/
theorem chk1_neg (w : BitVec 32) (h : w.toInt < 0) : k0_chk1 w := by
  have e1 : IsEmpty (Fin (k0_t1_loop w).trips) := by rw [trips1 w h]; infer_instance
  have e2 : IsEmpty (Fin (k0_t2_loop w).trips) := by rw [trips2 w]; infer_instance
  unfold k0_chk1 k0_chk1_0 k0_chk1_1
  refine ⟨?_, ?_⟩
  · refine ⟨ok1 w h, ?_⟩
    iterate 27 refine ⟨fun k => (e1.false k).elim, ?_⟩
    refine ⟨ok2 w, ?_⟩
    iterate 2 refine ⟨fun k => (e2.false k).elim, ?_⟩
    exact fun k => (e2.false k).elim
  · iterate 23 refine ⟨fun k => (e2.false k).elim, ?_⟩
    exact fun k => (e2.false k).elim

theorem hyps_of_le (m : (ℓ : Loc nD τ sig) → Buf (Elt Bits) ℓ) (hO : Ok m)
    (h : ∀ (c : Dev nD) (y : S255.Idx), (m ((c.tc : Thread nD τ).loc main_arg1) y : BitVec 32).toInt ≤ 40) : Hyps m hO :=
  Hyps.of fun c t => by
    have small {w : BitVec 32} (h : w.toInt ≤ 40) : k0_chk1 w := by
      rcases lt_or_ge w.toInt 0 with n | n
      · exact chk1_neg w n
      · refine chk1_of w ?_
        simp only [BitVec.toInt] at h n
        omega
    exact small (h 0 _)

theorem le_of_pre (w : BitVec 32) (h : IntOp.cmpi .sle w 40#32 = 1#1) : w.toInt ≤ 40 :=
  IntOp.cmpi_sle.1 h

theorem ok (m : (ℓ : Loc nD τ sig) → Buf (Elt Bits) ℓ) : Ok m := trivial

theorem hyps_of_pre (m : (ℓ : Loc nD τ sig) → Buf (Elt Bits) ℓ) (h : Cert.Pre_Kernel m) : Hyps m (ok m) :=
  hyps_of_le m _ fun c y => le_of_pre _ (congrFun (h c) y)

end Cert.Kernel.Hand

end
-- ==== Proof.RunKernelIdeal.lean ====
/- The kernel body's run on whole buffers: what its stores leave in each buffer, as pieces, found by running the body
   part by part. The body's first part itself calls parts, so it is opened before the parts are put in their skeleton form. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The moments' contents as loaded before they are first stored are never used: the part that is handed them runs as
    if handed the zeros it stores. -/
theorem k0_part89_dead : k0_part89 (F := F) = fun i arg1 harg1 arg2 harg2 arg3 harg3 arg4 harg4 arg5 harg5 arg6 harg6 arg7 harg7 arg8 harg8 arg9 harg9 arg10 harg10 arg11 harg11 arg12 harg12 arg13 harg13 v1 k0_hw1 v228 _ => k0_part89_skel i arg1 harg1 arg2 harg2 arg3 harg3 arg4 harg4 arg5 harg5 arg6 harg6 arg7 harg7 arg8 harg8 arg9 harg9 arg10 harg10 arg11 harg11 arg12 harg12 arg13 harg13 v1 k0_hw1 v228 v228 := by
  funext i arg1 harg1 arg2 harg2 arg3 harg3 arg4 harg4 arg5 harg5 arg6 harg6 arg7 harg7 arg8 harg8 arg9 harg9 arg10 harg10 arg11 harg11 arg12 harg12 arg13 harg13 v1 k0_hw1 v228 v229
  exact congrArg (fun f => f i arg1 harg1 arg2 harg2 arg3 harg3 arg4 harg4 arg5 harg5 arg6 harg6 arg7 harg7 arg8 harg8 arg9 harg9 arg10 harg10 arg11 harg11 arg12 harg12 arg13 harg13 v1 k0_hw1 v228 v229) (k0_part89_eq_skeleton (F := F))

-- (the run's proof term is large: the definition's epilogue — `abstractNestedProofs` — walks it past the default budget)
set_option maxHeartbeats 40000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole)
    (x0 : Vec F S6x128x128 .i32) (x1 : Vec F S1 .f32) (x2 : Vec F S3 .f32) (xt0 : TbBuf0 (F := F) c tbM0_0) (k0_hw1 : k0_chk1 (tbM0_0.view.readAt (Elt F) (Rect.unit (s := S255) (k0_off1 i) S1.size (k0_off1_inb i)).toLoadRect xt0 (Shape.Idx.first (numel1_S1.symm ▸ Nat.one_pos)))) :
    Σ' (L3 : List (View.Piece (Elt F) S3x128x128 .f32)), Σ' (LT0 : List (View.Piece (Elt F) S768x128 .i32)), Σ' (LT4 : List (View.Piece (Elt F) S8x40x128 .i32)), Σ' (LT5 : List (View.Piece (Elt F) S9x40x128 .f32)), { LT7 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LT4) ∗ (∃ f, arg11.view.loc (c : Thread nD τ) ↦[arg11.view.set]{fullShare} arg11.view.writes (Elt F) f LT5) ∗ (∃ d, owns (c : Thread nD τ) arg12 fullShare d) ∗ (∃ f, arg13.view.loc (c : Thread nD τ) ↦[arg13.view.set]{fullShare} arg13.view.writes (Elt F) f LT7) ∗ tbPt0 c tbM0_0 xt0) -∗ K ⟨⟩))
          ⊢ wp frame (wpE (defs₀ (F := F)) Variants.none c none) E (cc0_main i tbM0_0 htbM0_0 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_main_eq_skeleton]; unfold cc0_main_skel
    simp only [k0_part174_eq_skeleton]; unfold k0_part174_skel
    simp only [k0_part81_eq_skeleton, k0_part82_eq_skeleton, k0_part83_eq_skeleton, k0_part84_eq_skeleton, k0_part85_eq_skeleton, k0_part86_eq_skeleton, k0_part87_eq_skeleton, k0_part88_eq_skeleton, k0_part89_dead, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
    obtain rfl := harg2.eq_unread hf0; obtain rfl := harg3.eq_unread hf1; obtain rfl := harg4.eq_unread hf2
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    isplitl [HS5]; · iexists _; iexact HS5
    isplitl [HS6]
    · iexists _, _; isplitr; swap; · iexact HS6
      ipureintro; rfl
    isplitl [HS7]; · iexists _; iexact HS7
    iexact HT0

end Cert.KernelIdeal.Gen

end
-- ==== Proof.FrameKernelIdeal.lean ====
/- What the kernel's output holds point by point, the obligation of its body, the run of the whole program and its
   frame, from the run of the body in the module imported here. -/
module

public import proofs.«01_k».proof.Proof.RunKernelIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 3 tile its block (3 stores of `S1x128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole)
    (x0 : Vec F S6x128x128 .i32) (x1 : Vec F S1 .f32) (x2 : Vec F S3 .f32) (xt0 : TbBuf0 (F := F) c tbM0_0) (k0_hw1 : k0_chk1 (tbM0_0.view.readAt (Elt F) (Rect.unit (s := S255) (k0_off1 i) S1.size (k0_off1_inb i)).toLoadRect xt0 (Shape.Idx.first (numel1_S1.symm ▸ Nat.one_pos)))) (y : S3x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 xt0 k0_hw1).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 xt0 k0_hw1).1 S1x128x128.size (by sl_kernel_rfl) y

/-- What the run leaves in output 3's staging buffer: its pieces read back over junk. -/
def out0_A_3 (c : Dev nD) (i : grid0.Coords) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole)
    (x0 : Vec F S6x128x128 .i32) (x1 : Vec F S1 .f32) (x2 : Vec F S3 .f32) (xt0 : TbBuf0 (F := F) c tbM0_0) (k0_hw1 : k0_chk1 (tbM0_0.view.readAt (Elt F) (Rect.unit (s := S255) (k0_off1 i) S1.size (k0_off1_inb i)).toLoadRect xt0 (Shape.Idx.first (numel1_S1.symm ▸ Nat.one_pos)))) : Vec F S3x128x128 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 arg13 harg13 x0 x1 x2 xt0 k0_hw1).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S3x128x128 .f32 :=
  out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (tbl m 0) (Hyps.c0 hH c t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO hH c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = (outsAt0 m hO hH c t) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3]
  rw [show (dats m hO hH 0 c).Φ t.castSucc = iprop(Pipeline.ΦA spec0 c ∗ Pipeline.ΦT pre0 (tbl m) c) from rfl, PhiT0_eq, PhiA0_eq]
  unfold outsAt0
  unfold out0_A_3
  iintro ⟨⟨⟨⟨HS0, HS1, HS2, HS3, HS4, HS5, HS6, HS7⟩, Hg⟩, HT0⟩, Ho, ⟨%d0, H0⟩, ⟨%d1, H1⟩, ⟨%d2, H2⟩, ⟨%d3, H3⟩⟩
  iapply ((kernelRun0_A c (grid0.coords t) _ _ _ _ _ _ _ _ _ _ _ _ _ _ _ _ _ _ _ _ _ _ _ _ (iblk m hO c 0 t) (iblk m hO c 1 t) (iblk m hO c 2 t) (tbl m 0) (Hyps.c0 hH c t)).2.2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HT0]; · iexact HT0
  iintro ⟨H0, H1, H2, ⟨%e3, H3⟩, ⟨%fT0, HS0⟩, HS1, HS2, HS3, ⟨%fT4, HS4⟩, ⟨%fT5, HS5⟩, HS6, ⟨%fT7, HS7⟩, HT0⟩
  isplitl [HS0 HS1 HS2 HS3 HS4 HS5 HS6 HS7 Hg HT0]
  · isplitl [HS0 HS1 HS2 HS3 HS4 HS5 HS6 HS7 Hg]
    · isplitl [HS0 HS1 HS2 HS3 HS4 HS5 HS6 HS7]
      · isplitl [HS0]
        · iexists _; unfold owns; iexists _; isplitr
          swap; · iexact HS0
          ipureintro; rfl
        isplitl [HS1]
        · iexact HS1
        isplitl [HS2]
        · iexact HS2
        isplitl [HS3]
        · iexact HS3
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexact HS6
        iexists _; unfold owns; iexists _; isplitr
        swap; · iexact HS7
        ipureintro; rfl
      iexact Hg
    iexact HT0
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO hH) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.KernelIdeal.Gen

end
-- ==== Proof.HypsKernelIdeal.lean ====
/- The precondition `pre` gives what the frame asks: each side condition the body assumes of the word it reads from `kmax`
   holds of every word that is at most 40. -/
module

public import proofs.«01_k».proof.Proof.FrameKernelIdeal
public import proofs.«01_k».proof.Proof.Gen.Pre_pre
public import proofs.«01_k».proof.Defs

@[expose] public section

noncomputable section

namespace Cert.KernelIdeal.Hand

open Cert.KernelIdeal Cert.KernelIdeal.Gen Idealize.ShloMosaic Idealize.ShloMosaic.TcCoe Idealize.SL.Sem

set_option maxRecDepth 100000 in
theorem chk1_ofNat : ∀ n : Fin 41, k0_chk1 (BitVec.ofNat 32 n.val) := by
  decide +kernel

theorem chk1_of (w : BitVec 32) (h : w.toNat ≤ 40) : k0_chk1 w := by
  have e := chk1_ofNat ⟨w.toNat, by omega⟩
  rwa [show BitVec.ofNat 32 w.toNat = w from BitVec.ofNat_toNat 32 w ▸ by simp] at e

/-- The two loops' upper bound is the word itself. -/
theorem bound (w : BitVec 32) :
    Scalar.addi 0#32 (Scalar.muli (Scalar.divsi (Scalar.subi w 0#32) 1#32) 1#32) = w ∧ Scalar.addi 0#32 (Scalar.subi w 0#32) = w := by
  have hc : ¬ IntOp.SDivCorner w 1#32 := by
    rintro (h | h) <;> revert h <;> simp
  simp [Scalar.addi, Scalar.muli, Scalar.divsi, Scalar.subi, IntOp.addi, IntOp.muli, IntOp.subi, IntOp.divsi, hc]

/-- Below zero neither loop has a trip, -/
theorem trips1 (w : BitVec 32) (h : w.toInt < 0) : (k0_t1_loop w).trips = 0 := by
  show Scf.trips 0#32 (Scalar.addi 0#32 (Scalar.muli (Scalar.divsi (Scalar.subi w 0#32) 1#32) 1#32)) 1#32 = 0
  rw [(bound w).1, Scf.trips, show (0#32).toInt = 0 from rfl, show (1#32).toInt = 1 from rfl]
  omega

theorem trips2 (w : BitVec 32) : (k0_t2_loop w).trips = 0 := by
  show Scf.trips (Scalar.addi 0#32 (Scalar.muli (Scalar.divsi (Scalar.subi w 0#32) 1#32) 1#32))
    (Scalar.addi 0#32 (Scalar.subi w 0#32)) 1#32 = 0
  rw [(bound w).1, (bound w).2, Scf.trips, show (1#32).toInt = 1 from rfl]
  omega

theorem ok1 (w : BitVec 32) (h : w.toInt < 0) : (k0_t1_loop w).OK := by
  refine ⟨show (0 : ℤ) < (1#32).toInt by decide, ?_⟩
  rw [show Scf.trips _ _ _ = 0 from trips1 w h]
  show (0#32).toInt + ((0 : ℕ) : ℤ) * (1#32).toInt < 2 ^ (32 - 1)
  decide

theorem ok2 (w : BitVec 32) : (k0_t2_loop w).OK := by
  refine ⟨show (0 : ℤ) < (1#32).toInt by decide, ?_⟩
  rw [show Scf.trips _ _ _ = 0 from trips2 w]
  show (Scalar.addi 0#32 (Scalar.muli (Scalar.divsi (Scalar.subi w 0#32) 1#32) 1#32)).toInt + _ < _
  rw [(bound w).1]
  have := BitVec.toInt_lt (x := w)
  omega

/-- and every condition on a trip holds of none. -/
theorem chk1_neg (w : BitVec 32) (h : w.toInt < 0) : k0_chk1 w := by
  have e1 : IsEmpty (Fin (k0_t1_loop w).trips) := by rw [trips1 w h]; infer_instance
  have e2 : IsEmpty (Fin (k0_t2_loop w).trips) := by rw [trips2 w]; infer_instance
  unfold k0_chk1 k0_chk1_0 k0_chk1_1
  refine ⟨?_, ?_⟩
  · refine ⟨ok1 w h, ?_⟩
    iterate 27 refine ⟨fun k => (e1.false k).elim, ?_⟩
    refine ⟨ok2 w, ?_⟩
    iterate 2 refine ⟨fun k => (e2.false k).elim, ?_⟩
    exact fun k => (e2.false k).elim
  · iterate 23 refine ⟨fun k => (e2.false k).elim, ?_⟩
    exact fun k => (e2.false k).elim

theorem hyps_of_le (m : (ℓ : Loc nD τ sig) → Buf (Elt Ideal) ℓ) (hO : Ok m)
    (h : ∀ (c : Dev nD) (y : S255.Idx), (m ((c.tc : Thread nD τ).loc main_arg1) y : BitVec 32).toInt ≤ 40) : Hyps m hO :=
  Hyps.of fun c t => by
    have small {w : BitVec 32} (h : w.toInt ≤ 40) : k0_chk1 w := by
      rcases lt_or_ge w.toInt 0 with n | n
      · exact chk1_neg w n
      · refine chk1_of w ?_
        simp only [BitVec.toInt] at h n
        omega
    exact small (h 0 _)

theorem le_of_pre (w : BitVec 32) (h : IntOp.cmpi .sle w 40#32 = 1#1) : w.toInt ≤ 40 :=
  IntOp.cmpi_sle.1 h

theorem ok (m : (ℓ : Loc nD τ sig) → Buf (Elt Ideal) ℓ) : Ok m := trivial

theorem hyps_of_pre (m : (ℓ : Loc nD τ sig) → Buf (Elt Ideal) ℓ) (h : Cert.Pre_KernelIdeal m) : Hyps m (ok m) :=
  hyps_of_le m _ fun c y => le_of_pre _ (congrFun (h c) y)

end Cert.KernelIdeal.Hand

end
-- ==== Proof.Formula.lean ====
/- The arithmetic of the two programs over the real numbers, one block at a time: the walk from the back of the list that
   carries the transmittance and the colour behind, against quotients and sums over the later splats; and the running
   sums from which the kernel takes its moments, against sums over the pixels. -/
module

public import Idealize.ShloMosaic.PureOps.Ideal
public import Mathlib.Algebra.BigOperators.Intervals
public import Mathlib.Tactic.Ring
public import Mathlib.Tactic.FieldSimp
public import Mathlib.Tactic.NormNum

@[expose] public section

namespace Cert.Formula

open Finset

/-! ## Running sums -/

/-- The running sum of `g`: `g 0`, `g 0 + g 1`, … -/
def pfx {α : Type} [Add α] (g : ℕ → α) : ℕ → α
  | 0 => g 0
  | n + 1 => pfx g n + g (n + 1)

/-- Running sums of real numbers may be taken in the extended reals. -/
theorem pfx_coe (g : ℕ → ℝ) (n : ℕ) : pfx (fun i => (g i : EReal)) n = ((pfx g n : ℝ) : EReal) := by
  induction n with
  | zero => rfl
  | succ n ih => rw [pfx, pfx, ih, EReal.coe_add]

theorem pfx_congr {α : Type} [Add α] {g h : ℕ → α} {n : ℕ} (e : ∀ i, i ≤ n → g i = h i) : pfx g n = pfx h n := by
  induction n with
  | zero => exact e 0 le_rfl
  | succ n ih => rw [pfx, pfx, ih fun i hi => e i (by omega), e (n + 1) le_rfl]

/-- A running sum of real numbers is a sum. -/
theorem pfx_eq_sum (g : ℕ → ℝ) (n : ℕ) : pfx g n = ∑ i ∈ range (n + 1), g i := by
  induction n with
  | zero => simp [pfx]
  | succ n ih => rw [pfx, ih, sum_range_succ (n := n + 1)]

section Moments

variable {α : Type} [Add α]

/-- The moments of one row of eight pixels each in four rows, as the kernel accumulates them. -/
def mA (r : ℕ → ℕ → α) : α := pfx (fun y => pfx (r y) 7) 3
def mQ (r : ℕ → ℕ → α) : α := pfx (pfx (fun y => pfx (r y) 7)) 3
def mR (r : ℕ → ℕ → α) : α := pfx (pfx (pfx (fun y => pfx (r y) 7))) 3
def mB (r : ℕ → ℕ → α) : α := pfx (fun y => pfx (pfx (r y)) 7) 3
def mQB (r : ℕ → ℕ → α) : α := pfx (pfx (fun y => pfx (pfx (r y)) 7)) 3
def mC (r : ℕ → ℕ → α) : α := pfx (fun y => pfx (pfx (pfx (r y))) 7) 3

end Moments

theorem pfx2_coe (g : ℕ → ℝ) (n : ℕ) : pfx (pfx fun i => (g i : EReal)) n = ((pfx (pfx g) n : ℝ) : EReal) := by
  rw [← pfx_coe]; exact pfx_congr fun i _ => pfx_coe g i

theorem pfx3_coe (g : ℕ → ℝ) (n : ℕ) :
    pfx (pfx (pfx fun i => (g i : EReal))) n = ((pfx (pfx (pfx g)) n : ℝ) : EReal) := by
  rw [← pfx_coe]; exact pfx_congr fun i _ => pfx2_coe g i

theorem mA_coe (r : ℕ → ℕ → ℝ) : mA (fun y x => (r y x : EReal)) = ((mA r : ℝ) : EReal) := by
  simp only [mA, pfx_coe]
theorem mQ_coe (r : ℕ → ℕ → ℝ) : mQ (fun y x => (r y x : EReal)) = ((mQ r : ℝ) : EReal) := by
  simp only [mQ, pfx_coe, pfx2_coe]
theorem mR_coe (r : ℕ → ℕ → ℝ) : mR (fun y x => (r y x : EReal)) = ((mR r : ℝ) : EReal) := by
  simp only [mR, pfx_coe, pfx3_coe]
theorem mB_coe (r : ℕ → ℕ → ℝ) : mB (fun y x => (r y x : EReal)) = ((mB r : ℝ) : EReal) := by
  simp only [mB, pfx_coe, pfx2_coe]
theorem mQB_coe (r : ℕ → ℕ → ℝ) : mQB (fun y x => (r y x : EReal)) = ((mQB r : ℝ) : EReal) := by
  simp only [mQB, pfx_coe, pfx2_coe]
theorem mC_coe (r : ℕ → ℕ → ℝ) : mC (fun y x => (r y x : EReal)) = ((mC r : ℝ) : EReal) := by
  simp only [mC, pfx_coe, pfx3_coe]

/-- The sum over the 32 pixels of one sublane. -/
def sum32 (r : ℕ → ℕ → ℝ) : ℝ := ∑ y ∈ range 4, ∑ x ∈ range 8, r y x

theorem m0 (r : ℕ → ℕ → ℝ) : mA r = sum32 r := by
  simp only [sum32, mA, pfx, sum_range_succ, range_zero, sum_empty]; ring
theorem mx (a : ℝ) (r : ℕ → ℕ → ℝ) : (a + 16) * mA r - 2 * mB r = sum32 fun y x => (2 * x + a) * r y x := by
  simp only [sum32, mA, mB, pfx, sum_range_succ, range_zero, sum_empty]; push_cast; ring
theorem my (b : ℝ) (r : ℕ → ℕ → ℝ) : (b + 16) * mA r - 4 * mQ r = sum32 fun y x => (4 * y + b) * r y x := by
  simp only [sum32, mA, mQ, pfx, sum_range_succ, range_zero, sum_empty]; push_cast; ring
theorem mxx (a : ℝ) (r : ℕ → ℕ → ℝ) :
    (a + 16) * (a + 16) * mA r - 4 * (a + 16) * mB r + 4 * (2 * mC r - mB r)
      = sum32 fun y x => (2 * x + a) * (2 * x + a) * r y x := by
  simp only [sum32, mA, mB, mC, pfx, sum_range_succ, range_zero, sum_empty]; push_cast; ring
theorem mxy (a b : ℝ) (r : ℕ → ℕ → ℝ) :
    (a + 16) * (b + 16) * mA r - 4 * (a + 16) * mQ r - 2 * (b + 16) * mB r + 8 * mQB r
      = sum32 fun y x => (2 * x + a) * (4 * y + b) * r y x := by
  simp only [sum32, mA, mB, mQ, mQB, pfx, sum_range_succ, range_zero, sum_empty]; push_cast; ring
theorem myy (b : ℝ) (r : ℕ → ℕ → ℝ) :
    (b + 16) * (b + 16) * mA r - 8 * (b + 16) * mQ r + 16 * (2 * mR r - mQ r)
      = sum32 fun y x => (4 * y + b) * (4 * y + b) * r y x := by
  simp only [sum32, mA, mQ, mR, pfx, sum_range_succ, range_zero, sum_empty]; push_cast; ring

/-- The colour sums run over the 32 pixels in one go. -/
theorem pfx31 (t : ℕ → ℝ) : pfx t 31 = sum32 fun y x => t (8 * y + x) := by
  simp only [sum32, pfx, sum_range_succ, range_zero, sum_empty]; norm_num; ring

/-- The sum over a block's pixels, sublane by sublane. -/
theorem sum_pixels (g : ℕ → ℝ) :
    ∑ f ∈ range 256, g f = ∑ s ∈ range 8, sum32 fun y x => g (64 * y + 8 * x + s) := by
  simp only [sum32, ← Finset.sum_product']
  refine Finset.sum_nbij' (fun f => (f % 8, f / 64, f / 8 % 8)) (fun p => 64 * p.2.1 + 8 * p.2.2 + p.1) ?_ ?_ ?_ ?_ ?_
  · simp only [mem_range, mem_product]; omega
  · simp only [mem_range, mem_product]; omega
  · simp only [mem_range]; omega
  · rintro ⟨s, y, x⟩; simp only [mem_range, mem_product, Prod.mk.injEq]; omega
  · simp only [mem_range]; intro f hf; congr 1; omega

/-! ## The walk from the back -/

section Walk

variable (n : ℕ) (al gc : ℕ → ℝ) (fT gb : ℝ)

/-- The transmittance in front of place `k`. -/
noncomputable def trans (k : ℕ) : ℝ := fT / ∏ j ∈ Ico k n, (1 - al j)

/-- The colour behind after `t` steps from the back. -/
def behind : ℕ → ℝ
  | 0 => gb
  | t + 1 => behind t + al (n - 1 - t) * (gc (n - 1 - t) - behind t)

variable {n al gc fT gb}

theorem trans_step {k : ℕ} (hk : k < n) : trans n al fT k = trans n al fT (k + 1) * (1 / (1 - al k)) := by
  unfold trans
  rw [Finset.prod_eq_prod_Ico_succ_bot hk, div_mul_eq_div_div, div_right_comm, mul_one_div]

theorem behind_step {k : ℕ} (hk : k < n) :
    behind n al gc gb (n - k) = behind n al gc gb (n - (k + 1)) + al k * (gc k - behind n al gc gb (n - (k + 1))) := by
  obtain ⟨t, ht⟩ : ∃ t, n - k = t + 1 := ⟨n - (k + 1), by omega⟩
  have h1 : n - (k + 1) = t := by omega
  have h2 : n - 1 - t = k := by omega
  rw [ht, h1, behind, h2]

/-- Past the last splat there is only the background. -/
theorem behind_of_zero {k : ℕ} (hz : ∀ j, k ≤ j → al j = 0) (hk : k ≤ n) : behind n al gc gb (n - k) = gb := by
  have : ∀ t, t ≤ n - k → behind n al gc gb t = gb := by
    intro t
    induction t with
    | zero => intro _; rfl
    | succ t ih => intro ht; rw [behind, ih (by omega), hz _ (by omega)]; ring
  exact this _ le_rfl

theorem trans_of_zero {k : ℕ} (hz : ∀ j, k ≤ j → al j = 0) : trans n al fT k = fT := by
  unfold trans
  rw [Finset.prod_eq_one, div_one]
  intro j hj; rw [hz j (mem_Ico.1 hj).1]; ring

/-- Transmittance times colour behind is the sum over the later splats. -/
theorem trans_behind (h : ∀ j, j < n → 1 - al j ≠ 0) {k : ℕ} (hk : k ≤ n) :
    trans n al fT k * behind n al gc gb (n - k)
      = ∑ j ∈ Ico k n, al j * trans n al fT j * gc j + fT * gb := by
  induction hk using Nat.decreasingInduction with
  | self => simp [trans, behind]
  | of_succ k hk ih =>
    have e : trans n al fT (k + 1) = trans n al fT k * (1 - al k) := by
      rw [trans_step hk]; field_simp [h k hk]
    rw [Finset.sum_eq_sum_Ico_succ_bot hk, behind_step hk, add_assoc, ← ih, e]; ring

/-- The gradient with respect to a splat's alpha: the quotient formula against the walk's. -/
theorem dalpha_eq (h : ∀ j, j < n → 1 - al j ≠ 0) (gs : ℝ) {k : ℕ} (hk : k < n) :
    trans n al fT k * (gs * gc k)
        - (∑ j ∈ Ico (k + 1) n, al j * trans n al fT j * (gs * gc j) + fT * (gs * gb)) / (1 - al k)
      = gs * (trans n al fT k * (gc k - behind n al gc gb (n - (k + 1)))) := by
  have e : ∑ j ∈ Ico (k + 1) n, al j * trans n al fT j * (gs * gc j) + fT * (gs * gb)
      = gs * (trans n al fT (k + 1) * behind n al gc gb (n - (k + 1))) := by
    rw [trans_behind h hk, mul_add, Finset.mul_sum]
    congr 1
    · exact Finset.sum_congr rfl fun j _ => by ring
    · ring
  rw [e, trans_step hk]; field_simp [h k hk]

end Walk

/-! ## One splat's gradients -/

section Splat

variable (u v ca cb cc : ℝ)

/-- The kernel's sum over sublanes of a moment. -/
def sub8 {α : Type} [Add α] (f : ℕ → α) : α := pfx f 7

theorem sub8_eq (f : ℕ → ℝ) : sub8 f = ∑ s ∈ range 8, f s := pfx_eq_sum f 7

/-- The first pixel coordinate of sublane `s`, and the second. -/
noncomputable def sx (s : ℕ) : ℝ := (s / 4 : ℕ) - 7.5
noncomputable def sy (s : ℕ) : ℝ := (s % 4 : ℕ) - 7.5

/-- The pixel coordinates of pixel `f`. -/
noncomputable def px (f : ℕ) : ℝ := (f / 4 % 16 : ℕ) + 0.5 - 8
noncomputable def py (f : ℕ) : ℝ := (4 * (f / 64) + f % 4 : ℕ) + 0.5 - 8

theorem px_eq {y x s : ℕ} (hx : x < 8) (hs : s < 8) : px (64 * y + 8 * x + s) = 2 * x + sx s := by
  have : (64 * y + 8 * x + s) / 4 % 16 = 2 * x + s / 4 := by omega
  rw [px, sx, this]; push_cast; ring

theorem py_eq {y x s : ℕ} (hx : x < 8) (hs : s < 8) : py (64 * y + 8 * x + s) = 4 * y + sy s := by
  have h1 : (64 * y + 8 * x + s) / 64 = y := by omega
  have h2 : (64 * y + 8 * x + s) % 4 = s % 4 := by omega
  rw [py, sy, h1, h2]; push_cast; ring

theorem sum32_congr {g h : ℕ → ℕ → ℝ} (e : ∀ y x, y < 4 → x < 8 → g y x = h y x) : sum32 g = sum32 h :=
  Finset.sum_congr rfl fun y hy => Finset.sum_congr rfl fun x hx => e y x (mem_range.1 hy) (mem_range.1 hx)

variable (r : ℕ → ℝ)

/-- Sublane `s` of a quantity given by pixel. -/
def sl (s : ℕ) : ℕ → ℕ → ℝ := fun y x => r (64 * y + 8 * x + s)

noncomputable def S0 : ℝ := sub8 fun s => mA (sl r s)
noncomputable def Sx : ℝ := sub8 fun s => (sx s + 16) * mA (sl r s) - 2 * mB (sl r s)
noncomputable def Sy : ℝ := sub8 fun s => (sy s + 16) * mA (sl r s) - 4 * mQ (sl r s)
noncomputable def Sxx : ℝ := sub8 fun s =>
  (sx s + 16) * (sx s + 16) * mA (sl r s) - 4 * (sx s + 16) * mB (sl r s) + 4 * (2 * mC (sl r s) - mB (sl r s))
noncomputable def Sxy : ℝ := sub8 fun s =>
  (sx s + 16) * (sy s + 16) * mA (sl r s) - 4 * (sx s + 16) * mQ (sl r s) - 2 * (sy s + 16) * mB (sl r s)
    + 8 * mQB (sl r s)
noncomputable def Syy : ℝ := sub8 fun s =>
  (sy s + 16) * (sy s + 16) * mA (sl r s) - 8 * (sy s + 16) * mQ (sl r s) + 16 * (2 * mR (sl r s) - mQ (sl r s))

theorem S0_eq : S0 r = ∑ f ∈ range 256, r f := by
  rw [S0, sub8_eq, sum_pixels]; exact Finset.sum_congr rfl fun s _ => m0 _

theorem Sx_eq : Sx r = ∑ f ∈ range 256, px f * r f := by
  rw [Sx, sub8_eq, sum_pixels]
  refine Finset.sum_congr rfl fun s hs => (mx _ _).trans (sum32_congr fun y x _ hx => ?_)
  rw [px_eq hx (mem_range.1 hs)]; rfl

theorem Sy_eq : Sy r = ∑ f ∈ range 256, py f * r f := by
  rw [Sy, sub8_eq, sum_pixels]
  refine Finset.sum_congr rfl fun s hs => (my _ _).trans (sum32_congr fun y x _ hx => ?_)
  rw [py_eq hx (mem_range.1 hs)]; rfl

theorem Sxx_eq : Sxx r = ∑ f ∈ range 256, px f * px f * r f := by
  rw [Sxx, sub8_eq, sum_pixels]
  refine Finset.sum_congr rfl fun s hs => (mxx _ _).trans (sum32_congr fun y x _ hx => ?_)
  rw [px_eq hx (mem_range.1 hs)]; rfl

theorem Sxy_eq : Sxy r = ∑ f ∈ range 256, px f * py f * r f := by
  rw [Sxy, sub8_eq, sum_pixels]
  refine Finset.sum_congr rfl fun s hs => (mxy _ _ _).trans (sum32_congr fun y x _ hx => ?_)
  rw [px_eq hx (mem_range.1 hs), py_eq hx (mem_range.1 hs)]; rfl

theorem Syy_eq : Syy r = ∑ f ∈ range 256, py f * py f * r f := by
  rw [Syy, sub8_eq, sum_pixels]
  refine Finset.sum_congr rfl fun s hs => (myy _ _).trans (sum32_congr fun y x _ hx => ?_)
  rw [py_eq hx (mem_range.1 hs)]; rfl

noncomputable def Dx : ℝ := u * S0 r - Sx r
noncomputable def Dy : ℝ := v * S0 r - Sy r
noncomputable def Dxx : ℝ := u * (Dx u r - Sx r) + Sxx r
noncomputable def Dyy : ℝ := v * (Dy v r - Sy r) + Syy r
noncomputable def Dxy : ℝ := u * Dy v r - v * Sx r + Sxy r

theorem Dx_eq : Dx u r = ∑ f ∈ range 256, (u - px f) * r f := by
  rw [Dx, S0_eq, Sx_eq, Finset.mul_sum, ← Finset.sum_sub_distrib]; exact Finset.sum_congr rfl fun f _ => by ring
theorem Dy_eq : Dy v r = ∑ f ∈ range 256, (v - py f) * r f := by
  rw [Dy, S0_eq, Sy_eq, Finset.mul_sum, ← Finset.sum_sub_distrib]; exact Finset.sum_congr rfl fun f _ => by ring
theorem Dxx_eq : Dxx u r = ∑ f ∈ range 256, (u - px f) * (u - px f) * r f := by
  rw [Dxx, Dx_eq, Sx_eq, Sxx_eq, ← Finset.sum_sub_distrib, Finset.mul_sum, ← Finset.sum_add_distrib]
  exact Finset.sum_congr rfl fun f _ => by ring
theorem Dyy_eq : Dyy v r = ∑ f ∈ range 256, (v - py f) * (v - py f) * r f := by
  rw [Dyy, Dy_eq, Sy_eq, Syy_eq, ← Finset.sum_sub_distrib, Finset.mul_sum, ← Finset.sum_add_distrib]
  exact Finset.sum_congr rfl fun f _ => by ring
theorem Dxy_eq : Dxy u v r = ∑ f ∈ range 256, (u - px f) * (v - py f) * r f := by
  rw [Dxy, Dy_eq, Sx_eq, Sxy_eq, Finset.mul_sum, Finset.mul_sum, ← Finset.sum_sub_distrib, ← Finset.sum_add_distrib]
  exact Finset.sum_congr rfl fun f _ => by ring

end Splat

end Cert.Formula

end
-- ==== Proof.Spec.lean ====
/- What one block's words denote, and the reference's gradients of one block as extended reals: the plain formula. -/
module

public import proofs.«01_k».proof.Proof.Formula
public import Idealize.ShloMosaic.Lib.ValueIdxCore

@[expose] public section

noncomputable section

namespace Cert.Spec

open Idealize.ShloMosaic Finset

variable (w : ℕ → BitVec 32) (gs : EReal) (bg : ℕ → EReal)

/-- The float a word denotes. -/
abbrev fl (x : BitVec 32) : EReal := Ideal.ofBits .f32 x

/-- Parameter word `p` of place `k`: the first 32 places and the last four lie apart. -/
def prm (p k : ℕ) : BitVec 32 := if k < 32 then w (448 + 32 * p + k) else w (704 + 4 * p + (k - 32))

/-- Whether place `k` holds a splat of the block's list. -/
def listed (k : ℕ) : BitVec 1 := IntOp.cmpi .slt (BitVec.ofNat 32 k) (w 736)

/-- The gradient of colour `c` at pixel `f`, before the scale; the colour `c` of splat `k`. -/
def gcode (c f : ℕ) : EReal := Ideal.ofBits .fp8e5m2 ((w (256 + 64 * c + f / 4)).extractLsb' (8 * (f % 4)) 8)
def colour (c k : ℕ) : EReal := Ideal.ofBits .fp8e4m3 ((prm w 6 k).extractLsb' (8 * c) 8) * fl (prm w 7 k)

def dx (k f : ℕ) : EReal := fl (prm w 0 k) - ((Formula.px f : ℝ) : EReal)
def dy (k f : ℕ) : EReal := fl (prm w 1 k) - ((Formula.py f : ℝ) : EReal)

def vis (k f : ℕ) : EReal :=
  Ideal.exp (-(((1 / 2 : ℝ) : EReal)
    * (fl (prm w 2 k) * dx w k f * dx w k f + fl (prm w 4 k) * dy w k f * dy w k f)
    + fl (prm w 3 k) * dx w k f * dy w k f))

def alpha (k f : ℕ) : EReal := Scalar.select (listed w k) (fl (prm w 5 k) * vis w k f) 0

def grad (c f : ℕ) : EReal := gcode w c f * gs

def trans (k f : ℕ) : EReal :=
  Ideal.div (fl (w f)) (∏ j ∈ range 36, if k ≤ j then 1 - alpha w j f else 1)

def weight (k f : ℕ) : EReal := alpha w k f * trans w k f

def gcol (k f : ℕ) : EReal :=
  colour w 0 k * grad w gs 0 f + colour w 1 k * grad w gs 1 f + colour w 2 k * grad w gs 2 f

def gback (f : ℕ) : EReal := grad w gs 0 f * bg 0 + grad w gs 1 f * bg 1 + grad w gs 2 f * bg 2

def later (k f : ℕ) : EReal :=
  (∑ j ∈ range 36, if k < j then weight w j f * gcol w gs j f else 0) + fl (w f) * gback w gs bg f

def dalpha (k f : ℕ) : EReal :=
  Scalar.select (listed w k) (trans w k f * gcol w gs k f - Ideal.div (later w gs bg k f) (1 - alpha w k f)) 0

def dsigma (k f : ℕ) : EReal := -alpha w k f * dalpha w gs bg k f

/-- Quantity `q` of splat `k` at pixel `f`, before the sum over pixels. -/
def term (q k f : ℕ) : EReal :=
  match q with
  | 0 => dsigma w gs bg k f * (fl (prm w 2 k) * dx w k f + fl (prm w 3 k) * dy w k f)
  | 1 => dsigma w gs bg k f * (fl (prm w 3 k) * dx w k f + fl (prm w 4 k) * dy w k f)
  | 2 => vis w k f * dalpha w gs bg k f
  | 3 => ((1 / 2 : ℝ) : EReal) * dsigma w gs bg k f * dx w k f * dx w k f
  | 4 => dsigma w gs bg k f * dx w k f * dy w k f
  | 5 => ((1 / 2 : ℝ) : EReal) * dsigma w gs bg k f * dy w k f * dy w k f
  | 6 => weight w k f * grad w gs 0 f
  | 7 => weight w k f * grad w gs 1 f
  | _ => weight w k f * grad w gs 2 f

/-- Quantity `q` of splat `k`. -/
def out (q k : ℕ) : EReal := ∑ f ∈ range 256, term w gs bg q k f

/-- Row `r` of the block's 384 output rows: the first 32 places quantity by quantity, then the last four, then zeros. -/
def row (r : ℕ) : EReal :=
  if r < 288 then out w gs bg (r / 32) (r % 32)
  else if r < 324 then out w gs bg ((r - 288) / 4) (32 + (r - 288) % 4) else 0

/-- The words of block `n`. -/
def wd (X : (⟨3, ![6, 32640, 128]⟩ : Shape).Idx → BitVec 32) (n : Fin 32640) (i : ℕ) : BitVec 32 :=
  X (fun a => match a with
    | ⟨0, _⟩ => ⟨i / 128 % 6, Nat.mod_lt _ (by decide)⟩ | ⟨1, _⟩ => n | ⟨2, _⟩ => ⟨i % 128, Nat.mod_lt _ (by decide)⟩)

/-- The background, by colour. -/
def bgd (B : (⟨1, ![3]⟩ : Shape).Idx → EReal) (c : ℕ) : EReal :=
  B (fun a => match a with | ⟨0, _⟩ => ⟨c % 3, Nat.mod_lt _ (by decide)⟩)

/-- The whole result: element `(i, n, j)` is row `128 i + j` of block `n`. -/
def result (X : (⟨3, ![6, 32640, 128]⟩ : Shape).Idx → BitVec 32) (G : (⟨1, ![1]⟩ : Shape).Idx → EReal)
    (B : (⟨1, ![3]⟩ : Shape).Idx → EReal) : (⟨3, ![3, 32640, 128]⟩ : Shape).Idx → EReal :=
  fun i => row (wd X (i 1)) (G (ValueIdx.ix1 0)) (bgd B) (128 * (i 0).val + (i 2).val)

end Cert.Spec

end

end
-- ==== Proof.RefRead.lean ====
/- The reference program read element by element: what each of its arrays holds at a splat, a pixel and a block. -/
module

public import proofs.«01_k».proof.Proof.Spec
public import proofs.«01_k».proof.Proof.Gen.ReferenceIdeal.Read
public import Idealize.ShloMosaic.Lib.Pointwise.SelectCore

@[expose] public section

noncomputable section

namespace Cert.RefRead

open Cert.ReferenceIdeal Cert.ReferenceIdeal.Gen Cert.ReferenceIdeal.Read Cert.Spec Idealize.ShloMosaic

/-! ## Constants and comparisons -/

theorem half : Ideal.ofBits .f32 0x3F000000#32 = ((1 / 2 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem one : Ideal.ofBits .f32 0x3F800000#32 = (1 : EReal) := by
  simp [Ideal.ofBits, Ideal.ieee, -EReal.coe_mul]; norm_num
theorem zero : Ideal.ofBits .f32 0x00000000#32 = (0 : EReal) := by
  simp [Ideal.ofBits, Ideal.ieee]

theorem select_sle (k j : Fin 36) (a b : EReal) :
    Scalar.select (IntOp.cmpi .sle (BitVec.ofNat 32 k.val) (BitVec.ofNat 32 j.val)) a b = if k.val ≤ j.val then a else b := by
  have : ∀ k j : Fin 36, IntOp.cmpi .sle (BitVec.ofNat 32 k.val) (BitVec.ofNat 32 j.val)
      = if k.val ≤ j.val then 1#1 else 0#1 := by decide +kernel
  rw [this]; split <;> simp [Scalar.select]

theorem select_slt (k j : Fin 36) (a b : EReal) :
    Scalar.select (IntOp.cmpi .slt (BitVec.ofNat 32 k.val) (BitVec.ofNat 32 j.val)) a b = if k.val < j.val then a else b := by
  have : ∀ k j : Fin 36, IntOp.cmpi .slt (BitVec.ofNat 32 k.val) (BitVec.ofNat 32 j.val)
      = if k.val < j.val then 1#1 else 0#1 := by decide +kernel
  rw [this]; split <;> simp [Scalar.select]

theorem sitofp_real (b : BitVec 32) : FloatOps.sitofp (F := Ideal) .f32 b = ((b.toInt : ℝ) : EReal) := rfl

/-- The pixel coordinates, as the reference counts them. -/
theorem px_read (n : Fin 256) : (FloatOps.sitofp (F := Ideal) .f32 (BitVec.ofNat 32 (n.val / 4 % 16)) + ((1 / 2 : ℝ) : EReal))
    - ((8 : ℝ) : EReal) = ((Formula.px n.val : ℝ) : EReal) := by
  have : ∀ n : Fin 256, (BitVec.ofNat 32 (n.val / 4 % 16)).toInt = (n.val / 4 % 16 : ℕ) := by decide +kernel
  rw [sitofp_real, this, Int.cast_natCast, ← EReal.coe_add, ← EReal.coe_sub, Formula.px]
  norm_num

theorem py_read (n : Fin 256) : (FloatOps.sitofp (F := Ideal) .f32
      (IntOp.addi (IntOp.muli 4#32 (BitVec.ofNat 32 (n.val / 64))) (BitVec.ofNat 32 (n.val % 4))) + ((1 / 2 : ℝ) : EReal))
    - ((8 : ℝ) : EReal) = ((Formula.py n.val : ℝ) : EReal) := by
  have : ∀ n : Fin 256, (IntOp.addi (IntOp.muli 4#32 (BitVec.ofNat 32 (n.val / 64))) (BitVec.ofNat 32 (n.val % 4))).toInt
      = (4 * (n.val / 64) + n.val % 4 : ℕ) := by decide +kernel
  rw [sitofp_real, this, Int.cast_natCast, ← EReal.coe_add, ← EReal.coe_sub, Formula.py]
  norm_num

/-! ## What the reference reads its words from -/

/-- The arrays the reference's lines after its decoding call start from, in terms of the blocks' words. -/
structure Reads (X : (⟨3, ![6, 32640, 128]⟩ : Shape).Idx → BitVec 32)
    (r0 : (⟨S768x32640, .f32⟩ : BufTy).Contents (Elt Ideal)) (r1 : (⟨S144x32640, .f32⟩ : BufTy).Contents (Elt Ideal))
    (e0 : (⟨S768x32640, .i32⟩ : BufTy).Contents (Elt Ideal)) (e1 : (⟨S256x32640, .f32⟩ : BufTy).Contents (Elt Ideal)) : Prop where
  words : ∀ i : S768x32640.Idx, e0 i = wd X (i 1) (i 0).val
  final : ∀ i : S256x32640.Idx, e1 i = fl (wd X (i 1) (i 0).val)
  grads : ∀ i : S768x32640.Idx, r0 i
    = Ideal.ofBits .fp8e5m2 ((wd X (i 1) (256 + (i 0).val / 4)).extractLsb' (8 * ((i 0).val % 4)) 8)
  codes : ∀ i : S144x32640.Idx, r1 i
    = Ideal.ofBits .fp8e4m3 ((prm (wd X (i 1)) 6 ((i 0).val / 4)).extractLsb' (8 * ((i 0).val % 4)) 8)

variable {X : (⟨3, ![6, 32640, 128]⟩ : Shape).Idx → BitVec 32}
  {r0 : (⟨S768x32640, .f32⟩ : BufTy).Contents (Elt Ideal)} {r1 : (⟨S144x32640, .f32⟩ : BufTy).Contents (Elt Ideal)}
  {e0 : (⟨S768x32640, .i32⟩ : BufTy).Contents (Elt Ideal)} {e1 : (⟨S256x32640, .f32⟩ : BufTy).Contents (Elt Ideal)}
  {x2 : (⟨S1, .f32⟩ : BufTy).Contents (Elt Ideal)} {x3 : (⟨S3, .f32⟩ : BufTy).Contents (Elt Ideal)}

/-- A parameter's 36 words, joined from two slices. -/
theorem join (p : ℕ) (x : S32x32640.Idx → BitVec 32) (y : S4x32640.Idx → BitVec 32)
    (hx : ∀ i, x i = wd X (i 1) (448 + 32 * p + (i 0).val)) (hy : ∀ i, y i = wd X (i 1) (704 + 4 * p + (i 0).val))
    (h : Shape.Concatenates [S32x32640, S4x32640] S36x32640 0) (j : S36x32640.Idx) :
    concatenate S36x32640 0 [⟨S32x32640, x⟩, ⟨S4x32640, y⟩] h j = prm (wd X (j 1)) p (j 0).val := by
  rw [concatenate_pair_apply]
  split
  · rename_i hlt
    exact (hx _).trans (if_pos hlt : prm (wd X (j 1)) p (j 0).val = _).symm
  · rename_i hlt
    exact (hy _).trans (if_neg hlt : prm (wd X (j 1)) p (j 0).val = _).symm

section

variable (H : Reads X r0 r1 e0 e1)
include H

theorem r24 (i : S36x32640.Idx) : val_main_v24 (F := Ideal) e0 i = prm (wd X (i 1)) 0 (i 0).val :=
  join 0 _ _ (fun i => by rw [val_main_v22_apply, H.words]; rfl) (fun i => by rw [val_main_v23_apply, H.words]; rfl) _ i
theorem r29 (i : S36x32640.Idx) : val_main_v29 (F := Ideal) e0 i = prm (wd X (i 1)) 1 (i 0).val :=
  join 1 _ _ (fun i => by rw [val_main_v27_apply, H.words]; rfl) (fun i => by rw [val_main_v28_apply, H.words]; rfl) _ i
theorem r34 (i : S36x32640.Idx) : val_main_v34 (F := Ideal) e0 i = prm (wd X (i 1)) 2 (i 0).val :=
  join 2 _ _ (fun i => by rw [val_main_v32_apply, H.words]; rfl) (fun i => by rw [val_main_v33_apply, H.words]; rfl) _ i
theorem r39 (i : S36x32640.Idx) : val_main_v39 (F := Ideal) e0 i = prm (wd X (i 1)) 3 (i 0).val :=
  join 3 _ _ (fun i => by rw [val_main_v37_apply, H.words]; rfl) (fun i => by rw [val_main_v38_apply, H.words]; rfl) _ i
theorem r44 (i : S36x32640.Idx) : val_main_v44 (F := Ideal) e0 i = prm (wd X (i 1)) 4 (i 0).val :=
  join 4 _ _ (fun i => by rw [val_main_v42_apply, H.words]; rfl) (fun i => by rw [val_main_v43_apply, H.words]; rfl) _ i
theorem r49 (i : S36x32640.Idx) : val_main_v49 (F := Ideal) e0 i = prm (wd X (i 1)) 5 (i 0).val :=
  join 5 _ _ (fun i => by rw [val_main_v47_apply, H.words]; rfl) (fun i => by rw [val_main_v48_apply, H.words]; rfl) _ i
theorem r17 (i : S36x32640.Idx) : val_main_v17 (F := Ideal) e0 i = prm (wd X (i 1)) 7 (i 0).val :=
  join 7 _ _ (fun i => by rw [val_main_v15_apply, H.words]; rfl) (fun i => by rw [val_main_v16_apply, H.words]; rfl) _ i

theorem r26 (i : S36x1x32640.Idx) : val_main_v26 (F := Ideal) e0 i = fl (prm (wd X (i 2)) 0 (i 0).val) := by
  rw [val_main_v26_apply, val_main_v25_apply, r24 H]; rfl
theorem r31 (i : S36x1x32640.Idx) : val_main_v31 (F := Ideal) e0 i = fl (prm (wd X (i 2)) 1 (i 0).val) := by
  rw [val_main_v31_apply, val_main_v30_apply, r29 H]; rfl
theorem r36 (i : S36x1x32640.Idx) : val_main_v36 (F := Ideal) e0 i = fl (prm (wd X (i 2)) 2 (i 0).val) := by
  rw [val_main_v36_apply, val_main_v35_apply, r34 H]; rfl
theorem r41 (i : S36x1x32640.Idx) : val_main_v41 (F := Ideal) e0 i = fl (prm (wd X (i 2)) 3 (i 0).val) := by
  rw [val_main_v41_apply, val_main_v40_apply, r39 H]; rfl
theorem r46 (i : S36x1x32640.Idx) : val_main_v46 (F := Ideal) e0 i = fl (prm (wd X (i 2)) 4 (i 0).val) := by
  rw [val_main_v46_apply, val_main_v45_apply, r44 H]; rfl
theorem r51 (i : S36x1x32640.Idx) : val_main_v51 (F := Ideal) e0 i = fl (prm (wd X (i 2)) 5 (i 0).val) := by
  rw [val_main_v51_apply, val_main_v50_apply, r49 H]; rfl

omit H in
theorem r58 (i : S256.Idx) : val_main_v58 (F := Ideal) i = ((Formula.px (i 0).val : ℝ) : EReal) := by
  rw [val_main_v58_apply, val_main_v56_apply, val_main_v54_apply, val_main_v53_apply, val_main_v52_apply,
    val_main_v55_apply, val_main_v57_apply, val_main_cst_apply, val_main_cst_0_apply]
  have := px_read (i 0)
  rw [← half, ← eight] at this
  exact this

omit H in
theorem r70 (i : S256.Idx) : val_main_v70 (F := Ideal) i = ((Formula.py (i 0).val : ℝ) : EReal) := by
  rw [val_main_v70_apply, val_main_v68_apply, val_main_v66_apply, val_main_v65_apply, val_main_v62_apply,
    val_main_v61_apply, val_main_c_apply, val_main_v60_apply, val_main_v59_apply, val_main_v64_apply, val_main_v63_apply,
    val_main_v67_apply, val_main_v69_apply, val_main_cst_1_apply, val_main_cst_2_apply]
  have := py_read (i 0)
  rw [← half, ← eight] at this
  exact this

theorem r74 (i : S36x256x32640.Idx) : val_main_v74 (F := Ideal) e0 i = dx (wd X (i 2)) (i 0).val (i 1).val := by
  rw [val_main_v74_apply, val_main_v72_apply, r26 H, val_main_v73_apply, val_main_v71_apply, r58]; rfl
theorem r78 (i : S36x256x32640.Idx) : val_main_v78 (F := Ideal) e0 i = dy (wd X (i 2)) (i 0).val (i 1).val := by
  rw [val_main_v78_apply, val_main_v76_apply, r31 H, val_main_v77_apply, val_main_v75_apply, r70]; rfl

theorem r93 (i : S36x256x32640.Idx) : val_main_v93 (F := Ideal) e0 i = vis (wd X (i 2)) (i 0).val (i 1).val := by
  rw [val_main_v93_apply, val_main_v92_apply, val_main_v91_apply, val_main_v87_apply, val_main_v86_apply,
    val_main_cst_3_apply, val_main_v85_apply, val_main_v81_apply, val_main_v80_apply, val_main_v79_apply, r36 H,
    val_main_v84_apply, val_main_v83_apply, val_main_v82_apply, r46 H, val_main_v90_apply, val_main_v89_apply,
    val_main_v88_apply, r41 H, r74 H, r78 H, vis, ← half]
  rfl

theorem r102 (i : S36x1x32640.Idx) : val_main_v102 (F := Ideal) e0 i = listed (wd X (i 2)) (i 0).val := by
  rw [val_main_v102_apply, val_main_v101_apply, val_main_v99_apply, val_main_v95_apply, val_main_v94_apply,
    val_main_v100_apply, val_main_v98_apply, val_main_v97_apply, val_main_v96_apply, H.words]
  have : ((i 2).val % 32640) = (i 2).val := Nat.mod_eq_of_lt (i 2).isLt
  first | rfl | (simp only [listed]; congr 3; exact Fin.ext this)

theorem r105 (i : S36x256x32640.Idx) : val_main_v105 (F := Ideal) e0 i = alpha (wd X (i 2)) (i 0).val (i 1).val := by
  rw [val_main_v105_apply, val_main_call0_v1_apply, r102 H, val_main_v104_apply, val_main_v103_apply, r51 H, r93 H,
    val_main_call0_v2_apply, val_main_call0_v0_apply, val_main_cst_4_apply, alpha, ← zero]
  rfl

theorem r107 (i : S36x256x32640.Idx) : val_main_v107 (F := Ideal) e0 i = 1 - alpha (wd X (i 2)) (i 0).val (i 1).val := by
  rw [val_main_v107_apply, val_main_v106_apply, val_main_cst_5_apply, r105 H, ← one]; rfl

theorem r117 (i : S36x36x256x32640.Idx) : val_main_v117 (F := Ideal) e0 i
    = if (i 0).val ≤ (i 1).val then 1 - alpha (wd X (i 3)) (i 1).val (i 2).val else 1 := by
  rw [val_main_v117_apply, val_main_call1_v1_apply, val_main_v114_apply, val_main_v113_apply, val_main_v111_apply,
    val_main_v112_apply, val_main_v109_apply, val_main_v110_apply, val_main_v108_apply, val_main_v108_apply,
    val_main_call1_v2_apply, val_main_v116_apply, r107 H, val_main_call1_v3_apply, val_main_call1_v0_apply,
    val_main_cst_6_apply, ← select_sle (i 0) (i 1), ← one]
  rfl

end

/-- A product over 36 places, taken by halves and then by thirds. -/
theorem prod36 {M : Type} [CommMonoid M] (g : ℕ → M) :
    (let a := fun j => g j * g (18 + j)
     let b := fun j => a j * a (9 + j)
     let c := fun j => b j * b (3 + j) * b (6 + j)
     c 0 * c 1 * c 2) = ∏ j ∈ Finset.range 36, g j := by
  have two (n : ℕ) (g : ℕ → M) : ∏ j ∈ Finset.range (n + n), g j = ∏ j ∈ Finset.range n, (g j * g (n + j)) := by
    rw [Finset.prod_range_add, ← Finset.prod_mul_distrib]
  have e : ∏ j ∈ Finset.range 36, g j = ∏ j ∈ Finset.range 9, (g j * g (18 + j) * (g (9 + j) * g (18 + (9 + j)))) := by
    rw [show 36 = 18 + 18 from rfl, two, show 18 = 9 + 9 from rfl, two]
  have t (g : ℕ → M) : ∏ j ∈ Finset.range 9, g j = ∏ j ∈ Finset.range 3, (g j * g (3 + j) * g (6 + j)) := by
    rw [show 9 = 3 + (3 + 3) from rfl, Finset.prod_range_add, two, ← Finset.prod_mul_distrib]
    refine Finset.prod_congr rfl fun j _ => ?_
    rw [← mul_assoc, ← add_assoc]
  rw [e, t]
  simp [Finset.prod_range_succ]

section

variable (H : Reads X r0 r1 e0 e1)
include H

/-- One factor of the suffix product: `1 − alpha` from place `k` on. -/
theorem g117 (i : S36x36x256x32640.Idx) (k j f : ℕ) (n : Fin 32640) (hk : (i 0).val = k) (hj : (i 1).val = j)
    (hf : (i 2).val = f) (hn : i 3 = n) :
    val_main_v117 (F := Ideal) e0 i = (fun j => if k ≤ j then 1 - alpha (wd X n) j f else 1) j := by
  subst hk hj hf hn; exact r117 H i

theorem g120 (i : S36x18x256x32640.Idx) (k j f : ℕ) (n : Fin 32640) (hk : (i 0).val = k) (hj : (i 1).val = j)
    (hf : (i 2).val = f) (hn : i 3 = n) :
    val_main_v120 (F := Ideal) e0 i = (fun j => if k ≤ j then 1 - alpha (wd X n) j f else 1) j
      * (fun j => if k ≤ j then 1 - alpha (wd X n) j f else 1) (18 + j) := by
  rw [val_main_v120_apply, val_main_v118_apply, val_main_v119_apply, g117 H _ k j f n hk hj hf hn,
    g117 H _ k (18 + j) f n hk (congrArg (18 + ·) hj) hf hn]
  rfl

theorem g123 (g : ℕ → EReal) (i : S36x9x256x32640.Idx) (k j f : ℕ) (n : Fin 32640) (hk : (i 0).val = k)
    (hj : (i 1).val = j) (hf : (i 2).val = f) (hn : i 3 = n)
    (hg : g = fun j => if k ≤ j then 1 - alpha (wd X n) j f else 1) :
    val_main_v123 (F := Ideal) e0 i = g j * g (18 + j) * (g (9 + j) * g (18 + (9 + j))) := by
  rw [val_main_v123_apply, val_main_v121_apply, val_main_v122_apply, g120 H _ k j f n hk hj hf hn,
    g120 H _ k (9 + j) f n hk (congrArg (9 + ·) hj) hf hn, hg]
  rfl

theorem g128 (g : ℕ → EReal) (i : S36x3x256x32640.Idx) (k j f : ℕ) (n : Fin 32640) (hk : (i 0).val = k)
    (hj : (i 1).val = j) (hf : (i 2).val = f) (hn : i 3 = n)
    (hg : g = fun j => if k ≤ j then 1 - alpha (wd X n) j f else 1) :
    val_main_v128 (F := Ideal) e0 i = g j * g (18 + j) * (g (9 + j) * g (18 + (9 + j)))
      * (g (3 + j) * g (18 + (3 + j)) * (g (9 + (3 + j)) * g (18 + (9 + (3 + j)))))
      * (g (6 + j) * g (18 + (6 + j)) * (g (9 + (6 + j)) * g (18 + (9 + (6 + j))))) := by
  rw [val_main_v128_apply, val_main_v126_apply, val_main_v124_apply, val_main_v125_apply, val_main_v127_apply,
    g123 H g _ k j f n hk hj hf hn hg, g123 H g _ k (3 + j) f n hk (congrArg (3 + ·) hj) hf hn hg,
    g123 H g _ k (6 + j) f n hk (congrArg (6 + ·) hj) hf hn hg]
  rfl

theorem r136 (i : S36x256x32640.Idx) : val_main_v136 (F := Ideal) e0 i
    = ∏ j ∈ Finset.range 36, if (i 0).val ≤ j then 1 - alpha (wd X (i 2)) j (i 1).val else 1 := by
  have h0 : (i 0).val < 36 := (i 0).isLt
  have h1 : (i 1).val < 256 := (i 1).isLt
  have h2 : (i 2).val < 32640 := (i 2).isLt
  have e0' : (((i 0).val * 256 + (i 1).val) * 32640 + (i 2).val) / 8355840 = (i 0).val := by omega
  have e1' : (((i 0).val * 256 + (i 1).val) * 32640 + (i 2).val) / 32640 % 256 = (i 1).val := by omega
  have e2' : (((i 0).val * 256 + (i 1).val) * 32640 + (i 2).val) % 32640 = (i 2).val := by omega
  rw [← prod36, val_main_v136_apply, val_main_v133_apply, val_main_v130_apply, val_main_v132_apply, val_main_v135_apply,
    val_main_v129_apply, val_main_v131_apply, val_main_v134_apply,
    g128 H _ _ (i 0).val 0 (i 1).val (i 2) e0' rfl e1' (Fin.ext e2') rfl,
    g128 H _ _ (i 0).val 1 (i 1).val (i 2) e0' rfl e1' (Fin.ext e2') rfl,
    g128 H _ _ (i 0).val 2 (i 1).val (i 2) e0' rfl e1' (Fin.ext e2') rfl]
  rfl

theorem r138 (i : S36x256x32640.Idx) : val_main_v138 (F := Ideal) e0 e1 i = trans (wd X (i 2)) (i 0).val (i 1).val := by
  rw [val_main_v138_apply, val_main_v137_apply, val_main_v115_apply, H.final, r136 H]; rfl

theorem r139 (i : S36x256x32640.Idx) : val_main_v139 (F := Ideal) e0 e1 i = weight (wd X (i 2)) (i 0).val (i 1).val := by
  rw [val_main_v139_apply, r105 H, r138 H]; rfl

/-! ## Colours and gradients -/

theorem r21 (i : S36x3x32640.Idx) : val_main_v21 (F := Ideal) r1 e0 i = colour (wd X (i 2)) (i 1).val (i 0).val := by
  have h0 : (i 0).val < 36 := (i 0).isLt
  have h1 : (i 1).val < 3 := (i 1).isLt
  have h2 : (i 2).val < 32640 := (i 2).isLt
  have e0' : (((i 0).val * 4 + (i 1).val) * 32640 + (i 2).val) / 32640 / 4 = (i 0).val := by omega
  have e1' : (((i 0).val * 4 + (i 1).val) * 32640 + (i 2).val) / 32640 % 4 = (i 1).val := by omega
  have e2' : (((i 0).val * 4 + (i 1).val) * 32640 + (i 2).val) % 32640 = (i 2).val := by omega
  have key : ∀ (j : S144x32640.Idx) (k c : ℕ) (n : Fin 32640), (j 0).val / 4 = k → (j 0).val % 4 = c → j 1 = n →
      r1 j = Ideal.ofBits .fp8e4m3 ((prm (wd X n) 6 k).extractLsb' (8 * c) 8) := by
    intro j k c n hk hc hn; subst hk hc hn; exact H.codes j
  rw [val_main_v21_apply, val_main_v14_apply, val_main_v13_apply, val_main_v20_apply, val_main_v19_apply,
    val_main_v18_apply, r17 H, key _ (i 0).val (i 1).val (i 2) e0' e1' (Fin.ext e2')]
  rfl

omit H in
theorem r10 (i : S_.Idx) : val_main_v10 (F := Ideal) x2 i = x2 (ValueIdx.ix1 0) := by
  show x2 _ = x2 _
  congr 1; funext a; match a with | ⟨0, _⟩ => exact Subsingleton.elim (α := Fin 1) _ _

theorem r12 (i : S3x256x32640.Idx) :
    val_main_v12 (F := Ideal) x2 r0 i = grad (wd X (i 2)) (x2 (ValueIdx.ix1 0)) (i 0).val (i 1).val := by
  have h0 : (i 0).val < 3 := (i 0).isLt
  have h1 : (i 1).val < 256 := (i 1).isLt
  have h2 : (i 2).val < 32640 := (i 2).isLt
  have e0' : 256 + (((i 0).val * 256 + (i 1).val) * 32640 + (i 2).val) / 32640 / 4
      = 256 + 64 * (i 0).val + (i 1).val / 4 := by omega
  have e1' : (((i 0).val * 256 + (i 1).val) * 32640 + (i 2).val) / 32640 % 4 = (i 1).val % 4 := by omega
  have e2' : (((i 0).val * 256 + (i 1).val) * 32640 + (i 2).val) % 32640 = (i 2).val := by omega
  have key : ∀ (j : S768x32640.Idx) (k c : ℕ) (n : Fin 32640), 256 + (j 0).val / 4 = k → (j 0).val % 4 = c → j 1 = n →
      r0 j = Ideal.ofBits .fp8e5m2 ((wd X n k).extractLsb' (8 * c) 8) := by
    intro j k c n hk hc hn; subst hk hc hn; exact H.grads j
  rw [val_main_v12_apply, val_main_v9_apply, val_main_v11_apply, r10,
    key _ (256 + 64 * (i 0).val + (i 1).val / 4) ((i 1).val % 4) (i 2) e0' e1' (Fin.ext e2')]
  rfl

theorem g12 (i : S3x256x32640.Idx) (c f : ℕ) (n : Fin 32640) (hc : (i 0).val = c) (hf : (i 1).val = f) (hn : i 2 = n) :
    val_main_v12 (F := Ideal) x2 r0 i = grad (wd X n) (x2 (ValueIdx.ix1 0)) c f := by
  subst hc hf hn; exact r12 H i

theorem g21 (i : S36x3x32640.Idx) (c k : ℕ) (n : Fin 32640) (hk : (i 0).val = k) (hc : (i 1).val = c) (hn : i 2 = n) :
    val_main_v21 (F := Ideal) r1 e0 i = colour (wd X n) c k := by
  subst hc hk hn; exact r21 H i

theorem r144 (i : S256x32640.Idx) : val_main_v144 (F := Ideal) x2 r0 i = grad (wd X (i 1)) (x2 (ValueIdx.ix1 0)) 0 (i 0).val := by
  have h0 : (i 0).val < 256 := (i 0).isLt
  have h1 : (i 1).val < 32640 := (i 1).isLt
  rw [val_main_v144_apply, val_main_v143_apply]
  exact g12 H _ 0 _ _ rfl (by show ((i 0).val * 32640 + (i 1).val) / 32640 % 256 = (i 0).val; omega)
    (Fin.ext (by show ((i 0).val * 32640 + (i 1).val) % 32640 = (i 1).val; omega))
theorem r153 (i : S256x32640.Idx) : val_main_v153 (F := Ideal) x2 r0 i = grad (wd X (i 1)) (x2 (ValueIdx.ix1 0)) 1 (i 0).val := by
  have h0 : (i 0).val < 256 := (i 0).isLt
  have h1 : (i 1).val < 32640 := (i 1).isLt
  rw [val_main_v153_apply, val_main_v152_apply]
  exact g12 H _ 1 _ _ rfl (by show ((i 0).val * 32640 + (i 1).val) / 32640 % 256 = (i 0).val; omega)
    (Fin.ext (by show ((i 0).val * 32640 + (i 1).val) % 32640 = (i 1).val; omega))
theorem r163 (i : S256x32640.Idx) : val_main_v163 (F := Ideal) x2 r0 i = grad (wd X (i 1)) (x2 (ValueIdx.ix1 0)) 2 (i 0).val := by
  have h0 : (i 0).val < 256 := (i 0).isLt
  have h1 : (i 1).val < 32640 := (i 1).isLt
  rw [val_main_v163_apply, val_main_v162_apply]
  exact g12 H _ 2 _ _ rfl (by show ((i 0).val * 32640 + (i 1).val) / 32640 % 256 = (i 0).val; omega)
    (Fin.ext (by show ((i 0).val * 32640 + (i 1).val) % 32640 = (i 1).val; omega))
theorem r170 (i : S256x32640.Idx) : val_main_v170 (F := Ideal) x2 r0 i = grad (wd X (i 1)) (x2 (ValueIdx.ix1 0)) 0 (i 0).val := by
  have h0 : (i 0).val < 256 := (i 0).isLt
  have h1 : (i 1).val < 32640 := (i 1).isLt
  rw [val_main_v170_apply, val_main_v169_apply]
  exact g12 H _ 0 _ _ rfl (by show ((i 0).val * 32640 + (i 1).val) / 32640 % 256 = (i 0).val; omega)
    (Fin.ext (by show ((i 0).val * 32640 + (i 1).val) % 32640 = (i 1).val; omega))
theorem r176 (i : S256x32640.Idx) : val_main_v176 (F := Ideal) x2 r0 i = grad (wd X (i 1)) (x2 (ValueIdx.ix1 0)) 1 (i 0).val := by
  have h0 : (i 0).val < 256 := (i 0).isLt
  have h1 : (i 1).val < 32640 := (i 1).isLt
  rw [val_main_v176_apply, val_main_v175_apply]
  exact g12 H _ 1 _ _ rfl (by show ((i 0).val * 32640 + (i 1).val) / 32640 % 256 = (i 0).val; omega)
    (Fin.ext (by show ((i 0).val * 32640 + (i 1).val) % 32640 = (i 1).val; omega))
theorem r183 (i : S256x32640.Idx) : val_main_v183 (F := Ideal) x2 r0 i = grad (wd X (i 1)) (x2 (ValueIdx.ix1 0)) 2 (i 0).val := by
  have h0 : (i 0).val < 256 := (i 0).isLt
  have h1 : (i 1).val < 32640 := (i 1).isLt
  rw [val_main_v183_apply, val_main_v182_apply]
  exact g12 H _ 2 _ _ rfl (by show ((i 0).val * 32640 + (i 1).val) / 32640 % 256 = (i 0).val; omega)
    (Fin.ext (by show ((i 0).val * 32640 + (i 1).val) % 32640 = (i 1).val; omega))
theorem r248 (i : S256x32640.Idx) : val_main_v248 (F := Ideal) x2 r0 i = grad (wd X (i 1)) (x2 (ValueIdx.ix1 0)) 0 (i 0).val := by
  have h0 : (i 0).val < 256 := (i 0).isLt
  have h1 : (i 1).val < 32640 := (i 1).isLt
  rw [val_main_v248_apply, val_main_v247_apply]
  exact g12 H _ 0 _ _ rfl (by show ((i 0).val * 32640 + (i 1).val) / 32640 % 256 = (i 0).val; omega)
    (Fin.ext (by show ((i 0).val * 32640 + (i 1).val) % 32640 = (i 1).val; omega))
theorem r254 (i : S256x32640.Idx) : val_main_v254 (F := Ideal) x2 r0 i = grad (wd X (i 1)) (x2 (ValueIdx.ix1 0)) 1 (i 0).val := by
  have h0 : (i 0).val < 256 := (i 0).isLt
  have h1 : (i 1).val < 32640 := (i 1).isLt
  rw [val_main_v254_apply, val_main_v253_apply]
  exact g12 H _ 1 _ _ rfl (by show ((i 0).val * 32640 + (i 1).val) / 32640 % 256 = (i 0).val; omega)
    (Fin.ext (by show ((i 0).val * 32640 + (i 1).val) % 32640 = (i 1).val; omega))
theorem r260 (i : S256x32640.Idx) : val_main_v260 (F := Ideal) x2 r0 i = grad (wd X (i 1)) (x2 (ValueIdx.ix1 0)) 2 (i 0).val := by
  have h0 : (i 0).val < 256 := (i 0).isLt
  have h1 : (i 1).val < 32640 := (i 1).isLt
  rw [val_main_v260_apply, val_main_v259_apply]
  exact g12 H _ 2 _ _ rfl (by show ((i 0).val * 32640 + (i 1).val) / 32640 % 256 = (i 0).val; omega)
    (Fin.ext (by show ((i 0).val * 32640 + (i 1).val) % 32640 = (i 1).val; omega))
theorem r141 (i : S36x32640.Idx) : val_main_v141 (F := Ideal) r1 e0 i = colour (wd X (i 1)) 0 (i 0).val := by
  have h0 : (i 0).val < 36 := (i 0).isLt
  have h1 : (i 1).val < 32640 := (i 1).isLt
  rw [val_main_v141_apply, val_main_v140_apply]
  exact g21 H _ 0 _ _ (by show ((i 0).val * 32640 + (i 1).val) / 32640 = (i 0).val; omega) rfl
    (Fin.ext (by show ((i 0).val * 32640 + (i 1).val) % 32640 = (i 1).val; omega))
theorem r150 (i : S36x32640.Idx) : val_main_v150 (F := Ideal) r1 e0 i = colour (wd X (i 1)) 1 (i 0).val := by
  have h0 : (i 0).val < 36 := (i 0).isLt
  have h1 : (i 1).val < 32640 := (i 1).isLt
  rw [val_main_v150_apply, val_main_v149_apply]
  exact g21 H _ 1 _ _ (by show ((i 0).val * 32640 + (i 1).val) / 32640 = (i 0).val; omega) rfl
    (Fin.ext (by show ((i 0).val * 32640 + (i 1).val) % 32640 = (i 1).val; omega))
theorem r160 (i : S36x32640.Idx) : val_main_v160 (F := Ideal) r1 e0 i = colour (wd X (i 1)) 2 (i 0).val := by
  have h0 : (i 0).val < 36 := (i 0).isLt
  have h1 : (i 1).val < 32640 := (i 1).isLt
  rw [val_main_v160_apply, val_main_v159_apply]
  exact g21 H _ 2 _ _ (by show ((i 0).val * 32640 + (i 1).val) / 32640 = (i 0).val; omega) rfl
    (Fin.ext (by show ((i 0).val * 32640 + (i 1).val) % 32640 = (i 1).val; omega))
omit H in
theorem idx0 (j : S1.Idx) : (j 0).val = 0 := Nat.lt_one_iff.mp (j 0).isLt
omit H in
theorem r172 (i : S_.Idx) : val_main_v172 (F := Ideal) x3 i = bgd x3 0 := by
  show val_main_v171 (F := Ideal) x3 _ = _
  rw [val_main_v171_apply]
  show x3 _ = x3 _
  congr 1; funext a; match a with | ⟨0, _⟩ => exact Fin.ext (by show ((Shape.reshapeEquiv shapeCasts_S1_S_) i 0).val = 0; rw [idx0])
omit H in
theorem r178 (i : S_.Idx) : val_main_v178 (F := Ideal) x3 i = bgd x3 1 := by
  show val_main_v177 (F := Ideal) x3 _ = _
  rw [val_main_v177_apply]
  show x3 _ = x3 _
  congr 1; funext a; match a with | ⟨0, _⟩ => exact Fin.ext (by show 1 + ((Shape.reshapeEquiv shapeCasts_S1_S_) i 0).val = 1; rw [idx0])
omit H in
theorem r185 (i : S_.Idx) : val_main_v185 (F := Ideal) x3 i = bgd x3 2 := by
  show val_main_v184 (F := Ideal) x3 _ = _
  rw [val_main_v184_apply]
  show x3 _ = x3 _
  congr 1; funext a; match a with | ⟨0, _⟩ => exact Fin.ext (by show 2 + ((Shape.reshapeEquiv shapeCasts_S1_S_) i 0).val = 2; rw [idx0])

theorem r168 (i : S36x256x32640.Idx) :
    val_main_v168 (F := Ideal) x2 r0 r1 e0 i = gcol (wd X (i 2)) (x2 (ValueIdx.ix1 0)) (i 0).val (i 1).val := by
  rw [val_main_v168_apply, val_main_v158_apply, val_main_v148_apply, val_main_v157_apply, val_main_v167_apply,
    val_main_v146_apply, val_main_v142_apply, r141 H, val_main_v147_apply, val_main_v145_apply, r144 H,
    val_main_v155_apply, val_main_v151_apply, r150 H, val_main_v156_apply, val_main_v154_apply, r153 H,
    val_main_v165_apply, val_main_v161_apply, r160 H, val_main_v166_apply, val_main_v164_apply, r163 H]
  rfl

theorem r188 (i : S256x32640.Idx) :
    val_main_v188 (F := Ideal) x2 x3 r0 i = gback (wd X (i 1)) (x2 (ValueIdx.ix1 0)) (bgd x3) (i 0).val := by
  rw [val_main_v188_apply, val_main_v181_apply, val_main_v174_apply, val_main_v180_apply, val_main_v187_apply,
    r170 H, r176 H, r183 H, val_main_v173_apply, val_main_v179_apply, val_main_v186_apply, r172, r178, r185]
  rfl

theorem r189 (i : S36x256x32640.Idx) : val_main_v189 (F := Ideal) x2 r0 r1 e0 e1 i
    = weight (wd X (i 2)) (i 0).val (i 1).val * gcol (wd X (i 2)) (x2 (ValueIdx.ix1 0)) (i 0).val (i 1).val := by
  rw [val_main_v189_apply, r139 H, r168 H]; rfl

theorem r197 (i : S36x36x256x32640.Idx) : val_main_v197 (F := Ideal) x2 r0 r1 e0 e1 i
    = if (i 0).val < (i 1).val then weight (wd X (i 3)) (i 1).val (i 2).val
        * gcol (wd X (i 3)) (x2 (ValueIdx.ix1 0)) (i 1).val (i 2).val else 0 := by
  rw [val_main_v197_apply, val_main_call2_v1_apply, val_main_v195_apply, val_main_v194_apply, val_main_v192_apply,
    val_main_v193_apply, val_main_v190_apply, val_main_v191_apply, val_main_v108_apply, val_main_v108_apply,
    val_main_call2_v2_apply, val_main_v196_apply, r189 H, val_main_call2_v3_apply, val_main_call2_v0_apply,
    val_main_cst_7_apply, ← select_slt (i 0) (i 1), ← zero]
  rfl

theorem r202 (i : S36x256x32640.Idx) : val_main_v202 (F := Ideal) x2 x3 r0 r1 e0 e1 i
    = later (wd X (i 2)) (x2 (ValueIdx.ix1 0)) (bgd x3) (i 0).val (i 1).val := by
  rw [val_main_v202_apply, val_main_v198_apply, val_main_v201_apply, val_main_v200_apply, val_main_v199_apply, r188 H,
    H.final, later, Finset.sum_range]
  simp only [r197 H]
  rw [val_main_cst_8_apply]
  refine congrArg₂ (· + ·) ?_ rfl
  show Ideal.ofBits .f32 0x00000000#32 + _ = _
  rw [zero, zero_add]
  rfl

theorem r211 (i : S36x1x32640.Idx) : val_main_v211 (F := Ideal) e0 i = listed (wd X (i 2)) (i 0).val := by
  rw [val_main_v211_apply, val_main_v210_apply, val_main_v208_apply, val_main_v204_apply, val_main_v203_apply,
    val_main_v209_apply, val_main_v207_apply, val_main_v206_apply, val_main_v205_apply, H.words]
  have : ((i 2).val % 32640) = (i 2).val := Nat.mod_eq_of_lt (i 2).isLt
  first | rfl | (simp only [listed]; congr 3; exact Fin.ext this)

theorem r215 (i : S36x256x32640.Idx) : val_main_v215 (F := Ideal) x2 x3 r0 r1 e0 e1 i
    = dalpha (wd X (i 2)) (x2 (ValueIdx.ix1 0)) (bgd x3) (i 0).val (i 1).val := by
  rw [val_main_v215_apply, val_main_call3_v1_apply, r211 H, val_main_v214_apply, val_main_v212_apply, r138 H, r168 H,
    val_main_v213_apply, r202 H, r107 H, val_main_call3_v2_apply, val_main_call3_v0_apply, val_main_cst_9_apply, dalpha,
    ← zero]
  rfl

theorem r217 (i : S36x256x32640.Idx) : val_main_v217 (F := Ideal) x2 x3 r0 r1 e0 e1 i
    = dsigma (wd X (i 2)) (x2 (ValueIdx.ix1 0)) (bgd x3) (i 0).val (i 1).val := by
  rw [val_main_v217_apply, val_main_v216_apply, r105 H, r215 H]; rfl

/-! ## The nine sums over the pixels -/

theorem r224 (i : S36x32640.Idx) : val_main_v224 (F := Ideal) x2 x3 r0 r1 e0 e1 i
    = out (wd X (i 1)) (x2 (ValueIdx.ix1 0)) (bgd x3) 0 (i 0).val := by
  rw [val_main_v224_apply, val_main_cst_10_apply, out, Finset.sum_range]
  show Ideal.ofBits .f32 0x00000000#32 + _ = _
  rw [zero, zero_add]
  refine Finset.sum_congr rfl fun f _ => ?_
  rw [val_main_v223_apply, r217 H, val_main_v222_apply, val_main_v219_apply, val_main_v218_apply, r36 H, r74 H, val_main_v221_apply, val_main_v220_apply, r41 H, r78 H]
  rfl

theorem r231 (i : S36x32640.Idx) : val_main_v231 (F := Ideal) x2 x3 r0 r1 e0 e1 i
    = out (wd X (i 1)) (x2 (ValueIdx.ix1 0)) (bgd x3) 1 (i 0).val := by
  rw [val_main_v231_apply, val_main_cst_11_apply, out, Finset.sum_range]
  show Ideal.ofBits .f32 0x00000000#32 + _ = _
  rw [zero, zero_add]
  refine Finset.sum_congr rfl fun f _ => ?_
  rw [val_main_v230_apply, r217 H, val_main_v229_apply, val_main_v226_apply, val_main_v225_apply, r41 H, r74 H, val_main_v228_apply, val_main_v227_apply, r46 H, r78 H]
  rfl

theorem r233 (i : S36x32640.Idx) : val_main_v233 (F := Ideal) x2 x3 r0 r1 e0 e1 i
    = out (wd X (i 1)) (x2 (ValueIdx.ix1 0)) (bgd x3) 2 (i 0).val := by
  rw [val_main_v233_apply, val_main_cst_12_apply, out, Finset.sum_range]
  show Ideal.ofBits .f32 0x00000000#32 + _ = _
  rw [zero, zero_add]
  refine Finset.sum_congr rfl fun f _ => ?_
  rw [val_main_v232_apply, r93 H, r215 H]
  rfl

theorem r238 (i : S36x32640.Idx) : val_main_v238 (F := Ideal) x2 x3 r0 r1 e0 e1 i
    = out (wd X (i 1)) (x2 (ValueIdx.ix1 0)) (bgd x3) 3 (i 0).val := by
  rw [val_main_v238_apply, val_main_cst_14_apply, out, Finset.sum_range]
  show Ideal.ofBits .f32 0x00000000#32 + _ = _
  rw [zero, zero_add]
  refine Finset.sum_congr rfl fun f _ => ?_
  rw [val_main_v237_apply, val_main_v236_apply, val_main_v235_apply, val_main_v234_apply, val_main_cst_13_apply, r217 H, r74 H, term, ← half]
  rfl

theorem r241 (i : S36x32640.Idx) : val_main_v241 (F := Ideal) x2 x3 r0 r1 e0 e1 i
    = out (wd X (i 1)) (x2 (ValueIdx.ix1 0)) (bgd x3) 4 (i 0).val := by
  rw [val_main_v241_apply, val_main_cst_15_apply, out, Finset.sum_range]
  show Ideal.ofBits .f32 0x00000000#32 + _ = _
  rw [zero, zero_add]
  refine Finset.sum_congr rfl fun f _ => ?_
  rw [val_main_v240_apply, val_main_v239_apply, r217 H, r74 H, r78 H]
  rfl

theorem r246 (i : S36x32640.Idx) : val_main_v246 (F := Ideal) x2 x3 r0 r1 e0 e1 i
    = out (wd X (i 1)) (x2 (ValueIdx.ix1 0)) (bgd x3) 5 (i 0).val := by
  rw [val_main_v246_apply, val_main_cst_17_apply, out, Finset.sum_range]
  show Ideal.ofBits .f32 0x00000000#32 + _ = _
  rw [zero, zero_add]
  refine Finset.sum_congr rfl fun f _ => ?_
  rw [val_main_v245_apply, val_main_v244_apply, val_main_v243_apply, val_main_v242_apply, val_main_cst_16_apply, r217 H, r78 H, term, ← half]
  rfl

theorem r252 (i : S36x32640.Idx) : val_main_v252 (F := Ideal) x2 r0 e0 e1 i
    = out (wd X (i 1)) (x2 (ValueIdx.ix1 0)) (bgd x3) 6 (i 0).val := by
  rw [val_main_v252_apply, val_main_cst_18_apply, out, Finset.sum_range]
  show Ideal.ofBits .f32 0x00000000#32 + _ = _
  rw [zero, zero_add]
  refine Finset.sum_congr rfl fun f _ => ?_
  rw [val_main_v251_apply, r139 H, val_main_v250_apply, val_main_v249_apply, r248 H]
  rfl

theorem r258 (i : S36x32640.Idx) : val_main_v258 (F := Ideal) x2 r0 e0 e1 i
    = out (wd X (i 1)) (x2 (ValueIdx.ix1 0)) (bgd x3) 7 (i 0).val := by
  rw [val_main_v258_apply, val_main_cst_19_apply, out, Finset.sum_range]
  show Ideal.ofBits .f32 0x00000000#32 + _ = _
  rw [zero, zero_add]
  refine Finset.sum_congr rfl fun f _ => ?_
  rw [val_main_v257_apply, r139 H, val_main_v256_apply, val_main_v255_apply, r254 H]
  rfl

theorem r264 (i : S36x32640.Idx) : val_main_v264 (F := Ideal) x2 r0 e0 e1 i
    = out (wd X (i 1)) (x2 (ValueIdx.ix1 0)) (bgd x3) 8 (i 0).val := by
  rw [val_main_v264_apply, val_main_cst_20_apply, out, Finset.sum_range]
  show Ideal.ofBits .f32 0x00000000#32 + _ = _
  rw [zero, zero_add]
  refine Finset.sum_congr rfl fun f _ => ?_
  rw [val_main_v263_apply, r139 H, val_main_v262_apply, val_main_v261_apply, r260 H]
  rfl

end

end Cert.RefRead

end

end
-- ==== Proof.RefTop.lean ====
/- The reference's result: the nine quantities stacked, laid out in 384 rows per block. -/
module

public import proofs.«01_k».proof.Proof.RefRead

@[expose] public section

noncomputable section

namespace Cert.RefRead

open Cert.ReferenceIdeal Cert.ReferenceIdeal.Gen Cert.ReferenceIdeal.Read Cert.Spec Idealize.ShloMosaic

variable {X : (⟨3, ![6, 32640, 128]⟩ : Shape).Idx → BitVec 32}
  {r0 : (⟨S768x32640, .f32⟩ : BufTy).Contents (Elt Ideal)} {r1 : (⟨S144x32640, .f32⟩ : BufTy).Contents (Elt Ideal)}
  {e0 : (⟨S768x32640, .i32⟩ : BufTy).Contents (Elt Ideal)} {e1 : (⟨S256x32640, .f32⟩ : BufTy).Contents (Elt Ideal)}
  {x2 : (⟨S1, .f32⟩ : BufTy).Contents (Elt Ideal)} {x3 : (⟨S3, .f32⟩ : BufTy).Contents (Elt Ideal)}

variable (H : Reads X r0 r1 e0 e1)
include H

theorem r274 (i : S9x36x32640.Idx) : val_main_v274 (F := Ideal) x2 x3 r0 r1 e0 e1 i
    = out (wd X (i 2)) (x2 (ValueIdx.ix1 0)) (bgd x3) (i 0).val (i 1).val := by
  let f : Fin 9 → (S1x36x32640.Idx → EReal) := ![val_main_v265 (F := Ideal) x2 x3 r0 r1 e0 e1,
    val_main_v266 (F := Ideal) x2 x3 r0 r1 e0 e1, val_main_v267 (F := Ideal) x2 x3 r0 r1 e0 e1,
    val_main_v268 (F := Ideal) x2 x3 r0 r1 e0 e1, val_main_v269 (F := Ideal) x2 x3 r0 r1 e0 e1,
    val_main_v270 (F := Ideal) x2 x3 r0 r1 e0 e1, val_main_v271 (F := Ideal) x2 r0 e0 e1,
    val_main_v272 (F := Ideal) x2 r0 e0 e1, val_main_v273 (F := Ideal) x2 r0 e0 e1]
  have hf : ∀ (n : Fin 9) (j : S1x36x32640.Idx), f n j
      = out (wd X (j 2)) (x2 (ValueIdx.ix1 0)) (bgd x3) n.val (j 1).val := by
    intro n j
    match n with
    | ⟨0, _⟩ => exact (val_main_v265_apply ..).trans (r224 H _)
    | ⟨1, _⟩ => exact (val_main_v266_apply ..).trans (r231 H _)
    | ⟨2, _⟩ => exact (val_main_v267_apply ..).trans (r233 H _)
    | ⟨3, _⟩ => exact (val_main_v268_apply ..).trans (r238 H _)
    | ⟨4, _⟩ => exact (val_main_v269_apply ..).trans (r241 H _)
    | ⟨5, _⟩ => exact (val_main_v270_apply ..).trans (r246 H _)
    | ⟨6, _⟩ => exact (val_main_v271_apply ..).trans (r252 H _)
    | ⟨7, _⟩ => exact (val_main_v272_apply ..).trans (r258 H _)
    | ⟨8, _⟩ => exact (val_main_v273_apply ..).trans (r264 H _)
  have key := concatenate_ofFn_apply (s₁ := S1x36x32640) (t := S9x36x32640) 0 f
    concatenates_S1x36x32640_S1x36x32640_S1x36x32640_S1x36x32640_S1x36x32640_S1x36x32640_S1x36x32640_S1x36x32640_S1x36x32640_S9x36x32640_d0
    rfl 1 rfl i (i 0) (Nat.div_one _)
    (fun a => match a with | ⟨0, _⟩ => ⟨0, Nat.one_pos⟩ | ⟨1, _⟩ => i 1 | ⟨2, _⟩ => i 2) (Nat.mod_one _).symm
    (fun b hb => match b with
      | ⟨0, _⟩ => absurd rfl hb
      | ⟨1, _⟩ => rfl
      | ⟨2, _⟩ => rfl)
  exact key.trans (hf (i 0) _)

theorem r276 (i : S288x32640.Idx) : val_main_v276 (F := Ideal) x2 x3 r0 r1 e0 e1 i
    = out (wd X (i 1)) (x2 (ValueIdx.ix1 0)) (bgd x3) ((i 0).val / 32) ((i 0).val % 32) := by
  have h0 : (i 0).val < 288 := (i 0).isLt
  have h1 : (i 1).val < 32640 := (i 1).isLt
  have key : ∀ (j : S9x36x32640.Idx) (q k : ℕ) (n : Fin 32640), (j 0).val = q → (j 1).val = k → j 2 = n →
      val_main_v274 (F := Ideal) x2 x3 r0 r1 e0 e1 j = out (wd X n) (x2 (ValueIdx.ix1 0)) (bgd x3) q k := by
    intro j q k n hq hk hn; subst hq hk hn; exact r274 H j
  rw [val_main_v276_apply, val_main_v275_apply]
  exact key _ _ _ _ (by show ((i 0).val * 32640 + (i 1).val) / 1044480 = _; omega)
    (by show ((i 0).val * 32640 + (i 1).val) / 32640 % 32 = _; omega)
    (Fin.ext (by show ((i 0).val * 32640 + (i 1).val) % 32640 = _; omega))

theorem r278 (i : S36x32640.Idx) : val_main_v278 (F := Ideal) x2 x3 r0 r1 e0 e1 i
    = out (wd X (i 1)) (x2 (ValueIdx.ix1 0)) (bgd x3) ((i 0).val / 4) (32 + (i 0).val % 4) := by
  have h0 : (i 0).val < 36 := (i 0).isLt
  have h1 : (i 1).val < 32640 := (i 1).isLt
  have key : ∀ (j : S9x36x32640.Idx) (q k : ℕ) (n : Fin 32640), (j 0).val = q → (j 1).val = k → j 2 = n →
      val_main_v274 (F := Ideal) x2 x3 r0 r1 e0 e1 j = out (wd X n) (x2 (ValueIdx.ix1 0)) (bgd x3) q k := by
    intro j q k n hq hk hn; subst hq hk hn; exact r274 H j
  rw [val_main_v278_apply, val_main_v277_apply]
  exact key _ _ _ _ (by show ((i 0).val * 32640 + (i 1).val) / 130560 = _; omega)
    (by show 32 + ((i 0).val * 32640 + (i 1).val) / 32640 % 4 = _; omega)
    (Fin.ext (by show ((i 0).val * 32640 + (i 1).val) % 32640 = _; omega))

theorem r280 (i : S384x32640.Idx) : val_main_v280 (F := Ideal) x2 x3 r0 r1 e0 e1 i
    = row (wd X (i 1)) (x2 (ValueIdx.ix1 0)) (bgd x3) (i 0).val := by
  have h0 : (i 0).val < 384 := (i 0).isLt
  rw [val_main_v280, concatenate_cons_apply, concatenateAt_cons]
  split
  · rename_i hlt
    have hlt : (i 0).val < 288 := hlt
    rw [r276 H, row, if_pos hlt]; rfl
  · rename_i hge
    have hge : ¬ (i 0).val < 288 := hge
    rw [concatenateAt_cons]
    split
    · rename_i hlt
      have hlt : (i 0).val - 288 < 36 := hlt
      rw [r278 H, row, if_neg hge, if_pos (by omega)]; rfl
    · rename_i hge'
      have hge' : ¬ (i 0).val - 288 < 36 := hge'
      rw [concatenateAt_singleton, val_main_v279_apply, val_main_cst_21_apply, row, if_neg hge, if_neg (by omega)]
      exact zero

/-- The reference's result is the plain formula. -/
theorem result_eq : val_main_v282 (F := Ideal) x2 x3 r0 r1 e0 e1 = result X x2 x3 := by
  funext i
  have h0 : (i 0).val < 3 := (i 0).isLt
  have h1 : (i 1).val < 32640 := (i 1).isLt
  have h2 : (i 2).val < 128 := (i 2).isLt
  have key : ∀ (j : S384x32640.Idx) (r : ℕ) (n : Fin 32640), (j 0).val = r → j 1 = n →
      val_main_v280 (F := Ideal) x2 x3 r0 r1 e0 e1 j = row (wd X n) (x2 (ValueIdx.ix1 0)) (bgd x3) r := by
    intro j r n hr hn; subst hr hn; exact r280 H j
  rw [val_main_v282_apply, val_main_v281_apply]
  exact key _ _ _ (by show (((i 0).val * 128 + (i 2).val) * 32640 + (i 1).val) / 32640 = 128 * (i 0).val + (i 2).val; omega)
    (Fin.ext (by show (((i 0).val * 128 + (i 2).val) * 32640 + (i 1).val) % 32640 = _; omega))

end Cert.RefRead

end

end
-- ==== Proof.Bytes.lean ====
/- Words read as bytes: a bitcast of 32-bit words to 8-bit elements, element by element. -/
module

public import Idealize.ShloMosaic.Lib.BitcastFour

@[expose] public section

namespace Cert.Bytes

open Idealize.ShloMosaic

/-- Row `p` of the bytes is byte `p % 4` of the words' row `p / 4`. -/
theorem bitcast_words {R r n : Nat} (x : (⟨2, ![r, n]⟩ : Shape).Idx → BitVec 32)
    (h : (⟨2, ![r, n]⟩ : Shape).Bitcasts 32 ⟨2, ![R, n]⟩ 8) (i : (⟨2, ![R, n]⟩ : Shape).Idx) (a : Fin r) (l : Fin n)
    (ha : (i 0).val / 4 = a.val) (hl : i 1 = l) :
    bitcast ⟨2, ![R, n]⟩ 8 x h i = (x (ValueIdx.ix2 a l)).extractLsb' (8 * ((i 0).val % 4)) 8 := by
  apply BitVec.eq_of_getLsbD_eq
  intro q hq
  rw [bitcast_getLsbD x h i q hq (by decide)]
  have e0 : (Shape.row ⟨2, ![R, n]⟩ i * 8 + q) % 32 = 8 * ((i 0).val % 4) + q := by
    show ((i 0).val * 8 + q) % 32 = _; omega
  rw [e0, BitVec.getLsbD_extractLsb', decide_eq_true hq, Bool.true_and]
  congr 2
  funext c
  match c with
  | ⟨0, _⟩ => exact Fin.ext ((h.srcIdx_row _ _ _ ⟨0, Nat.zero_lt_two⟩ rfl).trans
      (by show ((i 0).val * 8 + q) / 32 = a.val; omega))
  | ⟨1, _⟩ => exact Fin.ext ((h.srcIdx_other _ _ _ ⟨1, Nat.one_lt_two⟩ (by show ¬ 1 + 2 = 2; omega)).trans (congrArg Fin.val hl))

end Cert.Bytes

end
-- ==== Proof.RefRun.lean ====
/- The reference's run: the arrays its decoding call leaves, and its result as the plain formula. -/
module

public import proofs.«01_k».proof.Proof.RefTop
public import proofs.«01_k».proof.Proof.Bytes
public import proofs.«01_k».proof.Proof.Gen.ReferenceIdeal.Run
public import proofs.«01_k».proof.Proof.Gen.ReferenceIdeal.Frame
public import Idealize.ShloMosaic.Lib.Pipeline.ValueKit

@[expose] public section

noncomputable section

namespace Cert.RefRun

open Cert.ReferenceIdeal Cert.ReferenceIdeal.Gen Cert.ReferenceIdeal.Read Cert.Spec Idealize.ShloMosaic

open Idealize.ShloMosaic.TcCoe Idealize.SL.Sem Idealize.ShloMosaic.StableHlo

variable (m : (ℓ : Loc nD τ sig) → Buf (Elt Ideal) ℓ)

/-- The words as launched, rows first. -/
abbrev rows (x : (⟨S6x32640x128, .i32⟩ : BufTy).Contents (Elt Ideal)) : (⟨S768x32640, .i32⟩ : BufTy).Contents (Elt Ideal) :=
  shapeCast _ (transpose S6x128x32640 [0, 2, 1] x transposes_S6x32640x128_S6x128x32640_0_2_1) shapeCasts_S6x128x32640_S768x32640

theorem regV4 (c : Dev nD) : V m c main_v4
    = extractStridedSlice S192x32640 ![256, 0] (rows (m ((c.tc : Thread nD τ).loc main_arg0))) slices_S768x32640_S192x32640_256_0 := by
  show Gen.V0 m c (Proc.devRef .tc main_v4) = _
  simp only [Gen.V0, Gen.hostOps0, List.flatten_cons, List.flatten_nil, List.append_nil, List.cons_append, List.nil_append]
  after_results <;> rfl

theorem regV7 (c : Dev nD) : V m c main_v7
    = concatenate S36x32640 0 [⟨S32x32640, extractStridedSlice S32x32640 ![640, 0] (rows (m ((c.tc : Thread nD τ).loc main_arg0))) slices_S768x32640_S32x32640_640_0⟩,
        ⟨S4x32640, extractStridedSlice S4x32640 ![728, 0] (rows (m ((c.tc : Thread nD τ).loc main_arg0))) slices_S768x32640_S4x32640_728_0⟩] concatenates_S32x32640_S4x32640_S36x32640_d0 := by
  show Gen.V0 m c (Proc.devRef .tc main_v7) = _
  simp only [Gen.V0, Gen.hostOps0, List.flatten_cons, List.flatten_nil, List.append_nil, List.cons_append, List.nil_append]
  after_results <;> rfl

theorem block0 (c : Dev nD) : iblk m c 0 t0_0 = V m c main_v4 := by
  funext y
  have i0 : win0_0.index t0_0 0 = 0 := by decide +kernel
  have i1 : win0_0.index t0_0 1 = 0 := by decide +kernel
  blk_ext [iblk, i0, i1]

theorem block1 (c : Dev nD) : iblk m c 1 t0_0 = V m c main_v7 := by
  funext y
  have i0 : win0_1.index t0_0 0 = 0 := by decide +kernel
  have i1 : win0_1.index t0_0 1 = 0 := by decide +kernel
  blk_ext [iblk, i0, i1]

theorem reg0 (c : Dev nD) : Value.reg_main_v8_0 m c = k0_pay1 (V m c main_v4) := by
  unfold Value.reg_main_v8_0
  refine (dats m 0 c).arrAt_eq_of_after_last 2 t0_0 (by decide +kernel) _ fun j => ?_
  blk_simp
  rw [after0_2, block0]
  frame_out

theorem reg1 (c : Dev nD) : Value.reg_main_v8_1 m c = k0_pay2 (V m c main_v7) := by
  unfold Value.reg_main_v8_1
  refine (dats m 0 c).arrAt_eq_of_after_last 3 t0_0 (by decide +kernel) _ fun j => ?_
  blk_simp
  rw [after0_3, block1]
  frame_out

theorem rows_apply (x : (⟨S6x32640x128, .i32⟩ : BufTy).Contents (Elt Ideal)) (i : S768x32640.Idx) :
    rows x i = wd x (i 1) (i 0).val := by
  have h0 : (i 0).val < 768 := (i 0).isLt
  have h1 : (i 1).val < 32640 := (i 1).isLt
  unfold rows wd
  rw [shapeCast_apply (transpose S6x128x32640 [0, 2, 1] x transposes_S6x32640x128_S6x128x32640_0_2_1) shapeCasts_S6x128x32640_S768x32640 i
    (fun a => match a with
      | ⟨0, _⟩ => ⟨(i 0).val / 128, by show _ < 6; omega⟩
      | ⟨1, _⟩ => ⟨(i 0).val % 128, by show _ < 128; omega⟩
      | ⟨2, _⟩ => i 1)
    (by rewrite [Shape.rowMajor_val_three, Shape.rowMajor_val_two]
        show ((i 0).val / 128 * 128 + (i 0).val % 128) * 32640 + (i 1).val = (i 0).val * 32640 + (i 1).val
        omega)]
  refine transpose_apply _ _ _ _ _ fun b => ?_
  match b with
  | ⟨0, _⟩ => show (i 0).val / 128 % 6 = (i 0).val / 128; omega
  | ⟨1, _⟩ => rfl
  | ⟨2, _⟩ => rfl

theorem slice_rows {R : ℕ} (o : ℕ) (x : (⟨S6x32640x128, .i32⟩ : BufTy).Contents (Elt Ideal))
    (h : Shape.Slices S768x32640 ![o, 0] ⟨2, ![R, 32640]⟩) (ho : o + R ≤ 768) (i : (⟨2, ![R, 32640]⟩ : Shape).Idx) :
    extractStridedSlice ⟨2, ![R, 32640]⟩ ![o, 0] (rows x) h i = wd x (i 1) (o + (i 0).val) := by
  have h0 : (i 0).val < R := (i 0).isLt
  rw [extractStridedSlice_apply ![o, 0] (rows x) h i
    (fun a => match a with | ⟨0, _⟩ => ⟨o + (i 0).val, by show _ < 768; omega⟩ | ⟨1, _⟩ => i 1)
    (fun a => match a with | ⟨0, _⟩ => rfl | ⟨1, _⟩ => by show (i 1).val = 0 + (i 1).val; omega), rows_apply]

theorem reads (c : Dev nD) : RefRead.Reads (m ((c.tc : Thread nD τ).loc main_arg0)) (Value.reg_main_v8_0 m c)
    (Value.reg_main_v8_1 m c) (rows (m ((c.tc : Thread nD τ).loc main_arg0)))
    (bitcastToFloat (F := Ideal) .f32 (extractStridedSlice S256x32640 ![0, 0] (rows (m ((c.tc : Thread nD τ).loc main_arg0))) slices_S768x32640_S256x32640_0_0)) where
  words i := rows_apply _ i
  final i := by
    show Ideal.ofBits .f32 (extractStridedSlice S256x32640 ![0, 0] (rows (m ((c.tc : Thread nD τ).loc main_arg0)))
      slices_S768x32640_S256x32640_0_0 i) = _
    rw [slice_rows 0 _ _ (by decide), Nat.zero_add]
  grads i := by
    have h0 : (i 0).val < 768 := (i 0).isLt
    rw [reg0, regV4]
    show Ideal.ofBits .fp8e5m2 (bitcast S768x32640 8 (shapeCast S192x32640 _ shapeCasts_S192x32640_S192x32640) _ i) = _
    rw [shapeCast_self, Bytes.bitcast_words _ bitcasts_S192x32640_w32_S768x32640_w8 i ⟨(i 0).val / 4, by omega⟩ (i 1) rfl rfl,
      slice_rows 256 _ _ (by decide)]
  codes i := by
    have h0 : (i 0).val < 144 := (i 0).isLt
    rw [reg1, regV7]
    show Ideal.ofBits .fp8e4m3 (bitcast S144x32640 8 (shapeCast S36x32640 _ shapeCasts_S36x32640_S36x32640) _ i) = _
    rw [shapeCast_self, Bytes.bitcast_words _ bitcasts_S36x32640_w32_S144x32640_w8 i ⟨(i 0).val / 4, by omega⟩ (i 1) rfl rfl,
      RefRead.join (X := m ((c.tc : Thread nD τ).loc main_arg0)) 6 _ _ (fun i => slice_rows 640 _ _ (by decide) i)
        (fun i => slice_rows 728 _ _ (by decide) i)]

/-- The reference's result is the plain formula of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v282) = result (m ((c.tc : Thread nD τ).loc main_arg0))
        (m ((c.tc : Thread nD τ).loc main_arg2)) (m ((c.tc : Thread nD τ).loc main_arg3)) :=
  (θ_run defs _ _).mono (fun _ h c => by
    rw [(h c).1, val_main_v282_eq, Value.exit_main_arg2, Value.exit_main_arg3, Value.exit_main_v8_0, Value.exit_main_v8_1,
      Value.exit_main_v1, Value.exit_main_v3]
    exact RefRead.result_eq (reads m c)) (Value.run m ρ)

end Cert.RefRun

end

end
-- ==== Proof.TripVec.lean ====
/- One trip of the kernel's loop over the slots, written once for all thirty-two tiles of a block: the vectors it computes
   from what it reads, and the pieces it writes. -/
module

public import proofs.«01_k».proof.Proof.Gen.KernelIdeal.Loops
public import proofs.«01_k».proof.Proof.Formula

@[expose] public section

noncomputable section

namespace Cert.KernelIdeal.Hand

open Cert.KernelIdeal Cert.KernelIdeal.Gen Idealize.ShloMosaic Idealize.ShloMosaic.TcCoe Cert.Formula

variable {F : FTy → Type} [FloatOps F] [Named F]

/-- Vectors add element by element. -/
local instance addVec : Add (FVec F S8x128 .f32) := ⟨addf⟩

/-- The word of twice a number below eight, as the constant the kernel subtracts. -/
def twice : ℕ → BitVec 32
  | 0 => 0#32
  | 1 => 1073741824#32
  | 2 => 1082130432#32
  | 3 => 1086324736#32
  | 4 => 1090519040#32
  | 5 => 1092616192#32
  | 6 => 1094713344#32
  | _ => 1096810496#32

section Cell

-- the nine parameters of the slot, the two states and the three colour gradients, tile by tile
variable (B : ℕ → FVec F S8x128 .f32) (t a : ℕ → FVec F S8x128 .f32) (g : ℕ → ℕ → FVec F S8x128 .f32)

def one : FVec F S8x128 .f32 := broadcast S8x128 (FloatOps.ofBits FTy.f32 1065353216#32)
def dx (x : ℕ) : FVec F S8x128 .f32 := subf (subf (B 0) k0_pay1228) (broadcast S8x128 (FloatOps.ofBits FTy.f32 (twice x)))
def dy (y : ℕ) : FVec F S8x128 .f32 := subf (subf (B 1) k0_pay1229) (broadcast S8x128 (FloatOps.ofBits FTy.f32 (twice (2 * y))))
def vis (y x : ℕ) : FVec F S8x128 .f32 :=
  exp2 (addf (mulf (addf (mulf (B 3) (dx B x)) (mulf (B 4) (dy B y))) (dy B y)) (mulf (mulf (B 2) (dx B x)) (dx B x)))
def alpha (y x : ℕ) : FVec F S8x128 .f32 := mulf (B 5) (vis B y x)
def tra (y x : ℕ) : FVec F S8x128 .f32 := mulf (t (8 * y + x)) (divf one (subf one (alpha B y x)))
def err (y x : ℕ) : FVec F S8x128 .f32 :=
  subf (addf (addf (mulf (B 6) (g 0 (8 * y + x))) (mulf (B 7) (g 1 (8 * y + x)))) (mulf (B 8) (g 2 (8 * y + x)))) (a (8 * y + x))
def acc (y x : ℕ) : FVec F S8x128 .f32 := addf (a (8 * y + x)) (mulf (alpha B y x) (err B a g y x))
def vt (y x : ℕ) : FVec F S8x128 .f32 := mulf (vis B y x) (tra B t y x)
def res (y x : ℕ) : FVec F S8x128 .f32 := mulf (vt B t y x) (err B a g y x)
/-- The nine sums the trip stores: six moments and three colours. -/
def sums : ℕ → FVec F S8x128 .f32
  | 0 => mA (res B t a g)
  | 1 => mQ (res B t a g)
  | 2 => mR (res B t a g)
  | 3 => mB (res B t a g)
  | 4 => mQB (res B t a g)
  | 5 => mC (res B t a g)
  | c + 6 => pfx (fun b => mulf (vt B t (b / 8) (b % 8)) (g c b)) 31

end Cell

section Trip

variable (𝒱 : Variants) (c : Dev nD) (bd : Option 𝒱.V) (i : grid0.Coords) (arg1 : Memref sig .tc .smem S255 .i32) (harg1 : arg1.IsWhole) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole) (v1 : Elt F .i32) (k0_hw1 : k0_chk1 v1) (v228 : FVec F S9x320x128 .f32) (v229 : Vec F S9x320x128 .f32)
  (X9 : BufTy.Contents (Elt F) arg9.view.ty) (X11 : BufTy.Contents (Elt F) arg11.view.ty) (k : Fin (k0_t1_loop v1).trips)
  (f7 : BufTy.Contents (Elt F) arg7.view.ty) (f8 : BufTy.Contents (Elt F) arg8.view.ty) (f12 : BufTy.Contents (Elt F) arg12.view.ty)

/-- The slot a trip works on. -/
def slot (v1 : BitVec 32) (k : Fin (k0_t1_loop v1).trips) : BitVec 32 :=
  Scalar.subi (Scalar.subi v1 1#32) (Scf.iv 0#32 1#32 k)

theorem slot_lt (v1 : Elt F .i32) (k0_hw1 : k0_chk1 v1) (k : Fin (k0_t1_loop v1).trips) : (slot v1 k).toNat < 40 := by
  have h : (slot v1 k).toNat + 1 ≤ 40 := k0_off2_inb v1 k0_hw1 k 1
  omega

theorem par_inb (v1 : Elt F .i32) (k0_hw1 : k0_chk1 v1) (k : Fin (k0_t1_loop v1).trips) (j : Fin 9) :
    ∀ a, (![j.val, (slot v1 k).toNat, 0] : Fin 3 → ℕ) a + S1x1x128.size a ≤ S9x40x128.size a := by
  intro a; have := j.isLt; have := slot_lt (F := F) v1 k0_hw1 k
  match a with
  | 0 => show j.val + 1 ≤ 9; omega
  | 1 => show (slot v1 k).toNat + 1 ≤ 40; omega
  | 2 => exact le_refl 128

/-- Parameter `j` of the trip's slot, as a load of it reads. -/
def parRow (v1 : Elt F .i32) (k0_hw1 : k0_chk1 v1) (k : Fin (k0_t1_loop v1).trips) (j : ℕ) : Vec F S1x1x128 .f32 :=
  if h : j < 9 then
    arg11.view.readAt (Elt F) (Rect.unit (s := S9x40x128) ![j, (slot v1 k).toNat, 0] S1x1x128.size (par_inb (F := F) v1 k0_hw1 k ⟨j, h⟩)).toLoadRect X11
  else fun _ => FloatOps.ofBits FTy.f32 0#32

/-- A parameter of the slot over a tile. -/
def par (v1 : Elt F .i32) (k0_hw1 : k0_chk1 v1) (k : Fin (k0_t1_loop v1).trips) (j : ℕ) : FVec F S8x128 .f32 :=
  broadcastTo S8x128 (shapeCast S1x128 (shapeCast S1x128 (parRow arg11 X11 v1 k0_hw1 k j) shapeCasts_S1x1x128_S1x128) shapeCasts_S1x128_S1x128)
    broadcasts_S1x128_S8x128

theorem rows_inb (b : Fin 32) : ∀ a, (![8 * b.val, 0] : Fin 2 → ℕ) a + S8x128.size a ≤ S256x128.size a := by
  intro a; have := b.isLt
  match a with
  | 0 => show 8 * b.val + 8 ≤ 256; omega
  | 1 => exact le_refl 128

theorem planes_inb (p : Fin 3) (b : Fin 32) : ∀ a, (![p.val, 8 * b.val, 0] : Fin 3 → ℕ) a + S1x8x128.size a ≤ S3x256x128.size a := by
  intro a; have := b.isLt; have := p.isLt
  match a with
  | 0 => show p.val + 1 ≤ 3; omega
  | 1 => show 8 * b.val + 8 ≤ 256; omega
  | 2 => exact le_refl 128

/-- Tile `b` of a 256-row state. -/
def tile (v : Memref sig .tc .vmem S256x128 .f32) (f : BufTy.Contents (Elt F) v.view.ty) (b : ℕ) : FVec F S8x128 .f32 :=
  if h : b < 32 then v.view.readAt (Elt F) (Rect.unit (s := S256x128) ![8 * b, 0] S8x128.size (rows_inb ⟨b, h⟩)).toLoadRect f else one

/-- Tile `b` of colour `p` of the gradients. -/
def gtile (p b : ℕ) : FVec F S8x128 .f32 :=
  if h : p < 3 ∧ b < 32 then
    shapeCast S8x128 (arg9.view.readAt (Elt F) (Rect.unit (s := S3x256x128) ![p, 8 * b, 0] S1x8x128.size (planes_inb ⟨p, h.1⟩ ⟨b, h.2⟩)).toLoadRect X9)
      shapeCasts_S1x8x128_S8x128
  else one

/-- The tiles of a 256-row state, last first. -/
def tiles (w : ℕ → FVec F S8x128 .f32) : List (View.Piece (Elt F) S256x128 .f32) :=
  (List.finRange 32).reverse.map fun b => ⟨Rect.unit (s := S256x128) ![8 * b.val, 0] S8x128.size (rows_inb b), shapeCast S8x128 (w b.val) shapeCasts_S8x128_S8x128⟩

theorem trip_tra (ac : BitVec 32) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 k ac f7 f8 f12).1
      = tiles fun b => tra (par arg11 X11 v1 k0_hw1 k) (tile arg7 f7) (b / 8) (b % 8) := by
  unfold tripL_k0_t1 trip_k0_t1
  rfl

theorem trip_acc (ac : BitVec 32) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 k ac f7 f8 f12).2.1
      = tiles fun b => acc (par arg11 X11 v1 k0_hw1 k) (tile arg8 f8) (gtile arg9 X9) (b / 8) (b % 8) := by
  unfold tripL_k0_t1 trip_k0_t1
  rfl

/-- Sum `j` of the trip, as stored. -/
def mom (j : ℕ) : FVec F S1x8x128 .f32 :=
  shapeCast S1x8x128 (sums (par arg11 X11 v1 k0_hw1 k) (tile arg7 f7) (tile arg8 f8) (gtile arg9 X9) j) shapeCasts_S8x128_S1x8x128

/-- The first of the eight rows the sums of the trip's slot take. -/
def momRow (v1 : BitVec 32) (k : Fin (k0_t1_loop v1).trips) : ℕ := (Scalar.muli (slot v1 k) 8#32).toNat

theorem mom_inb (v1 : Elt F .i32) (k0_hw1 : k0_chk1 v1) (k : Fin (k0_t1_loop v1).trips) (j : Fin 9) :
    ∀ a, (![j.val, momRow v1 k, 0] : Fin 3 → ℕ) a + S1x8x128.size a ≤ S9x320x128.size a := by
  have h : momRow v1 k + 8 ≤ 320 := k0_off11_inb v1 k0_hw1 k 1
  intro a; have := j.isLt
  match a with
  | 0 => show j.val + 1 ≤ 9; omega
  | 1 => exact h
  | 2 => exact le_refl 128

/-- The nine sums' pieces, last first. -/
def moms (v1 : Elt F .i32) (k0_hw1 : k0_chk1 v1) (k : Fin (k0_t1_loop v1).trips) (w : ℕ → FVec F S1x8x128 .f32) : List (View.Piece (Elt F) S9x320x128 .f32) :=
  (List.finRange 9).reverse.map fun j => ⟨Rect.unit (s := S9x320x128) ![j.val, momRow v1 k, 0] S1x8x128.size (mom_inb (F := F) v1 k0_hw1 k j), w j.val⟩

theorem trip_mom (ac : BitVec 32) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 k ac f7 f8 f12).2.2
      = moms (F := F) v1 k0_hw1 k (mom arg7 arg8 arg9 arg11 v1 k0_hw1 X9 X11 k f7 f8) := by
  unfold tripL_k0_t1 trip_k0_t1
  rfl

end Trip

end Cert.KernelIdeal.Hand

end
-- ==== Proof.TripRead.lean ====
/- What a trip reads and leaves, element by element: the pieces it writes read back through the memrefs. -/
module

public import proofs.«01_k».proof.Proof.TripVec
public import Idealize.ShloMosaic.Lib.WritesUnit
public import Idealize.ShloMosaic.Lib.ValueIdx
public import Idealize.ShloMosaic.Lib.ValueLayout
public import Idealize.ShloMosaic.Lib.Pipeline.Value

@[expose] public section

noncomputable section

namespace Cert.KernelIdeal.Hand

open Cert.KernelIdeal Cert.KernelIdeal.Gen Idealize.ShloMosaic Idealize.ShloMosaic.TcCoe Cert.Formula
open Idealize.ShloMosaic.ValueIdx (ix2 ix3 eq_ix2 eq_ix3)

variable {F : FTy → Type} [FloatOps F] [Named F]

/-- Row `r` of a block of 256, at a lane. -/
def row256 (x : S256x128.Idx → F .f32) (l : Fin 128) (r : ℕ) : F .f32 := x (ix2 (⟨r % 256, Nat.mod_lt _ (by decide)⟩ : Fin 256) l)

theorem tile_apply (v : Memref sig .tc .vmem S256x128 .f32) (f : BufTy.Contents (Elt F) v.view.ty) (b : ℕ) (hb : b < 32) (s : Fin 8) (l : Fin 128) :
    tile v f b (ix2 s l) = row256 (v.view.read (Elt F) f) l (8 * b + s.val) := by
  unfold tile row256
  rw [dif_pos hb, View.readAt_apply]
  refine congrArg _ (funext fun a => Fin.ext ?_)
  have := s.isLt
  match a with
  | ⟨0, _⟩ => show 8 * b + 1 * s.val = (8 * b + s.val) % 256; omega
  | ⟨1, _⟩ => show 0 + 1 * l.val = l.val; omega

theorem gtile_apply (v : Memref sig .tc .vmem S3x256x128 .f32) (f : BufTy.Contents (Elt F) v.view.ty) (p b : ℕ) (hp : p < 3) (hb : b < 32) (s : Fin 8) (l : Fin 128) :
    gtile v f p b (ix2 s l) = row256 (fun y => v.view.read (Elt F) f (ix3 (⟨p, hp⟩ : Fin 3) (y 0 : Fin 256) (y 1 : Fin 128))) l (8 * b + s.val) := by
  unfold gtile row256
  rw [dif_pos ⟨hp, hb⟩]
  refine (shapeCast_dropUnit_apply ![8, 128] _ _ (ix2 s l)).trans ?_
  rw [View.readAt_apply]
  refine congrArg _ (funext fun a => Fin.ext ?_)
  have := s.isLt
  match a with
  | ⟨0, _⟩ => show p + 1 * 0 = p; omega
  | ⟨1, _⟩ => show 8 * b + 1 * s.val = (8 * b + s.val) % 256; omega
  | ⟨2, _⟩ => show 0 + 1 * l.val = l.val; omega

theorem par_apply (v : Memref sig .tc .vmem S9x40x128 .f32) (f : BufTy.Contents (Elt F) v.view.ty) (v1 : Elt F .i32) (h1 : k0_chk1 v1)
    (k : Fin (k0_t1_loop v1).trips) (j : ℕ) (hj : j < 9) (s : Fin 8) (l : Fin 128) :
    par v f v1 h1 k j (ix2 s l) = v.view.read (Elt F) f (ix3 (⟨j, hj⟩ : Fin 9) (⟨(slot v1 k).toNat, slot_lt (F := F) v1 h1 k⟩ : Fin 40) l) := by
  unfold par parRow
  rw [dif_pos hj, ValueIdx.broadcastTo_1b_ab_apply, shapeCast_self]
  refine (shapeCast_dropUnit_apply ![1, 128] _ _ (ix2 (0 : Fin 1) l)).trans ?_
  rw [View.readAt_apply]
  refine congrArg _ (funext fun a => Fin.ext ?_)
  match a with
  | ⟨0, _⟩ => show j + 1 * 0 = j; omega
  | ⟨1, _⟩ => show (slot v1 k).toNat + 1 * 0 = (slot v1 k).toNat; omega
  | ⟨2, _⟩ => show 0 + 1 * l.val = l.val; omega

theorem read_rows (v : Memref sig .tc .vmem S256x128 .f32) (f : BufTy.Contents (Elt F) v.view.ty) (w : ℕ → FVec F S8x128 .f32)
    (L : List (View.Piece (Elt F) S256x128 .f32)) (r : Fin 256) (l : Fin 128) (bs : List (Fin 32)) :
    v.view.read (Elt F) (v.view.writes (Elt F) f ((bs.map fun b => (⟨Rect.unit (s := S256x128) ![8 * b.val, 0] S8x128.size (rows_inb b), shapeCast S8x128 (w b.val) shapeCasts_S8x128_S8x128⟩ : View.Piece (Elt F) S256x128 .f32)) ++ L)) (ix2 r l)
      = if (∃ b ∈ bs, b.val = r.val / 8) then w (r.val / 8) (ix2 (⟨r.val % 8, Nat.mod_lt _ (by decide)⟩ : Fin 8) l)
        else v.view.read (Elt F) (v.view.writes (Elt F) f L) (ix2 r l) := by
  induction bs with
  | nil => simp
  | cons b bs ih =>
    rw [List.map_cons, List.cons_append]
    by_cases hb : b.val = r.val / 8
    · rw [if_pos ⟨b, List.mem_cons_self, hb⟩]
      refine (View.read_writes_cons_unit_of_mem v.view f _ _ _ _ (ix2 (⟨r.val % 8, Nat.mod_lt _ (by decide)⟩ : Fin 8) l) rfl fun a => ?_).trans ?_
      · match a with
        | ⟨0, _⟩ => show r.val = 8 * b.val + r.val % 8; omega
        | ⟨1, _⟩ => show l.val = 0 + l.val; omega
      · rw [shapeCast_self, hb]
    · refine (View.read_writes_cons_unit_of_not_mem v.view f _ _ _ _ rfl 0 ?_).trans ?_
      · show r.val < 8 * b.val ∨ 8 * b.val + 8 ≤ r.val; omega
      · rw [ih]
        have e : (∃ b' ∈ bs, b'.val = r.val / 8) ↔ ∃ b' ∈ b :: bs, b'.val = r.val / 8 := by
          simp [hb]
        simp only [e]

theorem read_tiles (v : Memref sig .tc .vmem S256x128 .f32) (f : BufTy.Contents (Elt F) v.view.ty) (w : ℕ → FVec F S8x128 .f32)
    (L : List (View.Piece (Elt F) S256x128 .f32)) (r : Fin 256) (l : Fin 128) :
    v.view.read (Elt F) (v.view.writes (Elt F) f (tiles w ++ L)) (ix2 r l) = w (r.val / 8) (ix2 (⟨r.val % 8, Nat.mod_lt _ (by decide)⟩ : Fin 8) l) := by
  unfold tiles
  rw [read_rows, if_pos]
  exact ⟨⟨r.val / 8, by omega⟩, by simp, rfl⟩

theorem read_mom_rows (v : Memref sig .tc .vmem S9x320x128 .f32) (f : BufTy.Contents (Elt F) v.view.ty) (v1 : Elt F .i32) (h1 : k0_chk1 v1)
    (k : Fin (k0_t1_loop v1).trips) (w : ℕ → FVec F S1x8x128 .f32) (L : List (View.Piece (Elt F) S9x320x128 .f32)) (j : Fin 9) (r : Fin 320) (l : Fin 128)
    (js : List (Fin 9)) :
    v.view.read (Elt F) (v.view.writes (Elt F) f ((js.map fun j => (⟨Rect.unit (s := S9x320x128) ![j.val, momRow v1 k, 0] S1x8x128.size (mom_inb (F := F) v1 h1 k j), w j.val⟩ : View.Piece (Elt F) S9x320x128 .f32)) ++ L)) (ix3 j r l)
      = if h : j ∈ js ∧ momRow v1 k ≤ r.val ∧ r.val < momRow v1 k + 8 then w j.val (ix3 (0 : Fin 1) (⟨r.val - momRow v1 k, by omega⟩ : Fin 8) l)
        else v.view.read (Elt F) (v.view.writes (Elt F) f L) (ix3 j r l) := by
  induction js with
  | nil => simp
  | cons b js ih =>
    rw [List.map_cons, List.cons_append]
    by_cases hb : b = j ∧ momRow v1 k ≤ r.val ∧ r.val < momRow v1 k + 8
    · rw [dif_pos ⟨by rw [hb.1]; exact List.mem_cons_self, hb.2⟩]
      refine (View.read_writes_cons_unit_of_mem v.view f _ _ _ _ (ix3 (0 : Fin 1) (⟨r.val - momRow v1 k, by omega⟩ : Fin 8) l) rfl fun a => ?_).trans ?_
      · match a with
        | ⟨0, _⟩ => show j.val = b.val + 0; rw [hb.1]; rfl
        | ⟨1, _⟩ => show r.val = momRow v1 k + (r.val - momRow v1 k); omega
        | ⟨2, _⟩ => show l.val = 0 + l.val; omega
      · simp only [hb.1]
    · have e : (j ∈ js ∧ momRow v1 k ≤ r.val ∧ r.val < momRow v1 k + 8) ↔ (j ∈ b :: js ∧ momRow v1 k ≤ r.val ∧ r.val < momRow v1 k + 8) := by
        constructor
        · exact fun h => ⟨List.mem_cons_of_mem _ h.1, h.2⟩
        · rintro ⟨h, h'⟩
          rcases List.mem_cons.1 h with h | h
          · exact absurd ⟨h.symm, h'⟩ hb
          · exact ⟨h, h'⟩
      have step : v.view.read (Elt F) (v.view.writes (Elt F) f ((⟨Rect.unit (s := S9x320x128) ![b.val, momRow v1 k, 0] S1x8x128.size (mom_inb (F := F) v1 h1 k b), w b.val⟩ : View.Piece (Elt F) S9x320x128 .f32) :: ((js.map fun j => (⟨Rect.unit (s := S9x320x128) ![j.val, momRow v1 k, 0] S1x8x128.size (mom_inb (F := F) v1 h1 k j), w j.val⟩ : View.Piece (Elt F) S9x320x128 .f32)) ++ L))) (ix3 j r l)
          = v.view.read (Elt F) (v.view.writes (Elt F) f ((js.map fun j => (⟨Rect.unit (s := S9x320x128) ![j.val, momRow v1 k, 0] S1x8x128.size (mom_inb (F := F) v1 h1 k j), w j.val⟩ : View.Piece (Elt F) S9x320x128 .f32)) ++ L)) (ix3 j r l) := by
        by_cases hbj : b = j
        · refine View.read_writes_cons_unit_of_not_mem v.view f _ _ _ _ rfl 1 ?_
          show r.val < momRow v1 k ∨ momRow v1 k + 8 ≤ r.val
          by_contra hc
          exact hb ⟨hbj, by omega⟩
        · refine View.read_writes_cons_unit_of_not_mem v.view f _ _ _ _ rfl 0 ?_
          show j.val < b.val ∨ b.val + 1 ≤ j.val
          have : b.val ≠ j.val := fun h => hbj (Fin.ext h)
          omega
      rw [step, ih]
      simp only [e]

theorem read_moms (v : Memref sig .tc .vmem S9x320x128 .f32) (f : BufTy.Contents (Elt F) v.view.ty) (v1 : Elt F .i32) (h1 : k0_chk1 v1)
    (k : Fin (k0_t1_loop v1).trips) (w : ℕ → FVec F S1x8x128 .f32) (L : List (View.Piece (Elt F) S9x320x128 .f32)) (j : Fin 9) (r : Fin 320) (l : Fin 128) :
    v.view.read (Elt F) (v.view.writes (Elt F) f (moms (F := F) v1 h1 k w ++ L)) (ix3 j r l)
      = if h : momRow v1 k ≤ r.val ∧ r.val < momRow v1 k + 8 then w j.val (ix3 (0 : Fin 1) (⟨r.val - momRow v1 k, by omega⟩ : Fin 8) l)
        else v.view.read (Elt F) (v.view.writes (Elt F) f L) (ix3 j r l) := by
  unfold moms
  rw [read_mom_rows v f v1 h1 k]
  have : j ∈ (List.finRange 9).reverse := by simp
  simp only [this, true_and]

end Cert.KernelIdeal.Hand

end
-- ==== Proof.Walk.lean ====
/- One trip at one lane, as extended reals: what a slot's parameters make of the transmittance, of the colour behind it and
   of the pixel sums; and that the trip's vectors hold this. -/
module

public import proofs.«01_k».proof.Proof.TripRead

@[expose] public section

noncomputable section

namespace Cert.Walk

open Idealize.ShloMosaic Cert.Formula

section Cell

variable (p : ℕ → EReal) (T A : ℕ → EReal) (G : ℕ → ℕ → EReal)

def dx (x s : ℕ) : EReal := p 0 - ((sx s : ℝ) : EReal) - ((2 * (x : ℝ) : ℝ) : EReal)
def dy (y s : ℕ) : EReal := p 1 - ((sy s : ℝ) : EReal) - ((4 * (y : ℝ) : ℝ) : EReal)
def vis (y x s : ℕ) : EReal := Ideal.exp2 ((p 3 * dx p x s + p 4 * dy p y s) * dy p y s + p 2 * dx p x s * dx p x s)
def alpha (y x s : ℕ) : EReal := p 5 * vis p y x s
def tra (y x s : ℕ) : EReal := T (8 * (8 * y + x) + s) * Ideal.div 1 (1 - alpha p y x s)
def err (y x s : ℕ) : EReal :=
  p 6 * G 0 (8 * (8 * y + x) + s) + p 7 * G 1 (8 * (8 * y + x) + s) + p 8 * G 2 (8 * (8 * y + x) + s) - A (8 * (8 * y + x) + s)
def acc (y x s : ℕ) : EReal := A (8 * (8 * y + x) + s) + alpha p y x s * err p A G y x s
def vt (y x s : ℕ) : EReal := vis p y x s * tra p T y x s
def res (s y x : ℕ) : EReal := vt p T y x s * err p A G y x s
def sums (s : ℕ) : ℕ → EReal
  | 0 => mA (res p T A G s)
  | 1 => mQ (res p T A G s)
  | 2 => mR (res p T A G s)
  | 3 => mB (res p T A G s)
  | 4 => mQB (res p T A G s)
  | 5 => mC (res p T A G s)
  | c + 6 => pfx (fun b => vt p T (b / 8) (b % 8) s * G c (8 * b + s)) 31

/-- The two states after the slot, at pixel `f`. -/
def stepT (f : ℕ) : EReal := tra p T (f / 64) (f / 8 % 8) (f % 8)
def stepA (f : ℕ) : EReal := acc p A G (f / 64) (f / 8 % 8) (f % 8)

end Cell

/-- The two states after `i` slots, the last of `n` first; `P k` the parameters of slot `k`. -/
def runT (P : ℕ → ℕ → EReal) (n : ℕ) (T0 : ℕ → EReal) : ℕ → ℕ → EReal
  | 0 => T0
  | i + 1 => stepT (P (n - 1 - i)) (runT P n T0 i)
def runA (P : ℕ → ℕ → EReal) (G : ℕ → ℕ → EReal) (n : ℕ) (A0 : ℕ → EReal) : ℕ → ℕ → EReal
  | 0 => A0
  | i + 1 => stepA (P (n - 1 - i)) (runA P G n A0 i) G

end Cert.Walk

namespace Cert.KernelIdeal.Hand

open Cert.KernelIdeal Cert.KernelIdeal.Gen Idealize.ShloMosaic Idealize.ShloMosaic.TcCoe Cert.Formula
open Idealize.ShloMosaic.ValueIdx (ix2 ix3 eq_ix2 eq_ix3)

theorem pay_xs (s : Fin 8) (l : Fin 128) : k0_pay1228 (F := Ideal) (ix2 s l) = ((sx s.val : ℝ) : EReal) := by
  have e : k0_pay1228 (F := Ideal) (ix2 s l)
      = (((IntOp.shrsi .vector (BitVec.ofNat 32 s.val) 2#32).toInt : ℝ) : EReal) - Ideal.ofBits .f32 0x40F00000#32 := by
    show (((IntOp.shrsi .vector (iota .tc S8x128 32 [0] iota_S8x128_d0_w32 (ix2 s l)) 2#32).toInt : ℝ) : EReal) - _ = _
    rw [iota_single_apply]; rfl
  have c : Ideal.ofBits .f32 0x40F00000#32 = ((7.5 : ℝ) : EReal) := by
    simp [Ideal.ofBits, Ideal.ieee, -EReal.coe_mul]; norm_num
  have d : ∀ s : Fin 8, (IntOp.shrsi .vector (BitVec.ofNat 32 s.val) 2#32).toInt = (s.val / 4 : ℕ) := by decide
  rw [e, c, d s, sx, EReal.coe_sub]
  norm_cast

theorem pay_ys (s : Fin 8) (l : Fin 128) : k0_pay1229 (F := Ideal) (ix2 s l) = ((sy s.val : ℝ) : EReal) := by
  have e : k0_pay1229 (F := Ideal) (ix2 s l)
      = (((IntOp.andi (BitVec.ofNat 32 s.val) 3#32).toInt : ℝ) : EReal) - Ideal.ofBits .f32 0x40F00000#32 := by
    show (((IntOp.andi (iota .tc S8x128 32 [0] iota_S8x128_d0_w32 (ix2 s l)) 3#32).toInt : ℝ) : EReal) - _ = _
    rw [iota_single_apply]; rfl
  have c : Ideal.ofBits .f32 0x40F00000#32 = ((7.5 : ℝ) : EReal) := by
    simp [Ideal.ofBits, Ideal.ieee, -EReal.coe_mul]; norm_num
  have d : ∀ s : Fin 8, (IntOp.andi (BitVec.ofNat 32 s.val) 3#32).toInt = (s.val % 4 : ℕ) := by decide
  rw [e, c, d s, sy, EReal.coe_sub]
  norm_cast

theorem twice_real (x : ℕ) (hx : x < 8) : Ideal.ofBits .f32 (twice x) = ((2 * (x : ℝ) : ℝ) : EReal) := by
  interval_cases x <;> simp [twice, Ideal.ofBits, Ideal.ieee, -EReal.coe_mul] <;> norm_num

theorem one_real : Ideal.ofBits .f32 1065353216#32 = (1 : EReal) := by
  simp [Ideal.ofBits, Ideal.ieee, -EReal.coe_mul]; norm_num

local instance addVec' : Add (FVec Ideal S8x128 .f32) := addVec

theorem pfx_apply (g : ℕ → FVec Ideal S8x128 .f32) (n : ℕ) (i : S8x128.Idx) : (pfx g n : FVec Ideal S8x128 .f32) i = pfx (fun k => (g k i : EReal)) n := by
  induction n with
  | zero => rfl
  | succ n ih =>
    show (addf (pfx g n) (g (n + 1)) : FVec Ideal S8x128 .f32) i = _
    exact congrArg (· + g (n + 1) i) ih

section Cell

variable (B : ℕ → FVec Ideal S8x128 .f32) (t a : ℕ → FVec Ideal S8x128 .f32) (g : ℕ → ℕ → FVec Ideal S8x128 .f32)
  (p : ℕ → EReal) (T A : ℕ → EReal) (G : ℕ → ℕ → EReal) (s : Fin 8) (l : Fin 128)

/-- The vectors of a trip hold, at a sublane and lane, these numbers. -/
structure Holds : Prop where
  par : ∀ j, j < 9 → B j (ix2 s l) = p j
  tra : ∀ b, b < 32 → t b (ix2 s l) = T (8 * b + s.val)
  acc : ∀ b, b < 32 → a b (ix2 s l) = A (8 * b + s.val)
  grad : ∀ c, c < 3 → ∀ b, b < 32 → g c b (ix2 s l) = G c (8 * b + s.val)

variable {B t a g p T A G s l} (H : Holds B t a g p T A G s l) (y x : ℕ) (hy : y < 4) (hx : x < 8)
include H hy hx

omit hy in
theorem dx_at : dx B x (ix2 s l) = Walk.dx p x s.val := by
  show B 0 (ix2 s l) - k0_pay1228 (ix2 s l) - Ideal.ofBits .f32 (twice x) = _
  rw [H.par 0 (by decide), pay_xs, twice_real x hx]; rfl

omit hx in
theorem dy_at : dy B y (ix2 s l) = Walk.dy p y s.val := by
  show B 1 (ix2 s l) - k0_pay1229 (ix2 s l) - Ideal.ofBits .f32 (twice (2 * y)) = _
  rw [H.par 1 (by decide), pay_ys, twice_real (2 * y) (by omega), Walk.dy]
  congr 2; push_cast; ring

theorem vis_at : vis B y x (ix2 s l) = Walk.vis p y x s.val := by
  show Ideal.exp2 ((B 3 (ix2 s l) * dx B x (ix2 s l) + B 4 (ix2 s l) * dy B y (ix2 s l)) * dy B y (ix2 s l) + B 2 (ix2 s l) * dx B x (ix2 s l) * dx B x (ix2 s l)) = _
  rw [dx_at H x hx, dy_at H y hy, H.par 2 (by decide), H.par 3 (by decide), H.par 4 (by decide)]; rfl

theorem alpha_at : alpha B y x (ix2 s l) = Walk.alpha p y x s.val := by
  show B 5 (ix2 s l) * vis B y x (ix2 s l) = _
  rw [vis_at H y x hy hx, H.par 5 (by decide)]; rfl

theorem tra_at : tra B t y x (ix2 s l) = Walk.tra p T y x s.val := by
  show t (8 * y + x) (ix2 s l) * Ideal.div (Ideal.ofBits .f32 1065353216#32) (Ideal.ofBits .f32 1065353216#32 - alpha B y x (ix2 s l)) = _
  rw [alpha_at H y x hy hx, H.tra _ (by omega), one_real]; rfl

theorem err_at : err B a g y x (ix2 s l) = Walk.err p A G y x s.val := by
  show B 6 (ix2 s l) * g 0 (8 * y + x) (ix2 s l) + B 7 (ix2 s l) * g 1 (8 * y + x) (ix2 s l) + B 8 (ix2 s l) * g 2 (8 * y + x) (ix2 s l) - a (8 * y + x) (ix2 s l) = _
  rw [H.par 6 (by decide), H.par 7 (by decide), H.par 8 (by decide), H.acc _ (by omega), H.grad 0 (by decide) _ (by omega),
    H.grad 1 (by decide) _ (by omega), H.grad 2 (by decide) _ (by omega)]; rfl

theorem acc_at : acc B a g y x (ix2 s l) = Walk.acc p A G y x s.val := by
  show a (8 * y + x) (ix2 s l) + alpha B y x (ix2 s l) * err B a g y x (ix2 s l) = _
  rw [alpha_at H y x hy hx, err_at H y x hy hx, H.acc _ (by omega)]; rfl

theorem vt_at : vt B t y x (ix2 s l) = Walk.vt p T y x s.val := by
  show vis B y x (ix2 s l) * tra B t y x (ix2 s l) = _
  rw [vis_at H y x hy hx, tra_at H y x hy hx]; rfl

theorem res_at : res B t a g y x (ix2 s l) = Walk.res p T A G s.val y x := by
  show vt B t y x (ix2 s l) * err B a g y x (ix2 s l) = _
  rw [vt_at H y x hy hx, err_at H y x hy hx]; rfl

omit hx hy in
theorem sums_at (j : ℕ) (hj : j < 9) : sums B t a g j (ix2 s l) = Walk.sums p T A G s.val j := by
  have key : ∀ y, y ≤ 3 → ∀ x, x ≤ 7 → res B t a g y x (ix2 s l) = Walk.res p T A G s.val y x :=
    fun y hy x hx => res_at H y x (by omega) (by omega)
  have c1 : ∀ {f h : ℕ → EReal} (m n : ℕ), n ≤ m → (∀ x, x ≤ m → f x = h x) → pfx f n = pfx h n :=
    fun m n hn e => by
      clear key H
      induction n with
      | zero => exact e 0 (Nat.zero_le _)
      | succ n ih => show _ + _ = _ + _; rw [ih (by omega), e (n + 1) hn]
  match j, hj with
  | 0, _ =>
    show (pfx (fun y => pfx (res B t a g y) 7) 3 : FVec Ideal S8x128 .f32) (ix2 s l) = pfx (fun y => pfx (Walk.res p T A G s.val y) 7) 3
    simp only [pfx_apply]
    exact c1 3 3 le_rfl fun y hy => c1 7 7 le_rfl fun x hx => key y hy x hx
  | 1, _ =>
    show (pfx (pfx (fun y => pfx (res B t a g y) 7)) 3 : FVec Ideal S8x128 .f32) (ix2 s l) = pfx (pfx (fun y => pfx (Walk.res p T A G s.val y) 7)) 3
    simp only [pfx_apply]
    exact c1 3 3 le_rfl fun n hn => c1 3 n hn fun y hy => c1 7 7 le_rfl fun x hx => key y hy x hx
  | 2, _ =>
    show (pfx (pfx (pfx (fun y => pfx (res B t a g y) 7))) 3 : FVec Ideal S8x128 .f32) (ix2 s l) = pfx (pfx (pfx (fun y => pfx (Walk.res p T A G s.val y) 7))) 3
    simp only [pfx_apply]
    exact c1 3 3 le_rfl fun m hm => c1 3 m hm fun n hn => c1 3 n hn fun y hy => c1 7 7 le_rfl fun x hx => key y hy x hx
  | 3, _ =>
    show (pfx (fun y => pfx (pfx (res B t a g y)) 7) 3 : FVec Ideal S8x128 .f32) (ix2 s l) = pfx (fun y => pfx (pfx (Walk.res p T A G s.val y)) 7) 3
    simp only [pfx_apply]
    exact c1 3 3 le_rfl fun y hy => c1 7 7 le_rfl fun n hn => c1 7 n hn fun x hx => key y hy x hx
  | 4, _ =>
    show (pfx (pfx (fun y => pfx (pfx (res B t a g y)) 7)) 3 : FVec Ideal S8x128 .f32) (ix2 s l) = pfx (pfx (fun y => pfx (pfx (Walk.res p T A G s.val y)) 7)) 3
    simp only [pfx_apply]
    exact c1 3 3 le_rfl fun m hm => c1 3 m hm fun y hy => c1 7 7 le_rfl fun n hn => c1 7 n hn fun x hx => key y hy x hx
  | 5, _ =>
    show (pfx (fun y => pfx (pfx (pfx (res B t a g y))) 7) 3 : FVec Ideal S8x128 .f32) (ix2 s l) = pfx (fun y => pfx (pfx (pfx (Walk.res p T A G s.val y))) 7) 3
    simp only [pfx_apply]
    exact c1 3 3 le_rfl fun y hy => c1 7 7 le_rfl fun m hm => c1 7 m hm fun n hn => c1 7 n hn fun x hx => key y hy x hx
  | c + 6, hj =>
    show (pfx (fun b => mulf (vt B t (b / 8) (b % 8)) (g c b)) 31 : FVec Ideal S8x128 .f32) (ix2 s l) = _
    simp only [pfx_apply]
    refine c1 31 31 le_rfl fun b hb => ?_
    show vt B t (b / 8) (b % 8) (ix2 s l) * g c b (ix2 s l) = _
    rw [vt_at H (b / 8) (b % 8) (by omega) (by omega), H.grad c (by omega) b (by omega)]

end Cell

end Cert.KernelIdeal.Hand

end
-- ==== Proof.Model.lean ====
/- One block in real numbers: where everything listed is finite, the walk from the back over the slots and the reference's
   formula denote the same real numbers. -/
module

public import proofs.«01_k».proof.Proof.Spec
public import proofs.«01_k».proof.Proof.Walk

@[expose] public section

noncomputable section

namespace Cert.Model

open Idealize.ShloMosaic Finset Cert.Formula Cert.Spec

variable (w : ℕ → BitVec 32) (gs : EReal) (bg : ℕ → EReal) (n : ℕ)

/-- How many places the block lists. -/
def cnt : ℕ := (w 736).toInt.toNat

theorem listed_eq {k : ℕ} (hk : k < 40) : listed w k = BitVec.ofBool (decide (k < cnt w)) := by
  have e : (BitVec.ofNat 32 k).toInt = k := by interval_cases k <;> rfl
  show BitVec.ofBool (BitVec.slt (BitVec.ofNat 32 k) (w 736)) = _
  rw [BitVec.slt, e]
  refine congrArg _ (decide_eq_decide.2 ?_)
  unfold cnt; omega

theorem select_listed {k : ℕ} (hk : k < 40) (x y : EReal) : Scalar.select (listed w k) x y = if k < cnt w then x else y := by
  rw [listed_eq w hk]
  by_cases h : k < cnt w <;> simp [Scalar.select, h]

/-- What the value claim asks of a block: `n` slots hold its list, and what they hold is finite. -/
structure Ok : Prop where
  n_le : n ≤ 36
  cnt_le : cnt w ≤ n
  gs_real : ∃ r : ℝ, gs = r
  bg_real : ∀ c, c < 3 → ∃ r : ℝ, bg c = r
  fT_real : ∀ f, f < 256 → ∃ r : ℝ, fl (w f) = r
  code_real : ∀ c, c < 3 → ∀ f, f < 256 → ∃ r : ℝ, gcode w c f = r
  prm_real : ∀ p, p < 6 → ∀ k, k < cnt w → ∃ r : ℝ, fl (prm w p k) = r
  col_real : ∀ c, c < 3 → ∀ k, k < cnt w → ∃ r : ℝ, colour w c k = r
  alpha_ne : ∀ k, k < 36 → ∀ f, f < 256 → 1 - Spec.alpha w k f ≠ 0

theorem back {x : EReal} (h : ∃ r : ℝ, x = r) : x = (x.toReal : EReal) := by
  obtain ⟨r, rfl⟩ := h; rfl

theorem coe_sum (s : Finset ℕ) (f : ℕ → ℝ) : ((∑ i ∈ s, f i : ℝ) : EReal) = ∑ i ∈ s, (f i : EReal) := by
  induction s using Finset.induction_on with
  | empty => simp
  | insert i s h ih => rw [sum_insert h, sum_insert h, EReal.coe_add, ih]

theorem coe_prod (s : Finset ℕ) (f : ℕ → ℝ) : ((∏ i ∈ s, f i : ℝ) : EReal) = ∏ i ∈ s, (f i : EReal) := by
  induction s using Finset.induction_on with
  | empty => simp
  | insert i s h ih => rw [prod_insert h, prod_insert h, EReal.coe_mul, ih]

/-! ## The numbers -/

def a (p k : ℕ) : ℝ := (fl (prm w p k)).toReal
def ddx (k f : ℕ) : ℝ := a w 0 k - px f
def ddy (k f : ℕ) : ℝ := a w 1 k - py f
def v (k f : ℕ) : ℝ :=
  Real.exp (-(1 / 2 * (a w 2 k * ddx w k f * ddx w k f + a w 4 k * ddy w k f * ddy w k f) + a w 3 k * ddx w k f * ddy w k f))
def al (k f : ℕ) : ℝ := if k < cnt w then a w 5 k * v w k f else 0
def g (c f : ℕ) : ℝ := (gcode w c f).toReal
def co (c k : ℕ) : ℝ := if k < cnt w then (colour w c k).toReal else 0
def gc (f k : ℕ) : ℝ := co w 0 k * g w 0 f + co w 1 k * g w 1 f + co w 2 k * g w 2 f
def gb (f : ℕ) : ℝ := g w 0 f * (bg 0).toReal + g w 1 f * (bg 1).toReal + g w 2 f * (bg 2).toReal
def fT (f : ℕ) : ℝ := (fl (w f)).toReal
def T (f k : ℕ) : ℝ := Formula.trans n (fun j => al w j f) (fT w f) k
def B (f t : ℕ) : ℝ := behind n (fun j => al w j f) (gc w f) (gb w bg f) t
/-- What a pixel adds to the moments of slot `k`. -/
def r (k f : ℕ) : ℝ := v w k f * T w n f k * (gc w f k - B w bg n f (n - (k + 1)))

variable {w gs bg n} (O : Ok w gs bg n)
include O

theorem al_zero {j : ℕ} (f : ℕ) (h : cnt w ≤ j) : al w j f = 0 := if_neg (by omega)

/-! ## The reference -/

theorem dx_eq {k : ℕ} (hk : k < cnt w) (f : ℕ) : Spec.dx w k f = (ddx w k f : EReal) := by
  rw [Spec.dx, back (O.prm_real 0 (by decide) k hk), ← EReal.coe_sub]; rfl
theorem dy_eq {k : ℕ} (hk : k < cnt w) (f : ℕ) : Spec.dy w k f = (ddy w k f : EReal) := by
  rw [Spec.dy, back (O.prm_real 1 (by decide) k hk), ← EReal.coe_sub]; rfl

theorem vis_eq {k : ℕ} (hk : k < cnt w) (f : ℕ) : Spec.vis w k f = (v w k f : EReal) := by
  rw [Spec.vis, dx_eq O hk, dy_eq O hk, back (O.prm_real 2 (by decide) k hk), back (O.prm_real 3 (by decide) k hk),
    back (O.prm_real 4 (by decide) k hk)]
  simp only [← EReal.coe_mul, ← EReal.coe_add, ← EReal.coe_neg, Ideal.exp_coe]
  rfl

theorem alpha_eq {k : ℕ} (hk : k < 36) (f : ℕ) : Spec.alpha w k f = (al w k f : EReal) := by
  rw [Spec.alpha, select_listed w (by omega), al]
  split
  · next h => rw [vis_eq O h, back (O.prm_real 5 (by decide) k h), ← EReal.coe_mul]; rfl
  · rfl

theorem al_ne {k f : ℕ} (hk : k < 36) (hf : f < 256) : 1 - al w k f ≠ 0 := by
  have h := O.alpha_ne k hk f hf
  rw [alpha_eq O hk, ← EReal.coe_one, ← EReal.coe_sub] at h
  exact_mod_cast h

theorem al_ne' {f : ℕ} (hf : f < 256) : ∀ j, j < n → 1 - (fun j => al w j f) j ≠ 0 :=
  fun j hj => al_ne O (lt_of_lt_of_le hj O.n_le) hf

theorem prod_eq {k f : ℕ} :
    (∏ j ∈ range 36, if k ≤ j then 1 - Spec.alpha w j f else 1) = ((∏ j ∈ Ico k n, (1 - al w j f) : ℝ) : EReal) := by
  have h1 : ∀ j ∈ range 36, (if k ≤ j then 1 - Spec.alpha w j f else 1) = ((if k ≤ j then 1 - al w j f else 1 : ℝ) : EReal) := by
    intro j hj
    rw [alpha_eq O (mem_range.1 hj)]
    split
    · rw [EReal.coe_sub, EReal.coe_one]
    · rw [EReal.coe_one]
  rw [prod_congr rfl h1, ← coe_prod]
  congr 1
  rw [prod_ite, prod_const_one, mul_one]
  symm
  refine prod_subset (fun j hj => ?_) fun j hj hj' => ?_
  · have := mem_Ico.1 hj; have := O.n_le; exact mem_filter.2 ⟨mem_range.2 (by omega), by omega⟩
  · have h2 := mem_filter.1 hj
    have : n ≤ j := by by_contra h; exact hj' (mem_Ico.2 ⟨h2.2, by omega⟩)
    rw [al_zero O f (le_trans O.cnt_le this), sub_zero]

theorem trans_eq {k f : ℕ} (hf : f < 256) : Spec.trans w k f = (T w n f k : EReal) := by
  have h : (∏ j ∈ Ico k n, (1 - al w j f)) ≠ 0 := prod_ne_zero_iff.2 fun j hj => al_ne' O hf j (mem_Ico.1 hj).2
  rw [Spec.trans, prod_eq O, back (O.fT_real f hf), Ideal.div_coe h, ← EReal.coe_mul, mul_one_div]; rfl

theorem grad_eq {c f : ℕ} (hc : c < 3) (hf : f < 256) : Spec.grad w gs c f = ((g w c f * gs.toReal : ℝ) : EReal) := by
  rw [Spec.grad, back (O.code_real c hc f hf), EReal.coe_mul, ← back O.gs_real]; rfl

theorem co_eq {c k : ℕ} (hc : c < 3) (hk : k < cnt w) : colour w c k = (co w c k : EReal) := by
  rw [co, if_pos hk, ← back (O.col_real c hc k hk)]

theorem gcol_eq {k f : ℕ} (hk : k < cnt w) (hf : f < 256) : Spec.gcol w gs k f = ((gs.toReal * gc w f k : ℝ) : EReal) := by
  rw [Spec.gcol, grad_eq O (by decide) hf, grad_eq O (by decide) hf, grad_eq O (by decide) hf, co_eq O (by decide) hk, co_eq O (by decide) hk,
    co_eq O (by decide) hk]
  simp only [← EReal.coe_mul, ← EReal.coe_add]
  congr 1; rw [gc]; ring

theorem gback_eq {f : ℕ} (hf : f < 256) : Spec.gback w gs bg f = ((gs.toReal * gb w bg f : ℝ) : EReal) := by
  rw [Spec.gback, grad_eq O (by decide) hf, grad_eq O (by decide) hf, grad_eq O (by decide) hf, back (O.bg_real 0 (by decide)),
    back (O.bg_real 1 (by decide)), back (O.bg_real 2 (by decide))]
  simp only [← EReal.coe_mul, ← EReal.coe_add, EReal.toReal_coe]
  congr 1; rw [gb]; ring

theorem weight_eq {k f : ℕ} (hk : k < 36) (hf : f < 256) : Spec.weight w k f = ((al w k f * T w n f k : ℝ) : EReal) := by
  rw [Spec.weight, alpha_eq O hk, trans_eq O hf, EReal.coe_mul]

theorem later_eq {k f : ℕ} (hf : f < 256) : Spec.later w gs bg k f
    = ((∑ j ∈ Ico (k + 1) n, al w j f * T w n f j * (gs.toReal * gc w f j) + fT w f * (gs.toReal * gb w bg f) : ℝ) : EReal) := by
  have h1 : ∀ j ∈ range 36, (if k < j then Spec.weight w j f * Spec.gcol w gs j f else 0)
      = ((if k < j then al w j f * T w n f j * (gs.toReal * gc w f j) else 0 : ℝ) : EReal) := by
    intro j hj
    split
    · rw [weight_eq O (mem_range.1 hj) hf]
      by_cases h : j < cnt w
      · rw [gcol_eq O h hf, ← EReal.coe_mul]
      · rw [al_zero O f (by omega), zero_mul, EReal.coe_zero, zero_mul, zero_mul, EReal.coe_zero]
    · rw [EReal.coe_zero]
  rw [Spec.later, sum_congr rfl h1, ← coe_sum, gback_eq O hf, back (O.fT_real f hf), ← EReal.coe_mul, ← EReal.coe_add]
  congr 2
  rw [← sum_filter]
  symm
  refine sum_subset (fun j hj => ?_) fun j hj hj' => ?_
  · have := mem_Ico.1 hj; have := O.n_le; exact mem_filter.2 ⟨mem_range.2 (by omega), by omega⟩
  · have h2 := mem_filter.1 hj
    have : n ≤ j := by by_contra h; exact hj' (mem_Ico.2 ⟨h2.2, by omega⟩)
    rw [al_zero O f (le_trans O.cnt_le this), zero_mul, zero_mul]

theorem dalpha_eq {k f : ℕ} (hk : k < cnt w) (hf : f < 256) : Spec.dalpha w gs bg k f
    = ((gs.toReal * (T w n f k * (gc w f k - B w bg n f (n - (k + 1)))) : ℝ) : EReal) := by
  have hn : k < n := lt_of_lt_of_le hk O.cnt_le
  have h36 : k < 36 := lt_of_lt_of_le hn O.n_le
  rw [Spec.dalpha, select_listed w (by omega), if_pos hk, trans_eq O hf, gcol_eq O hk hf, later_eq O hf, alpha_eq O h36, ← EReal.coe_one,
    ← EReal.coe_sub, Ideal.div_coe (al_ne O h36 hf), ← EReal.coe_mul, ← EReal.coe_mul, ← EReal.coe_sub, mul_one_div]
  exact congrArg _ (Formula.dalpha_eq (al_ne' O hf) gs.toReal hn)

theorem dsigma_eq {k f : ℕ} (hk : k < cnt w) (hf : f < 256) : Spec.dsigma w gs bg k f
    = ((-(gs.toReal * a w 5 k) * r w bg n k f : ℝ) : EReal) := by
  have h36 : k < 36 := lt_of_lt_of_le hk (le_trans O.cnt_le O.n_le)
  rw [Spec.dsigma, alpha_eq O h36, dalpha_eq O hk hf, ← EReal.coe_neg, ← EReal.coe_mul]
  congr 1; rw [al, if_pos hk, r]; ring

/-- What a pixel adds to quantity `q` of slot `k`. -/
def _root_.Cert.Model.tm (w : ℕ → BitVec 32) (gs : EReal) (bg : ℕ → EReal) (n : ℕ) (q k f : ℕ) : ℝ :=
  let m := -(gs.toReal * a w 5 k)
  match q with
  | 0 => m * r w bg n k f * (a w 2 k * ddx w k f + a w 3 k * ddy w k f)
  | 1 => m * r w bg n k f * (a w 3 k * ddx w k f + a w 4 k * ddy w k f)
  | 2 => gs.toReal * r w bg n k f
  | 3 => 1 / 2 * (m * r w bg n k f) * ddx w k f * ddx w k f
  | 4 => m * r w bg n k f * ddx w k f * ddy w k f
  | 5 => 1 / 2 * (m * r w bg n k f) * ddy w k f * ddy w k f
  | 6 => a w 5 k * v w k f * T w n f k * (g w 0 f * gs.toReal)
  | 7 => a w 5 k * v w k f * T w n f k * (g w 1 f * gs.toReal)
  | _ => a w 5 k * v w k f * T w n f k * (g w 2 f * gs.toReal)

theorem term_eq {k f : ℕ} (q : ℕ) (hk : k < cnt w) (hf : f < 256) : Spec.term w gs bg q k f = (tm w gs bg n q k f : EReal) := by
  have h36 : k < 36 := lt_of_lt_of_le hk (le_trans O.cnt_le O.n_le)
  have p2 := back (O.prm_real 2 (by decide) k hk)
  have p3 := back (O.prm_real 3 (by decide) k hk)
  have p4 := back (O.prm_real 4 (by decide) k hk)
  unfold Spec.term tm
  split <;>
    simp only [dsigma_eq O hk hf, dx_eq O hk, dy_eq O hk, vis_eq O hk, dalpha_eq O hk hf, weight_eq O h36 hf, grad_eq O (c := 0) (by decide) hf,
      grad_eq O (c := 1) (by decide) hf, grad_eq O (c := 2) (by decide) hf] <;>
    (try rw [p2]) <;> (try rw [p3]) <;> (try rw [p4]) <;>
    simp only [← EReal.coe_mul, ← EReal.coe_add] <;>
    (refine congrArg _ ?_) <;> (try rfl)
  · rw [r]; ring
  all_goals (rw [al, if_pos hk])

theorem out_eq {k : ℕ} (q : ℕ) (hk : k < cnt w) : Spec.out w gs bg q k = ((∑ f ∈ range 256, tm w gs bg n q k f : ℝ) : EReal) := by
  rw [Spec.out, sum_congr rfl fun f hf => term_eq O q hk (mem_range.1 hf), coe_sum]

theorem out_zero {k : ℕ} (q : ℕ) (hk : cnt w ≤ k) (h36 : k < 36) : Spec.out w gs bg q k = 0 := by
  rw [Spec.out]
  refine sum_eq_zero fun f hf => ?_
  have hf := mem_range.1 hf
  have hα : Spec.alpha w k f = 0 := by rw [alpha_eq O h36, al_zero O f hk, EReal.coe_zero]
  have hd : Spec.dalpha w gs bg k f = 0 := by rw [Spec.dalpha, select_listed w (by omega), if_neg (by omega)]
  have hs : Spec.dsigma w gs bg k f = 0 := by rw [Spec.dsigma, hd, mul_zero]
  have hw : Spec.weight w k f = 0 := by rw [Spec.weight, hα, zero_mul]
  unfold Spec.term
  split <;> simp only [hs, hw, hd, zero_mul, mul_zero]

end Cert.Model

end
-- ==== Proof.Finite.lean ====
/- Words whose exponent bits are not all ones denote real numbers; so do the codes of fewer bits. -/
module

public import Idealize.ShloMosaic.PureOps.Ideal
public import Mathlib.Tactic.IntervalCases

@[expose] public section

namespace Cert.Finite

open Idealize.ShloMosaic

/-- A word holding the mask's bits, from those bits one by one. -/
theorem and_eq_of_bits {w : ℕ} {x m : BitVec w} (h : ∀ i, i < w → m.getLsbD i = true → x.getLsbD i = true) : x &&& m = m := by
  refine BitVec.eq_of_getLsbD_eq fun i hi => ?_
  rw [BitVec.getLsbD_and]
  cases hm : m.getLsbD i with
  | false => simp
  | true => simp [h i hi hm]

theorem getLsbD_of_extract {w n s : ℕ} {x : BitVec w} (h : (x.extractLsb' s n).toNat = 2 ^ n - 1) {j : ℕ} (hj : j < n) :
    x.getLsbD (s + j) = true := by
  have e : x.extractLsb' s n = BitVec.allOnes n := BitVec.eq_of_toNat_eq (by rw [h, BitVec.toNat_allOnes])
  have := congrArg (fun y => y.getLsbD j) e
  simpa [BitVec.getLsbD_extractLsb', hj] using this

theorem ieee_real {e m w : ℕ} {b : BitVec w} (h : (b.extractLsb' m e).toNat ≠ 2 ^ e - 1) :
    ∃ r : ℝ, Ideal.ieee e m b = r := by
  unfold Ideal.ieee
  simp only [if_neg h]
  split <;> exact ⟨_, rfl⟩

theorem f32_real {w : BitVec 32} (h : w &&& 2139095040#32 ≠ 2139095040#32) : ∃ r : ℝ, Ideal.ofBits .f32 w = r := by
  refine ieee_real fun e => h (and_eq_of_bits fun i hi hm => ?_)
  have hl : 23 ≤ i ∧ i < 31 := by
    revert hm; interval_cases i <;> simp
  obtain ⟨j, rfl⟩ : ∃ j, i = 23 + j := ⟨i - 23, by omega⟩
  exact getLsbD_of_extract e (by omega)

/-- The byte of a word at bit `s`. -/
abbrev byte (w : BitVec 32) (s : ℕ) : BitVec 8 := w.extractLsb' s 8

theorem byte_real_of {w M : BitVec 32} {s : ℕ} (b : ℕ) (hs : s = 8 * b) (hb : b < 4) (hM : M = 124#32 <<< s) (h : w &&& M ≠ M) :
    ∃ r : ℝ, Ideal.ofBits .fp8e5m2 (byte w s) = r := by
  refine ieee_real fun e => h (and_eq_of_bits fun i hi hm => ?_)
  have hl : s + 2 ≤ i ∧ i < s + 7 := by
    subst hM hs; revert hm; interval_cases b <;> interval_cases i <;> simp
  obtain ⟨j, rfl⟩ : ∃ j, i = s + (2 + j) := ⟨i - s - 2, by omega⟩
  have := getLsbD_of_extract (x := byte w s) e (j := j) (by omega)
  rw [BitVec.getLsbD_extractLsb'] at this
  simp only [Bool.and_eq_true] at this
  exact this.2

theorem byte_real_of' {w M : BitVec 32} {s : ℕ} (b : ℕ) (hs : s = 8 * b) (hb : b < 4) (hM : M = 127#32 <<< s) (h : w &&& M ≠ M) :
    ∃ r : ℝ, Ideal.ofBits .fp8e4m3 (byte w s) = r := by
  change ∃ r : ℝ, Ideal.e4m3fn (byte w s) = r
  unfold Ideal.e4m3fn
  have hne : ¬(((byte w s).extractLsb' 3 4).toNat = 15 ∧ ((byte w s).extractLsb' 0 3).toNat = 7) := by
    rintro ⟨e1, e2⟩
    refine h (and_eq_of_bits fun i hi hm => ?_)
    have hl : s ≤ i ∧ i < s + 7 := by
      subst hM hs; revert hm; interval_cases b <;> interval_cases i <;> simp
    obtain ⟨j, rfl⟩ : ∃ j, i = s + j := ⟨i - s, by omega⟩
    have : (byte w s).getLsbD j = true := by
      by_cases hj : j < 3
      · simpa using getLsbD_of_extract (x := byte w s) (s := 0) (n := 3) e2 (j := j) hj
      · obtain ⟨j', rfl⟩ : ∃ j', j = 3 + j' := ⟨j - 3, by omega⟩
        exact getLsbD_of_extract (x := byte w s) (s := 3) (n := 4) e1 (j := j') (by omega)
    rw [BitVec.getLsbD_extractLsb'] at this
    simp only [Bool.and_eq_true] at this
    exact this.2
  simp only [if_neg hne]
  split <;> exact ⟨_, rfl⟩

end Cert.Finite

end
-- ==== Proof.PreValue.lean ====
/- What the precondition of the value claim says of each block: its list fits the slots the kernel walks, what the slots
hold is finite, and no alpha is one. -/
module

public import proofs.«01_k».proof.Proof.Gen.Pre_pre_value
public import proofs.«01_k».proof.Proof.RefRun
public import proofs.«01_k».proof.Proof.Model
public import proofs.«01_k».proof.Proof.Finite
public import Mathlib.Tactic.IntervalCases
public import Idealize.ShloMosaic.Lib.ReduceAll

@[expose] public section

noncomputable section

namespace Cert.PreValue

open Cert.Pre_pre_value Cert.Pre_pre_value.Facts Cert.Spec Idealize.ShloMosaic Idealize.ShloMosaic.StableHlo

variable (x0 : IVec S6x32640x128 32) (x1 : IVec S255 32) (x2 : FVec Ideal S1 .f32) (x3 : FVec Ideal S3 .f32)

/-- Everywhere true. -/
abbrev all {s : Shape} {l : List (Fin s.rank)} (x : IVec s 1) (h : s.ReducesTo l S_) : IVec S_ 1 :=
  Host.reduce IntOp.andi x (constantI S_ 1 1#1) h h_S_

/-- The words with an index over the rows. -/
abbrev W : IVec S768x32640 32 := RefRun.rows x0

/-- A parameter's words, joined from two slices of the rows. -/
abbrev cat (a : IVec S32x32640 32) (b : IVec S4x32640 32) : IVec S36x32640 32 :=
  concatenate S36x32640 0 [⟨S32x32640, a⟩, ⟨S4x32640, b⟩] concatenates_S32x32640_S4x32640_S36x32640_d0

abbrev q0 := cat (extractStridedSlice S32x32640 ![448, 0] (W x0) slices_S768x32640_S32x32640_448_0) (extractStridedSlice S4x32640 ![704, 0] (W x0) slices_S768x32640_S4x32640_704_0)
abbrev q1 := cat (extractStridedSlice S32x32640 ![480, 0] (W x0) slices_S768x32640_S32x32640_480_0) (extractStridedSlice S4x32640 ![708, 0] (W x0) slices_S768x32640_S4x32640_708_0)
abbrev q2 := cat (extractStridedSlice S32x32640 ![512, 0] (W x0) slices_S768x32640_S32x32640_512_0) (extractStridedSlice S4x32640 ![712, 0] (W x0) slices_S768x32640_S4x32640_712_0)
abbrev q3 := cat (extractStridedSlice S32x32640 ![544, 0] (W x0) slices_S768x32640_S32x32640_544_0) (extractStridedSlice S4x32640 ![716, 0] (W x0) slices_S768x32640_S4x32640_716_0)
abbrev q4 := cat (extractStridedSlice S32x32640 ![576, 0] (W x0) slices_S768x32640_S32x32640_576_0) (extractStridedSlice S4x32640 ![720, 0] (W x0) slices_S768x32640_S4x32640_720_0)
abbrev q5 := cat (extractStridedSlice S32x32640 ![608, 0] (W x0) slices_S768x32640_S32x32640_608_0) (extractStridedSlice S4x32640 ![724, 0] (W x0) slices_S768x32640_S4x32640_724_0)
abbrev q6 := cat (extractStridedSlice S32x32640 ![640, 0] (W x0) slices_S768x32640_S32x32640_640_0) (extractStridedSlice S4x32640 ![728, 0] (W x0) slices_S768x32640_S4x32640_728_0)
abbrev q7 := cat (extractStridedSlice S32x32640 ![672, 0] (W x0) slices_S768x32640_S32x32640_672_0) (extractStridedSlice S4x32640 ![732, 0] (W x0) slices_S768x32640_S4x32640_732_0)

/-- The count of each block. -/
abbrev counts : IVec S32640 32 :=
  shapeCast S32640 (extractStridedSlice S1x32640 ![736, 0] (W x0) slices_S768x32640_S1x32640_736_0) shapeCasts_S1x32640_S32640

/-- The places past a block's list. -/
abbrev past : IVec S36x32640 1 :=
  noti (cmpi .slt (broadcastInDim S36x32640 ![0, 1] bcast_S36x1_S36x32640_0_1 (broadcastInDim S36x1 ![0] bcast_S36_S36x1_0 (iotaInDim S36 32 0)))
    (broadcastInDim S36x32640 ![0, 1] bcast_S1x32640_S36x32640_0_1 (broadcastInDim S1x32640 ![1] bcast_S32640_S1x32640_1 (counts x0))))

/-- Some masked bit of each word is clear. -/
abbrev clear (s : Shape) (h : S_.BroadcastsInDim s (![] : Fin 0 → Fin s.rank)) (q : IVec s 32) (M : BitVec 32) : IVec s 1 :=
  cmpi .ne (andi q (broadcastInDim s ![] h (constantI S_ 32 M))) (broadcastInDim s ![] h (constantI S_ 32 M))

abbrev fin36 (q : IVec S36x32640 32) (M : BitVec 32) : IVec S_ 1 :=
  all (ori (clear _ bcast_S_S36x32640 q M) (past x0)) reducesTo_S36x32640_S_d0_1
abbrev fin192 (M : BitVec 32) : IVec S_ 1 :=
  all (clear _ bcast_S_S192x32640 (extractStridedSlice S192x32640 ![256, 0] (W x0) slices_S768x32640_S192x32640_256_0) M) reducesTo_S192x32640_S_d0_1
abbrev fin256 : IVec S_ 1 :=
  all (clear _ bcast_S_S256x32640 (extractStridedSlice S256x32640 ![0, 0] (W x0) slices_S768x32640_S256x32640_0_0) 2139095040#32) reducesTo_S256x32640_S_d0_1

abbrev small : IVec S_ 1 :=
  all (cmpi .sle x1 (broadcastInDim S255 ![] bcast_S_S255 (constantI S_ 32 36#32))) reducesTo_S255_S_d0
abbrev fits : IVec S_ 1 :=
  all (cmpi .sle (shapeCast S255x128 (counts x0) shapeCasts_S32640_S255x128)
    (broadcastInDim S255x128 ![0, 1] bcast_S255x1_S255x128_0_1 (broadcastInDim S255x1 ![0] bcast_S255_S255x1_0 x1))) reducesTo_S255x128_S_d0_1
abbrev fin1 : IVec S_ 1 :=
  all (cmpf .olt (Host.absf x2) (broadcastInDim S1 ![] bcast_S_S1 (constant (F := Ideal) S_ .f32 0x7F800000#32))) reducesTo_S1_S_d0
abbrev fin3 : IVec S_ 1 :=
  all (cmpf .olt (Host.absf x3) (broadcastInDim S3 ![] bcast_S_S3 (constant (F := Ideal) S_ .f32 0x7F800000#32))) reducesTo_S3_S_d0
abbrev below : IVec S_ 1 :=
  all (cmpf .une (ReferenceIdeal.Read.val_main_v107 (F := Ideal) (W x0))
    (broadcastInDim S36x256x32640 ![] bcast_S_S36x256x32640 (constant (F := Ideal) S_ .f32 0x00000000#32))) reducesTo_S36x256x32640_S_d0_1_2

/-- The precondition, conjunct by conjunct; its alphas are the reference's. -/
theorem fn_eq : Cert.Pre_pre_value.fn (F := Ideal) x0 x1 x2 x3 =
    andi (andi (andi (andi (andi (andi (andi (andi (andi (andi (andi (andi (andi (andi (andi (andi
      (andi (small x1) (fits x0 x1)) (andi (andi (fin1 x2) (fin3 x3)) (fin256 x0)))
      (fin192 x0 124#32)) (fin192 x0 31744#32)) (fin192 x0 8126464#32)) (fin192 x0 2080374784#32))
      (fin36 x0 (q0 x0) 2139095040#32)) (fin36 x0 (q1 x0) 2139095040#32)) (fin36 x0 (q2 x0) 2139095040#32))
      (fin36 x0 (q3 x0) 2139095040#32)) (fin36 x0 (q4 x0) 2139095040#32)) (fin36 x0 (q5 x0) 2139095040#32))
      (fin36 x0 (q7 x0) 2139095040#32)) (fin36 x0 (q6 x0) 127#32)) (fin36 x0 (q6 x0) 32512#32)) (fin36 x0 (q6 x0) 8323072#32))
      (below x0) := rfl

variable {x0 x1 x2 x3}

/-! ## One element -/

theorem split {a b : IVec S_ 1} (h : andi a b = fun _ => 1#1) : a = (fun _ => 1#1) ∧ b = fun _ => 1#1 :=
  ⟨funext fun y => (IntOp.andi_eq_one.1 (congrFun h y)).1, funext fun y => (IntOp.andi_eq_one.1 (congrFun h y)).2⟩

instance : Subsingleton S_.Idx := ⟨fun a b => funext fun k => k.elim0⟩

theorem all_at {s : Shape} {l : List (Fin s.rank)} {x : IVec s 1} {h : s.ReducesTo l S_} (e : all x h = fun _ => 1#1) (i : s.Idx) : x i = 1#1 :=
  Host.reduce_andi_all x _ h _ (fun a => a.elim0) (congrFun e _) i

theorem clear_at {s : Shape} {h : S_.BroadcastsInDim s (![] : Fin 0 → Fin s.rank)} {q : IVec s 32} {M : BitVec 32} {i : s.Idx}
    (e : clear s h q M i = 1#1) : q i &&& M ≠ M := IntOp.cmpi_ne.1 e

theorem row_at (o R : ℕ) (h : Shape.Slices S768x32640 ![o, 0] ⟨2, ![R, 32640]⟩) (ho : o + R ≤ 768) (n : Fin 32640) (r : Fin R) :
    extractStridedSlice ⟨2, ![R, 32640]⟩ ![o, 0] (W x0) h (ValueIdx.ix2 r n) = wd x0 n (o + r.val) :=
  RefRun.slice_rows o x0 h ho _

/-- The rows as the reference's own reading starts from them. -/
theorem reads : RefRead.Reads x0 (fun i => Ideal.ofBits .fp8e5m2 ((wd x0 (i 1) (256 + (i 0).val / 4)).extractLsb' (8 * ((i 0).val % 4)) 8))
    (fun i => Ideal.ofBits .fp8e4m3 ((prm (wd x0 (i 1)) 6 ((i 0).val / 4)).extractLsb' (8 * ((i 0).val % 4)) 8)) (W x0)
    (fun i => fl (wd x0 (i 1) (i 0).val)) where
  words i := RefRun.rows_apply x0 i
  final _ := rfl
  grads _ := rfl
  codes _ := rfl

theorem past_at (k : Fin 36) (n : Fin 32640) (h : k.val < Model.cnt (wd x0 n)) : past x0 (ValueIdx.ix2 k n) ≠ 1#1 := by
  have e : ReferenceIdeal.Read.val_main_v102 (F := Ideal) (W x0) (ValueIdx.ix3 k 0 n) = listed (wd x0 n) k.val := RefRead.r102 reads _
  rw [ReferenceIdeal.Read.val_main_v102_apply] at e
  have e' : ReferenceIdeal.Read.val_main_v101 (F := Ideal) (W x0) (ValueIdx.ix2 k n) = listed (wd x0 n) k.val := by
    rw [← e]; congr 1; funext a; match a with | ⟨0, _⟩ => rfl | ⟨1, _⟩ => rfl
  show ~~~ (ReferenceIdeal.Read.val_main_v101 (F := Ideal) (W x0) (ValueIdx.ix2 k n)) ≠ 1#1
  rw [e', Model.listed_eq _ (by omega), decide_eq_true h]
  decide

theorem q_at {p : ℕ} {q : IVec S36x32640 32} {M : BitVec 32} (hq : ∀ j : S36x32640.Idx, q j = prm (wd x0 (j 1)) p (j 0).val)
    (e : fin36 x0 q M = fun _ => 1#1) (n : Fin 32640) (k : ℕ) (h36 : k < 36) (hk : k < Model.cnt (wd x0 n)) :
    prm (wd x0 n) p k &&& M ≠ M := by
  have := hq (ValueIdx.ix2 ⟨k, h36⟩ n)
  rcases IntOp.ori_eq_one.1 (all_at e (ValueIdx.ix2 ⟨k, h36⟩ n)) with c | c
  · exact this ▸ clear_at c
  · exact absurd c (past_at ⟨k, h36⟩ n hk)

theorem count_at (n : Fin 32640) (y : Fin 255) (z : Fin 128) (h : n.val = y.val * 128 + z.val) :
    shapeCast S255x128 (counts x0) shapeCasts_S32640_S255x128 (ValueIdx.ix2 y z) = wd x0 n 736 := by
  rw [shapeCast_apply (counts x0) shapeCasts_S32640_S255x128 _ (ValueIdx.ix1 n)
    (by rewrite [Shape.rowMajor_val_one, Shape.rowMajor_val_two]; exact h)]
  unfold counts
  rw [shapeCast_apply _ shapeCasts_S1x32640_S32640 _ (ValueIdx.ix2 (0 : Fin 1) n)
    (by rewrite [Shape.rowMajor_val_one, Shape.rowMajor_val_two]; show 0 * 32640 + n.val = n.val; omega)]
  exact RefRun.slice_rows 736 x0 _ (by decide) _

theorem real_of_lt {x : EReal} (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  have h' : max x (-x) < ⊤ := by
    by_contra hn
    simp [Ideal.cmp, hn] at h
  induction x with
  | bot => simp at h'
  | top => simp at h'
  | coe r => exact ⟨r, rfl⟩

theorem ne_of_une {x : EReal} (h : Ideal.cmp .une x (Ideal.ofBits .f32 0x00000000#32) = 1#1) : x ≠ 0 := by
  rw [RefRead.zero] at h
  intro hx
  simp [Ideal.cmp, hx] at h

/-- The slots of a block's point are no fewer than its list's splats. -/
theorem cnt_le {w v : BitVec 32} (h : w.toInt ≤ v.toInt) : w.toInt.toNat ≤ v.toInt.toNat := by
  omega

theorem small_at (h : Cert.Pre_pre_value.fn (F := Ideal) x0 x1 x2 x3 = fun _ => 1#1) (y : S255.Idx) : (x1 y : BitVec 32).toInt ≤ 36 := by
  rw [fn_eq] at h
  have e := all_at (split (split (split (split (split (split (split (split (split (split (split (split (split (split (split (split (split
    h).1).1).1).1).1).1).1).1).1).1).1).1).1).1).1).1).1 y
  exact IntOp.cmpi_sle.1 e

/-- What the precondition says of block `n` of the blocks of point `y`. -/
theorem block (h : Cert.Pre_pre_value.fn (F := Ideal) x0 x1 x2 x3 = fun _ => 1#1) (n : Fin 32640) (y : Fin 255) (z : Fin 128)
    (hn : n.val = y.val * 128 + z.val) :
    Model.Ok (wd x0 n) (x2 (ValueIdx.ix1 0)) (bgd x3) (x1 (ValueIdx.ix1 y) : BitVec 32).toInt.toNat := by
  have hs := small_at h
  rw [fn_eq] at h
  obtain ⟨h, hb⟩ := split h
  obtain ⟨h, h6c⟩ := split h
  obtain ⟨h, h6b⟩ := split h
  obtain ⟨h, h6a⟩ := split h
  obtain ⟨h, h7⟩ := split h
  obtain ⟨h, h5⟩ := split h
  obtain ⟨h, h4⟩ := split h
  obtain ⟨h, h3⟩ := split h
  obtain ⟨h, h2⟩ := split h
  obtain ⟨h, h1⟩ := split h
  obtain ⟨h, h0⟩ := split h
  obtain ⟨h, c3⟩ := split h
  obtain ⟨h, c2⟩ := split h
  obtain ⟨h, c1⟩ := split h
  obtain ⟨h, c0⟩ := split h
  obtain ⟨hl, hr⟩ := split h
  obtain ⟨-, hf⟩ := split hl
  obtain ⟨hr, ht⟩ := split hr
  obtain ⟨hg, hB⟩ := split hr
  have le : Model.cnt (wd x0 n) ≤ (x1 (ValueIdx.ix1 y) : BitVec 32).toInt.toNat := by
    have e := IntOp.cmpi_sle.1 (all_at hf (ValueIdx.ix2 y z))
    rw [count_at n y z hn] at e
    have e' : broadcastInDim S255x128 ![0, 1] bcast_S255x1_S255x128_0_1 (broadcastInDim S255x1 ![0] bcast_S255_S255x1_0 x1) (ValueIdx.ix2 y z)
        = x1 (ValueIdx.ix1 y) := by
      refine (broadcastInDim_apply _ bcast_S255x1_S255x128_0_1 _ _ (ValueIdx.ix2 y (0 : Fin 1)) fun a => match a with
        | ⟨0, _⟩ => by show y.val = if (255 : ℕ) = 1 then 0 else y.val; rw [if_neg (by decide)]
        | ⟨1, _⟩ => by show 0 = if (1 : ℕ) = 1 then 0 else z.val; rw [if_pos rfl]).trans ?_
      exact broadcastInDim_apply _ bcast_S255_S255x1_0 _ _ (ValueIdx.ix1 y) fun a => match a with
        | ⟨0, _⟩ => by show y.val = if (255 : ℕ) = 1 then 0 else y.val; rw [if_neg (by decide)]
    rw [e'] at e
    exact cnt_le e
  have j (p : ℕ) (a b : ℕ) (ha) (hb) (ea : a = 448 + 32 * p) (eb : b = 704 + 4 * p) (hp : p < 8) :
      ∀ j : S36x32640.Idx, cat (extractStridedSlice S32x32640 ![a, 0] (W x0) ha) (extractStridedSlice S4x32640 ![b, 0] (W x0) hb) j = prm (wd x0 (j 1)) p (j 0).val :=
    RefRead.join p _ _ (fun i => (RefRun.slice_rows a x0 _ (by omega) i).trans (by rw [ea])) (fun i => (RefRun.slice_rows b x0 _ (by omega) i).trans (by rw [eb])) _
  have le36 : (x1 (ValueIdx.ix1 y) : BitVec 32).toInt.toNat ≤ 36 := by have := hs (ValueIdx.ix1 y); omega
  have k36 {k : ℕ} (hk : k < Model.cnt (wd x0 n)) : k < 36 := by omega
  have word {f : ℕ} (hf : f < 192) (M : BitVec 32) (e : fin192 x0 M = fun _ => 1#1) : wd x0 n (256 + f) &&& M ≠ M := by
    have := clear_at (all_at e (ValueIdx.ix2 ⟨f, hf⟩ n))
    rwa [RefRun.slice_rows 256 x0 _ (by decide)] at this
  refine ⟨le36, le, ?_, ?_, ?_, ?_, ?_, ?_, ?_⟩
  · exact real_of_lt (all_at hg (ValueIdx.ix1 0))
  · intro c _
    exact real_of_lt (all_at hB _)
  · intro f hf
    refine Finite.f32_real ?_
    have := clear_at (all_at ht (ValueIdx.ix2 ⟨f, hf⟩ n))
    rw [RefRun.slice_rows 0 x0 _ (by decide), Nat.zero_add] at this
    exact this
  · intro c hc f hf
    have hw : 64 * c + f / 4 < 192 := by omega
    have e : 256 + 64 * c + f / 4 = 256 + (64 * c + f / 4) := by omega
    rw [gcode, e]
    have hb : f % 4 = 0 ∨ f % 4 = 1 ∨ f % 4 = 2 ∨ f % 4 = 3 := by omega
    rcases hb with hb | hb | hb | hb <;> rw [hb]
    · exact Finite.byte_real_of 0 rfl (by decide) (by decide) (word hw _ c0)
    · exact Finite.byte_real_of 1 rfl (by decide) (by decide) (word hw _ c1)
    · exact Finite.byte_real_of 2 rfl (by decide) (by decide) (word hw _ c2)
    · exact Finite.byte_real_of 3 rfl (by decide) (by decide) (word hw _ c3)
  · intro p hp k hk
    refine Finite.f32_real ?_
    interval_cases p
    · exact q_at (j 0 _ _ _ _ rfl rfl (by decide)) h0 n k (k36 hk) hk
    · exact q_at (j 1 _ _ _ _ rfl rfl (by decide)) h1 n k (k36 hk) hk
    · exact q_at (j 2 _ _ _ _ rfl rfl (by decide)) h2 n k (k36 hk) hk
    · exact q_at (j 3 _ _ _ _ rfl rfl (by decide)) h3 n k (k36 hk) hk
    · exact q_at (j 4 _ _ _ _ rfl rfl (by decide)) h4 n k (k36 hk) hk
    · exact q_at (j 5 _ _ _ _ rfl rfl (by decide)) h5 n k (k36 hk) hk
  · intro c hc k hk
    obtain ⟨s, es⟩ := Finite.f32_real (q_at (j 7 _ _ _ _ rfl rfl (by decide)) h7 n k (k36 hk) hk)
    have : ∃ r : ℝ, Ideal.ofBits .fp8e4m3 ((prm (wd x0 n) 6 k).extractLsb' (8 * c) 8) = r := by
      interval_cases c
      · exact Finite.byte_real_of' 0 rfl (by decide) (by decide) (q_at (j 6 _ _ _ _ rfl rfl (by decide)) h6a n k (k36 hk) hk)
      · exact Finite.byte_real_of' 1 rfl (by decide) (by decide) (q_at (j 6 _ _ _ _ rfl rfl (by decide)) h6b n k (k36 hk) hk)
      · exact Finite.byte_real_of' 2 rfl (by decide) (by decide) (q_at (j 6 _ _ _ _ rfl rfl (by decide)) h6c n k (k36 hk) hk)
    obtain ⟨r, er⟩ := this
    exact ⟨r * s, by rw [colour, er]; exact (congrArg _ es).trans (EReal.coe_mul _ _).symm⟩
  · intro k hk f hf
    have := ne_of_une (all_at hb (ValueIdx.ix3 ⟨k, hk⟩ ⟨f, hf⟩ n))
    rw [RefRead.r107 reads] at this
    exact this

end Cert.PreValue

end

end
-- ==== Proof.Frames.lean ====
/- The claims that say a program runs, leaves its arguments as they were and ends quiet, and the claim that the two named
   constants stand for the real numbers their bit patterns round. -/
module

public import proofs.«01_k».proof.Defs
public import proofs.«01_k».proof.Proof.HypsKernel
public import proofs.«01_k».proof.Proof.HypsKernelIdeal
public import proofs.«01_k».proof.Proof.PreValue
public import proofs.«01_k».proof.Proof.Gen.ReferenceIdeal.Frame
public import proofs.«01_k».proof.Proof.Gen.Pre_pre
public import proofs.«01_k».proof.Proof.Gen.Pre_pre_value

@[expose] public section

noncomputable section

namespace Cert.Proof

open Idealize.ShloMosaic Idealize.SL.Sem

theorem kernel_frame : Cert.quiescent_Kernel := fun m g h =>
  Cert.Kernel.Gen.frame m g (Cert.Kernel.Hand.ok m) (Cert.Kernel.Hand.hyps_of_pre m h)

theorem ideal_frame : Cert.quiescent_KernelIdeal := fun m g h =>
  Cert.KernelIdeal.Gen.frame m g (Cert.KernelIdeal.Hand.ok m) (Cert.KernelIdeal.Hand.hyps_of_pre m h)

theorem hyps_of_value (m : (ℓ : Loc Cert.KernelIdeal.nD Cert.KernelIdeal.τ Cert.KernelIdeal.sig) → Buf (Elt Ideal) ℓ)
    (h : Cert.Pre_KernelIdeal_pre_value m) : Cert.KernelIdeal.Gen.Hyps m (Cert.KernelIdeal.Hand.ok m) :=
  Cert.KernelIdeal.Hand.hyps_of_le m _ fun c y => le_trans (Cert.PreValue.small_at (h c) y) (by decide)

theorem ideal_frame_value : Cert.quiescent_KernelIdeal_pre_pre_value := fun m g h =>
  Cert.KernelIdeal.Gen.frame m g (Cert.KernelIdeal.Hand.ok m) (hyps_of_value m h)

theorem reference_frame : Cert.quiescent_ReferenceIdeal := fun m g _ => Cert.ReferenceIdeal.Gen.frame m g

theorem reference_frame_value : Cert.quiescent_ReferenceIdeal_pre_pre_value := fun m g _ => Cert.ReferenceIdeal.Gen.frame m g

theorem constants : Cert.preserves_Kernel_KernelIdeal :=
  ⟨IdealRules.named_const.statement _ _ _ _ _ rfl, IdealRules.named_const.statement _ _ _ _ _ rfl⟩

end Cert.Proof

end
-- ==== Proof.Last.lean ====
/- The kernel's last steps as vectors, written once for the five groups of eight slots: the sums over the eight sublanes, the
   nine rows made of them, and the block's result laid out row after row; and that this is what the run leaves in the output. -/
module

public import proofs.«01_k».proof.Proof.RunKernelIdeal
public import proofs.«01_k».proof.Proof.Formula

@[expose] public section

noncomputable section

namespace Cert.KernelIdeal.Hand

open Cert.KernelIdeal Cert.KernelIdeal.Gen Idealize.ShloMosaic Idealize.ShloMosaic.TcCoe Cert.Formula

namespace Last

variable {F : FTy → Type} [FloatOps F] [Named F]

/-- Vectors add element by element. -/
local instance addVec : Add (FVec F S8x128 .f32) := ⟨addf⟩

/-! The coefficients' words, by sublane: `x = 8.5 + s / 4`, `y = 8.5 + s % 4`, and their products. -/

def bx (s : ℕ) : BitVec 32 := [0x41080000#32, 0x41080000#32, 0x41080000#32, 0x41080000#32, 0x41180000#32, 0x41180000#32, 0x41180000#32, 0x41180000#32].getD s 0#32
def b4x (s : ℕ) : BitVec 32 := [0x42080000#32, 0x42080000#32, 0x42080000#32, 0x42080000#32, 0x42180000#32, 0x42180000#32, 0x42180000#32, 0x42180000#32].getD s 0#32
def bxx (s : ℕ) : BitVec 32 := [0x42908000#32, 0x42908000#32, 0x42908000#32, 0x42908000#32, 0x42B48000#32, 0x42B48000#32, 0x42B48000#32, 0x42B48000#32].getD s 0#32
def by' (s : ℕ) : BitVec 32 := [0x41080000#32, 0x41180000#32, 0x41280000#32, 0x41380000#32, 0x41080000#32, 0x41180000#32, 0x41280000#32, 0x41380000#32].getD s 0#32
def b2y (s : ℕ) : BitVec 32 := [0x41880000#32, 0x41980000#32, 0x41A80000#32, 0x41B80000#32, 0x41880000#32, 0x41980000#32, 0x41A80000#32, 0x41B80000#32].getD s 0#32
def b8y (s : ℕ) : BitVec 32 := [0x42880000#32, 0x42980000#32, 0x42A80000#32, 0x42B80000#32, 0x42880000#32, 0x42980000#32, 0x42A80000#32, 0x42B80000#32].getD s 0#32
def byy (s : ℕ) : BitVec 32 := [0x42908000#32, 0x42B48000#32, 0x42DC8000#32, 0x43044000#32, 0x42908000#32, 0x42B48000#32, 0x42DC8000#32, 0x43044000#32].getD s 0#32
def bxy (s : ℕ) : BitVec 32 := [0x42908000#32, 0x42A18000#32, 0x42B28000#32, 0x42C38000#32, 0x42A18000#32, 0x42B48000#32, 0x42C78000#32, 0x42DA8000#32].getD s 0#32

/-- The vector of one number. -/
def cst (b : BitVec 32) : FVec F S8x128 .f32 := broadcast S8x128 (FloatOps.ofBits FTy.f32 b)

section Rows

-- the sums `m j s`, the five raw parameters, the masked opacity, the scale and the mask
variable (m : ℕ → ℕ → FVec F S8x128 .f32) (u v ca cb cc opm : FVec F S8x128 .f32) (gs : Elt F .f32) (val : IVec S8x128 1)

def S0 : FVec F S8x128 .f32 := sub8 fun s => m 0 s
def Sx : FVec F S8x128 .f32 := sub8 fun s => subf (mulf (cst (bx s)) (m 0 s)) (mulf (cst 0x40000000#32) (m 3 s))
def Sy : FVec F S8x128 .f32 := sub8 fun s => subf (mulf (cst (by' s)) (m 0 s)) (mulf (cst 0x40800000#32) (m 1 s))
def Sxx : FVec F S8x128 .f32 := sub8 fun s => addf (subf (mulf (cst (bxx s)) (m 0 s)) (mulf (cst (b4x s)) (m 3 s)))
  (mulf (cst 0x40800000#32) (subf (mulf (cst 0x40000000#32) (m 5 s)) (m 3 s)))
def Sxy : FVec F S8x128 .f32 := sub8 fun s => addf (subf (subf (mulf (cst (bxy s)) (m 0 s)) (mulf (cst (b4x s)) (m 1 s)))
  (mulf (cst (b2y s)) (m 3 s))) (mulf (cst 0x41000000#32) (m 4 s))
def Syy : FVec F S8x128 .f32 := sub8 fun s => addf (subf (mulf (cst (byy s)) (m 0 s)) (mulf (cst (b8y s)) (m 1 s)))
  (mulf (cst 0x41800000#32) (subf (mulf (cst 0x40000000#32) (m 2 s)) (m 1 s)))
def Cl (c : ℕ) : FVec F S8x128 .f32 := sub8 fun s => m (6 + c) s

def Dx : FVec F S8x128 .f32 := subf (mulf u (S0 m)) (Sx m)
def Dy : FVec F S8x128 .f32 := subf (mulf v (S0 m)) (Sy m)
def Dxx : FVec F S8x128 .f32 := addf (mulf u (subf (Dx m u) (Sx m))) (Sxx m)
def Dyy : FVec F S8x128 .f32 := addf (mulf v (subf (Dy m v) (Sy m))) (Syy m)
def Dxy : FVec F S8x128 .f32 := addf (subf (mulf u (Dy m v)) (mulf v (Sx m))) (Sxy m)

def mg : FVec F S8x128 .f32 := mulf (broadcast S8x128 (Scalar.subf (FloatOps.ofBits FTy.f32 0x00000000#32) gs)) opm
def hg : FVec F S8x128 .f32 := mulf (cst 0x3F000000#32) (mg opm gs)

/-- Row `q` of the nine, before the mask. -/
def last (q : ℕ) : FVec F S8x128 .f32 :=
  match q with
  | 0 => mulf (mg opm gs) (addf (mulf ca (Dx m u)) (mulf cb (Dy m v)))
  | 1 => mulf (mg opm gs) (addf (mulf cb (Dx m u)) (mulf cc (Dy m v)))
  | 2 => mulf (broadcast S8x128 gs) (S0 m)
  | 3 => mulf (hg opm gs) (Dxx m u)
  | 4 => mulf (mg opm gs) (Dxy m u v)
  | 5 => mulf (hg opm gs) (Dyy m v)
  | c + 6 => mulf (mulf (broadcast S8x128 gs) opm) (Cl m c)

def out (q : ℕ) : FVec F S8x128 .f32 := select val (last m u v ca cb cc opm gs q) (cst 0x00000000#32)

end Rows

section Full

-- row `q` of group `k`
variable (o : ℕ → ℕ → FVec F S8x128 .f32)

def piece (p : ℕ) : (s : Shape) × FVec F s .f32 := ⟨S8x128, o (p / 4) (p % 4)⟩
def tailPiece (q : ℕ) : (s : Shape) × FVec F s .f32 := ⟨S4x128, extractStridedSlice S4x128 ![0, 0] (o q 4) slices_S8x128_o0_0_S4x128⟩
def zeros : (s : Shape) × FVec F s .f32 := ⟨S60x128, broadcast S60x128 (FloatOps.ofBits FTy.f32 0x00000000#32)⟩

/-- The pieces from the `p`-th on, of thirty-six of eight rows, then nine of four, then zeros. -/
def tails (q : ℕ) : List ((s : Shape) × FVec F s .f32) := (List.range' q (9 - q)).map (tailPiece o) ++ [zeros]
def pieces (p : ℕ) : List ((s : Shape) × FVec F s .f32) := (List.range' p (36 - p)).map (piece o) ++ tails o 0

/-- The 384 rows of a block of 128 lanes. -/
def full : FVec F S384x128 .f32 := concatenate S384x128 0 (pieces o 0) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S4x128_S4x128_S4x128_S4x128_S4x128_S4x128_S4x128_S4x128_S4x128_S60x128_S384x128_d0

def plane (x : FVec F S128x128 .f32) : FVec F S1x128x128 .f32 :=
  shapeCast S1x128x128 (transpose S128x128 [1, 0] x transposes_S128x128_p1_0_S128x128) shapeCasts_S128x128_S1x128x128

/-- The pieces stored in the output block: three planes of 128 rows, each transposed. -/
def stored : List (View.Piece (Elt F) S3x128x128 .f32) :=
  [⟨Rect.unit ![2, 0, 0] S1x128x128.size inb_S3x128x128_S1x128x128_2_0_0,
      plane (extractStridedSlice S128x128 ![256, 0] (full o) slices_S384x128_o256_0_S128x128)⟩,
    ⟨Rect.unit ![1, 0, 0] S1x128x128.size inb_S3x128x128_S1x128x128_1_0_0,
      plane (extractStridedSlice S128x128 ![128, 0] (full o) slices_S384x128_o128_0_S128x128)⟩,
    ⟨Rect.unit ![0, 0, 0] S1x128x128.size inb_S3x128x128_S1x128x128_0_0_0,
      plane (extractStridedSlice S128x128 ![0, 0] (full o) slices_S384x128_o0_0_S128x128)⟩]

end Full

/-! What these steps read: the sums' buffer at a stride, rows of the raw and of the prepared parameters, and the count. -/

theorem inb_mom (j k s : ℕ) : ∀ a : Fin 3, S1x8x128.size a = 0 ∨ (![j % 9, 64 * (k % 5) + s % 8, 0] : Fin 3 → ℕ) a + (![1, 8, 1] : Fin 3 → ℕ) a * (S1x8x128.size a - 1) < S9x320x128.size a := by
  intro a
  right
  match a with
  | ⟨0, _⟩ => show j % 9 + 1 * (1 - 1) < 9; omega
  | ⟨1, _⟩ => show 64 * (k % 5) + s % 8 + 8 * (8 - 1) < 320; omega
  | ⟨2, _⟩ => show 0 + 1 * (128 - 1) < 128; omega

theorem inb_raw (p k : ℕ) : ∀ a : Fin 3, (![p % 8, 8 * (k % 5), 0] : Fin 3 → ℕ) a + S1x8x128.size a ≤ S8x40x128.size a := by
  intro a
  match a with
  | ⟨0, _⟩ => show p % 8 + 1 ≤ 8; omega
  | ⟨1, _⟩ => show 8 * (k % 5) + 8 ≤ 40; omega
  | ⟨2, _⟩ => show 0 + 128 ≤ 128; omega

theorem inb_par (p k : ℕ) : ∀ a : Fin 3, (![p % 9, 8 * (k % 5), 0] : Fin 3 → ℕ) a + S1x8x128.size a ≤ S9x40x128.size a := by
  intro a
  match a with
  | ⟨0, _⟩ => show p % 9 + 1 ≤ 9; omega
  | ⟨1, _⟩ => show 8 * (k % 5) + 8 ≤ 40; omega
  | ⟨2, _⟩ => show 0 + 128 ≤ 128; omega

def sumsOf (arg12 : Memref sig .tc .vmem S9x320x128 .f32) (L : List (View.Piece (Elt F) S9x320x128 .f32)) (k j s : ℕ) : FVec F S8x128 .f32 :=
  shapeCast S8x128 (arg12.view.readCov L { off := ![j % 9, 64 * (k % 5) + s % 8, 0], size := S1x8x128.size, stride := ![1, 8, 1], inb := inb_mom j k s } : Vec F S1x8x128 .f32)
    shapeCasts_S1x8x128_S8x128

def rawOf (arg10 : Memref sig .tc .vmem S8x40x128 .i32) (L : List (View.Piece (Elt F) S8x40x128 .i32)) (k p : ℕ) : FVec F S8x128 .f32 :=
  bitcastToFloat .f32 (shapeCast S8x128 (arg10.view.readCov L (Rect.unit (s := S8x40x128) ![p % 8, 8 * (k % 5), 0] S1x8x128.size (inb_raw p k)).toLoadRect : Vec F S1x8x128 .i32)
    shapeCasts_S1x8x128_S8x128)

def parOf (arg11 : Memref sig .tc .vmem S9x40x128 .f32) (L : List (View.Piece (Elt F) S9x40x128 .f32)) (k p : ℕ) : FVec F S8x128 .f32 :=
  shapeCast S8x128 (arg11.view.readCov L (Rect.unit (s := S9x40x128) ![p % 9, 8 * (k % 5), 0] S1x8x128.size (inb_par p k)).toLoadRect : Vec F S1x8x128 .f32)
    shapeCasts_S1x8x128_S8x128

def maskOf (w : IVec S1x128 32) (k : ℕ) : IVec S8x128 1 :=
  cmpi .slt (addi (iota .tc S8x128 32 [0] iota_S8x128_d0_w32) (broadcast S8x128 (BitVec.ofNat 32 (8 * k)))) (broadcastTo S8x128 w broadcasts_S1x128_S8x128)

def rows (arg10 : Memref sig .tc .vmem S8x40x128 .i32) (arg11 : Memref sig .tc .vmem S9x40x128 .f32) (arg12 : Memref sig .tc .vmem S9x320x128 .f32)
    (LR : List (View.Piece (Elt F) S8x40x128 .i32)) (LP : List (View.Piece (Elt F) S9x40x128 .f32)) (LM : List (View.Piece (Elt F) S9x320x128 .f32))
    (gs : Elt F .f32) (w : IVec S1x128 32) (q k : ℕ) : FVec F S8x128 .f32 :=
  out (sumsOf arg12 LM k) (rawOf arg10 LR k 0) (rawOf arg10 LR k 1) (rawOf arg10 LR k 2) (rawOf arg10 LR k 3) (rawOf arg10 LR k 4)
    (parOf arg11 LP k 5) gs (maskOf w k) q

section Run

variable (c : Dev nD) (i : grid0.Coords)
  (arg2 : Memref sig .tc .vmem S6x128x128 .i32) (harg2 : arg2.IsWhole)
  (arg3 : Memref sig .tc .smem S1 .f32) (harg3 : arg3.IsWhole)
  (arg4 : Memref sig .tc .smem S3 .f32) (harg4 : arg4.IsWhole)
  (arg5 : Memref sig .tc .vmem S3x128x128 .f32) (harg5 : arg5.IsWhole)
  (arg6 : Memref sig .tc .vmem S768x128 .i32) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S3x256x128 .f32) (harg9 : arg9.IsWhole)
  (arg10 : Memref sig .tc .vmem S8x40x128 .i32) (harg10 : arg10.IsWhole)
  (arg11 : Memref sig .tc .vmem S9x40x128 .f32) (harg11 : arg11.IsWhole)
  (arg12 : Memref sig .tc .vmem S9x320x128 .f32) (harg12 : arg12.IsWhole)
  (arg13 : Memref sig .tc .vmem S160x128 .f32) (harg13 : arg13.IsWhole)
  (x0 : Vec F S6x128x128 .i32) (x1 : Vec F S1 .f32) (x2 : Vec F S3 .f32) (xt0 : TbBuf0 (F := F) c tbM0_0)
  (k0_hw1 : k0_chk1 (tbM0_0.view.readAt (Elt F) (Rect.unit (s := S255) (k0_off1 i) S1.size (k0_off1_inb i)).toLoadRect xt0 (Shape.Idx.first (numel1_S1.symm ▸ Nat.one_pos))))

/-- The state of the loop over the slots before its `n`-th trip, from the contents the preparation leaves. -/
abbrev loop1 (n : ℕ) :=
  st_k0_t1 Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 k0_pay1226 k0_pay1226
    (arg9.view.writes (Elt F) arg9.view.junk (kernelRun0_A.sl.HS3_3 c arg2 harg2 arg6 x0))
    (arg11.view.writes (Elt F) arg11.view.junk (kernelRun0_A.sl.HS5_9 c arg2 harg2 arg6 arg10 arg13 x0))
    (arg7.view.writes (Elt F) arg7.view.junk (kernelRun0_A.sl.HS1_1 c arg2 harg2 arg6 x0))
    (arg8.view.writes (Elt F) arg8.view.junk (kernelRun0_A.sl.HS2_1 c arg2 harg2 arg4 harg4 arg6 x0 x2))
    (arg12.view.writes (Elt F) arg12.view.junk kernelRun0_A.sl.HS6_1) (0#32) n

/-- That state at the loop's end. -/
abbrev end1 :=
  loop1 c i arg2 harg2 arg3 harg3 arg4 harg4 arg5 harg5 arg6 harg6 arg7 harg7 arg8 harg8 arg9 harg9 arg10 harg10 arg11 harg11 arg12 harg12 arg13 harg13 x0 x2 xt0 k0_hw1 (Scf.trips (k0_t1_loop (kernelRun0_A.sl.r c i xt0)).lb (k0_t1_loop (kernelRun0_A.sl.r c i xt0)).ub (k0_t1_loop (kernelRun0_A.sl.r c i xt0)).st)

/-- The state of the loop over the trips left over, before its `n`-th trip. -/
abbrev loop2 (n : ℕ) :=
  st_k0_t2 Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 k0_pay1226 k0_pay1226 (kernelRun0_A.sl.v247 c i xt0)
    (arg9.view.writes (Elt F) arg9.view.junk (kernelRun0_A.sl.HS3_3 c arg2 harg2 arg6 x0))
    (arg11.view.writes (Elt F) arg11.view.junk (kernelRun0_A.sl.HS5_9 c arg2 harg2 arg6 arg10 arg13 x0))
    (arg7.view.writes (Elt F) arg7.view.junk ((end1 c i arg2 harg2 arg3 harg3 arg4 harg4 arg5 harg5 arg6 harg6 arg7 harg7 arg8 harg8 arg9 harg9 arg10 harg10 arg11 harg11 arg12 harg12 arg13 harg13 x0 x2 xt0 k0_hw1).2.1 ++ kernelRun0_A.sl.HS1_1 c arg2 harg2 arg6 x0))
    (arg8.view.writes (Elt F) arg8.view.junk ((end1 c i arg2 harg2 arg3 harg3 arg4 harg4 arg5 harg5 arg6 harg6 arg7 harg7 arg8 harg8 arg9 harg9 arg10 harg10 arg11 harg11 arg12 harg12 arg13 harg13 x0 x2 xt0 k0_hw1).2.2.1 ++ kernelRun0_A.sl.HS2_1 c arg2 harg2 arg4 harg4 arg6 x0 x2))
    (arg12.view.writes (Elt F) arg12.view.junk ((end1 c i arg2 harg2 arg3 harg3 arg4 harg4 arg5 harg5 arg6 harg6 arg7 harg7 arg8 harg8 arg9 harg9 arg10 harg10 arg11 harg11 arg12 harg12 arg13 harg13 x0 x2 xt0 k0_hw1).2.2.2 ++ kernelRun0_A.sl.HS6_1))
    (end1 c i arg2 harg2 arg3 harg3 arg4 harg4 arg5 harg5 arg6 harg6 arg7 harg7 arg8 harg8 arg9 harg9 arg10 harg10 arg11 harg11 arg12 harg12 arg13 harg13 x0 x2 xt0 k0_hw1).1 n

/-- The pieces in the sums' buffer when the loops are done. -/
abbrev sumPieces : List (View.Piece (Elt F) S9x320x128 .f32) :=
  (loop2 c i arg2 harg2 arg3 harg3 arg4 harg4 arg5 harg5 arg6 harg6 arg7 harg7 arg8 harg8 arg9 harg9 arg10 harg10 arg11 harg11 arg12 harg12 arg13 harg13 x0 x2 xt0 k0_hw1 (Scf.trips (k0_t2_loop (kernelRun0_A.sl.r c i xt0)).lb (k0_t2_loop (kernelRun0_A.sl.r c i xt0)).ub (k0_t2_loop (kernelRun0_A.sl.r c i xt0)).st)).2.2.2
    ++ ((end1 c i arg2 harg2 arg3 harg3 arg4 harg4 arg5 harg5 arg6 harg6 arg7 harg7 arg8 harg8 arg9 harg9 arg10 harg10 arg11 harg11 arg12 harg12 arg13 harg13 x0 x2 xt0 k0_hw1).2.2.2 ++ kernelRun0_A.sl.HS6_1)

end Run

end Last

end Cert.KernelIdeal.Hand

end
-- ==== Proof.Stored.lean ====
/- What the run leaves in the output block: the last steps' vectors. -/
module

public import proofs.«01_k».proof.Proof.Last

@[expose] public section

noncomputable section

namespace Cert.KernelIdeal.Hand.Last

open Cert.KernelIdeal Cert.KernelIdeal.Gen Idealize.ShloMosaic Idealize.ShloMosaic.TcCoe Cert.Formula

variable {F : FTy → Type} [FloatOps F] [Named F]

variable (c : Dev nD) (i : grid0.Coords)
  (arg2 : Memref sig .tc .vmem S6x128x128 .i32) (harg2 : arg2.IsWhole)
  (arg3 : Memref sig .tc .smem S1 .f32) (harg3 : arg3.IsWhole)
  (arg4 : Memref sig .tc .smem S3 .f32) (harg4 : arg4.IsWhole)
  (arg5 : Memref sig .tc .vmem S3x128x128 .f32) (harg5 : arg5.IsWhole)
  (arg6 : Memref sig .tc .vmem S768x128 .i32) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S3x256x128 .f32) (harg9 : arg9.IsWhole)
  (arg10 : Memref sig .tc .vmem S8x40x128 .i32) (harg10 : arg10.IsWhole)
  (arg11 : Memref sig .tc .vmem S9x40x128 .f32) (harg11 : arg11.IsWhole)
  (arg12 : Memref sig .tc .vmem S9x320x128 .f32) (harg12 : arg12.IsWhole)
  (arg13 : Memref sig .tc .vmem S160x128 .f32) (harg13 : arg13.IsWhole)
  (x0 : Vec F S6x128x128 .i32) (x1 : Vec F S1 .f32) (x2 : Vec F S3 .f32) (xt0 : TbBuf0 (F := F) c tbM0_0)
  (k0_hw1 : k0_chk1 (tbM0_0.view.readAt (Elt F) (Rect.unit (s := S255) (k0_off1 i) S1.size (k0_off1_inb i)).toLoadRect xt0 (Shape.Idx.first (numel1_S1.symm ▸ Nat.one_pos))))

set_option maxRecDepth 100000 in
theorem run_stored : (kernelRun0_A c i arg2 harg2 arg3 harg3 arg4 harg4 arg5 harg5 arg6 harg6 arg7 harg7 arg8 harg8 arg9 harg9 arg10 harg10 arg11 harg11 arg12 harg12 arg13 harg13 x0 x1 x2 xt0 k0_hw1).1
    = stored (rows arg10 arg11 arg12 (kernelRun0_A.sl.HS4_16 c arg2 harg2 arg6 x0) (kernelRun0_A.sl.HS5_9 c arg2 harg2 arg6 arg10 arg13 x0)
        (sumPieces c i arg2 harg2 arg3 harg3 arg4 harg4 arg5 harg5 arg6 harg6 arg7 harg7 arg8 harg8 arg9 harg9 arg10 harg10 arg11 harg11 arg12 harg12 arg13 harg13 x0 x2 xt0 k0_hw1) (kernelRun0_A.sl.r_10 c arg3 harg3 x1) (kernelRun0_A.sl.v155 c arg2 harg2 arg6 x0)) := by sl_kernel_rfl

end Cert.KernelIdeal.Hand.Last

end
-- ==== Proof.Kern.lean ====
/- What the kernel computes of one block, as extended reals — the parameters it prepares, the states of its walk, the sums it
   keeps, and the rows it makes of them — and that these are the reference's quantities. -/
module

public import proofs.«01_k».proof.Proof.Model

@[expose] public section

noncomputable section

namespace Cert.Kern

open Idealize.ShloMosaic Finset Cert.Formula Cert.Spec Cert.Model

variable (w : ℕ → BitVec 32) (gs : EReal) (bg : ℕ → EReal) (n : ℕ)

def halfLog : EReal := ((-((1 / 2) * (Real.log 2)⁻¹) : ℝ) : EReal)
def negLog : EReal := ((-(Real.log 2)⁻¹ : ℝ) : EReal)

/-- Parameter `j` of slot `k` as the walk takes it. -/
def P (k : ℕ) : ℕ → EReal
  | 0 => fl (prm w 0 k)
  | 1 => fl (prm w 1 k)
  | 2 => fl (prm w 2 k) * halfLog
  | 3 => fl (prm w 3 k) * negLog
  | 4 => fl (prm w 4 k) * halfLog
  | 5 => Scalar.select (listed w k) (fl (prm w 5 k)) 0
  | c + 6 => fl (prm w 7 k) * Ideal.ofBits .fp8e4m3 ((prm w 6 k).extractLsb' (8 * c) 8)

def T0 (f : ℕ) : EReal := fl (w f)
def A0 (f : ℕ) : EReal := gcode w 0 f * bg 0 + gcode w 1 f * bg 1 + gcode w 2 f * bg 2

def Tn : ℕ → ℕ → EReal := Walk.runT (P w) n (T0 w)
def An : ℕ → ℕ → EReal := Walk.runA (P w) (gcode w) n (A0 w bg)

/-- Sum `j` of slot `k` over the pixels of a sublane. -/
def M (k j s : ℕ) : EReal :=
  if k < n then Walk.sums (P w k) (Tn w n (n - 1 - k)) (An w bg n (n - 1 - k)) (gcode w) s j else 0

/-! The kernel's last steps, over the sums `m j s` of one slot. -/

section Last

variable (m : ℕ → ℕ → EReal) (u v ca cb cc opm gs : EReal)

abbrev cx (s : ℕ) : EReal := ((sx s + 16 : ℝ) : EReal)
def S0 : EReal := sub8 fun s => m 0 s
def Sx : EReal := sub8 fun s => ((sx s + 16 : ℝ) : EReal) * m 0 s - ((2 : ℝ) : EReal) * m 3 s
def Sy : EReal := sub8 fun s => ((sy s + 16 : ℝ) : EReal) * m 0 s - ((4 : ℝ) : EReal) * m 1 s
def Sxx : EReal := sub8 fun s =>
  (((sx s + 16) * (sx s + 16) : ℝ) : EReal) * m 0 s - ((4 * (sx s + 16) : ℝ) : EReal) * m 3 s
    + ((4 : ℝ) : EReal) * (((2 : ℝ) : EReal) * m 5 s - m 3 s)
def Sxy : EReal := sub8 fun s =>
  (((sx s + 16) * (sy s + 16) : ℝ) : EReal) * m 0 s - ((4 * (sx s + 16) : ℝ) : EReal) * m 1 s
    - ((2 * (sy s + 16) : ℝ) : EReal) * m 3 s + ((8 : ℝ) : EReal) * m 4 s
def Syy : EReal := sub8 fun s =>
  (((sy s + 16) * (sy s + 16) : ℝ) : EReal) * m 0 s - ((8 * (sy s + 16) : ℝ) : EReal) * m 1 s
    + ((16 : ℝ) : EReal) * (((2 : ℝ) : EReal) * m 2 s - m 1 s)
def Cl (c : ℕ) : EReal := sub8 fun s => m (6 + c) s

def Dx : EReal := u * S0 m - Sx m
def Dy : EReal := v * S0 m - Sy m
def Dxx : EReal := u * (Dx m u - Sx m) + Sxx m
def Dyy : EReal := v * (Dy m v - Sy m) + Syy m
def Dxy : EReal := u * Dy m v - v * Sx m + Sxy m

def last (q : ℕ) : EReal :=
  match q with
  | 0 => -gs * opm * (ca * Dx m u + cb * Dy m v)
  | 1 => -gs * opm * (cb * Dx m u + cc * Dy m v)
  | 2 => gs * S0 m
  | 3 => ((1 / 2 : ℝ) : EReal) * (-gs * opm) * Dxx m u
  | 4 => -gs * opm * Dxy m u v
  | 5 => ((1 / 2 : ℝ) : EReal) * (-gs * opm) * Dyy m v
  | c + 6 => gs * opm * Cl m c

end Last

/-- Quantity `q` of slot `k`, before the mask; after it. -/
def raw (q k : ℕ) : EReal :=
  last (M w bg n k) (fl (prm w 0 k)) (fl (prm w 1 k)) (fl (prm w 2 k)) (fl (prm w 3 k)) (fl (prm w 4 k)) (P w k 5) gs q
def out (q k : ℕ) : EReal := Scalar.select (listed w k) (raw w gs bg n q k) 0

variable {w gs bg n} (O : Ok w gs bg n)
include O

theorem P5_unlisted {k : ℕ} (hk : cnt w ≤ k) (h40 : k < 40) : P w k 5 = 0 := by
  show Scalar.select (listed w k) _ _ = _
  rw [select_listed w h40, if_neg (by omega)]

theorem P5_listed {k : ℕ} (hk : k < cnt w) : P w k 5 = (a w 5 k : EReal) := by
  have h36 : k < 36 := lt_of_lt_of_le hk (le_trans O.cnt_le O.n_le)
  show Scalar.select (listed w k) _ _ = _
  rw [select_listed w (by omega), if_pos hk, back (O.prm_real 5 (by decide) k hk)]; rfl

section Pixel

variable {k : ℕ} (hk : k < cnt w) {y x s : ℕ} (hx : x < 8) (hs : s < 8)
include hk hx hs

theorem dx_eq : Walk.dx (P w k) x s = (ddx w k (64 * y + 8 * x + s) : EReal) := by
  show fl (prm w 0 k) - _ - _ = _
  rw [back (O.prm_real 0 (by decide) k hk), ← EReal.coe_sub, ← EReal.coe_sub, ddx, px_eq hx hs]
  exact congrArg _ (by rw [a]; ring)

theorem dy_eq : Walk.dy (P w k) y s = (ddy w k (64 * y + 8 * x + s) : EReal) := by
  show fl (prm w 1 k) - _ - _ = _
  rw [back (O.prm_real 1 (by decide) k hk), ← EReal.coe_sub, ← EReal.coe_sub, ddy, py_eq hx hs]
  exact congrArg _ (by rw [a]; ring)

theorem vis_eq : Walk.vis (P w k) y x s = (v w k (64 * y + 8 * x + s) : EReal) := by
  rw [Walk.vis, dx_eq O (y := y) hk hx hs, dy_eq O (x := x) hk hx hs]
  show Ideal.exp2 ((fl (prm w 3 k) * negLog * _ + fl (prm w 4 k) * halfLog * _) * _ + fl (prm w 2 k) * halfLog * _ * _) = _
  rw [back (O.prm_real 2 (by decide) k hk), back (O.prm_real 3 (by decide) k hk), back (O.prm_real 4 (by decide) k hk), negLog, halfLog]
  simp only [← EReal.coe_mul, ← EReal.coe_add, Ideal.exp2_coe]
  refine congrArg _ ?_
  have hl : Real.log 2 ≠ 0 := (Real.log_pos (by norm_num)).ne'
  rw [v]
  refine (Real.rpow_def_of_pos (by norm_num : (0 : ℝ) < 2) _).trans (congrArg Real.exp ?_)
  rw [a, a, a]; field_simp; ring

theorem alpha_eq : Walk.alpha (P w k) y x s = (al w k (64 * y + 8 * x + s) : EReal) := by
  rw [Walk.alpha, vis_eq O hk hx hs, P5_listed O hk, ← EReal.coe_mul, al, if_pos hk]

end Pixel

theorem alpha_eq' {k : ℕ} (hk : k < 40) {y x s : ℕ} (hx : x < 8) (hs : s < 8) :
    Walk.alpha (P w k) y x s = (al w k (64 * y + 8 * x + s) : EReal) := by
  by_cases h : k < cnt w
  · exact alpha_eq O h hx hs
  · rw [Walk.alpha, P5_unlisted O (by omega) hk, zero_mul, al_zero O _ (by omega), EReal.coe_zero]

theorem err_eq {k : ℕ} (hk : k < cnt w) (A : ℕ → EReal) (b : ℝ) {y x s : ℕ} (hy : y < 4) (hx : x < 8) (hs : s < 8)
    (hA : A (8 * (8 * y + x) + s) = b) :
    Walk.err (P w k) A (gcode w) y x s = ((gc w (64 * y + 8 * x + s) k - b : ℝ) : EReal) := by
  have e : 8 * (8 * y + x) + s = 64 * y + 8 * x + s := by ring
  have c : ∀ c, c < 3 → P w k (c + 6) = (co w c k : EReal) := fun c hc => by
    rw [← co_eq O hc hk]; exact mul_comm _ _
  rw [Walk.err, hA, e, c 0 (by decide), c 1 (by decide), c 2 (by decide), back (O.code_real 0 (by decide) (64 * y + 8 * x + s) (by omega)),
    back (O.code_real 1 (by decide) (64 * y + 8 * x + s) (by omega)), back (O.code_real 2 (by decide) (64 * y + 8 * x + s) (by omega))]
  simp only [← EReal.coe_mul, ← EReal.coe_add, ← EReal.coe_sub]
  rfl

theorem tra_eq {k : ℕ} (hk : k < n) (t : ℕ → EReal) {y x s : ℕ} (hy : y < 4) (hx : x < 8) (hs : s < 8)
    (hT : t (64 * y + 8 * x + s) = (T w n (64 * y + 8 * x + s) (k + 1) : EReal)) :
    Walk.tra (P w k) t y x s = (T w n (64 * y + 8 * x + s) k : EReal) := by
  have h36 : k < 36 := lt_of_lt_of_le hk O.n_le
  have e : 8 * (8 * y + x) + s = 64 * y + 8 * x + s := by ring
  rw [Walk.tra, e, hT, alpha_eq' O (by omega) hx hs, ← EReal.coe_one, ← EReal.coe_sub, Ideal.div_coe (al_ne O h36 (by omega)), ← EReal.coe_mul,
    ← EReal.coe_mul, one_mul]
  exact congrArg _ (trans_step hk).symm

theorem states (i : ℕ) (hi : i ≤ n) : ∀ f, f < 256 → Tn w n i f = (T w n f (n - i) : EReal) ∧ An w bg n i f = (B w bg n f i : EReal) := by
  induction i with
  | zero =>
    intro f hf
    refine ⟨?_, ?_⟩
    · show fl (w f) = _
      rw [back (O.fT_real f hf), Model.T, Formula.trans, Nat.sub_zero, Ico_self, prod_empty, div_one]; rfl
    · show A0 w bg f = _
      rw [A0, back (O.code_real 0 (by decide) f hf), back (O.code_real 1 (by decide) f hf), back (O.code_real 2 (by decide) f hf),
        back (O.bg_real 0 (by decide)), back (O.bg_real 1 (by decide)), back (O.bg_real 2 (by decide))]
      simp only [← EReal.coe_mul, ← EReal.coe_add]
      rfl
  | succ i ih =>
    intro f hf
    have ih := ih (by omega)
    have hy : f / 64 < 4 := by omega
    have hx : f / 8 % 8 < 8 := by omega
    have hs : f % 8 < 8 := by omega
    have e : 64 * (f / 64) + 8 * (f / 8 % 8) + f % 8 = f := by omega
    have e' : 8 * (8 * (f / 64) + f / 8 % 8) + f % 8 = f := by omega
    have hn := O.n_le
    refine ⟨?_, ?_⟩
    · show Walk.tra (P w (n - 1 - i)) (Tn w n i) (f / 64) (f / 8 % 8) (f % 8) = _
      have h := tra_eq O (k := n - 1 - i) (by omega) (Tn w n i) hy hx hs (by
        rw [e, show n - 1 - i + 1 = n - i by omega]; exact (ih f hf).1)
      rw [h, e, show n - 1 - i = n - (i + 1) by omega]
    · show Walk.acc (P w (n - 1 - i)) (An w bg n i) (gcode w) (f / 64) (f / 8 % 8) (f % 8) = _
      rw [Walk.acc, alpha_eq' O (by omega) hx hs, e, e', (ih f hf).2]
      by_cases h : n - 1 - i < cnt w
      · rw [err_eq O h _ (B w bg n f i) hy hx hs (by rw [e']; exact (ih f hf).2), e, ← EReal.coe_mul, ← EReal.coe_add]; rfl
      · rw [al_zero O f (by omega), EReal.coe_zero, zero_mul, add_zero]
        refine congrArg _ ?_
        show _ = B w bg n f i + al w (n - 1 - i) f * _
        rw [al_zero O f (by omega), zero_mul, add_zero]

section Slot

variable {k : ℕ} (hk : k < cnt w) {s : ℕ} (hs : s < 8)
include hk hs

theorem vt_eq {y x : ℕ} (hy : y < 4) (hx : x < 8) : Walk.vt (P w k) (Tn w n (n - 1 - k)) y x s
    = ((v w k (64 * y + 8 * x + s) * T w n (64 * y + 8 * x + s) k : ℝ) : EReal) := by
  have hn := lt_of_lt_of_le hk O.cnt_le
  rw [Walk.vt, vis_eq O hk hx hs, tra_eq O hn _ hy hx hs, EReal.coe_mul]
  rw [(states O (n - 1 - k) (by omega) (64 * y + 8 * x + s) (by omega)).1, show n - (n - 1 - k) = k + 1 by omega]

theorem res_eq {y x : ℕ} (hy : y < 4) (hx : x < 8) : Walk.res (P w k) (Tn w n (n - 1 - k)) (An w bg n (n - 1 - k)) (gcode w) s y x
    = (sl (r w bg n k) s y x : EReal) := by
  have hn := lt_of_lt_of_le hk O.cnt_le
  rw [Walk.res, vt_eq O hk hs hy hx, err_eq O hk _ (B w bg n (64 * y + 8 * x + s) (n - (k + 1))) hy hx hs, ← EReal.coe_mul]; rfl
  rw [show 8 * (8 * y + x) + s = 64 * y + 8 * x + s by ring, (states O (n - 1 - k) (by omega) (64 * y + 8 * x + s) (by omega)).2,
    show n - 1 - k = n - (k + 1) by omega]

/-- A colour's share of a pixel. -/
def _root_.Cert.Kern.cr (w : ℕ → BitVec 32) (n c k f : ℕ) : ℝ := v w k f * T w n f k * g w c f

def _root_.Cert.Kern.rm (w : ℕ → BitVec 32) (bg : ℕ → EReal) (n k j s : ℕ) : ℝ :=
  match j with
  | 0 => mA (sl (r w bg n k) s)
  | 1 => mQ (sl (r w bg n k) s)
  | 2 => mR (sl (r w bg n k) s)
  | 3 => mB (sl (r w bg n k) s)
  | 4 => mQB (sl (r w bg n k) s)
  | 5 => mC (sl (r w bg n k) s)
  | c + 6 => sum32 (sl (cr w n c k) s)

theorem M_eq (j : ℕ) (hj : j < 9) : M w bg n k j s = (rm w bg n k j s : EReal) := by
  have hn := lt_of_lt_of_le hk O.cnt_le
  rw [M, if_pos hn]
  have e : ∀ y, y ≤ 3 → ∀ x, x ≤ 7 → Walk.res (P w k) (Tn w n (n - 1 - k)) (An w bg n (n - 1 - k)) (gcode w) s y x
      = (sl (r w bg n k) s y x : EReal) := fun y hy x hx => res_eq O hk hs (by omega) (by omega)
  have cg : ∀ {α : Type} [Add α] {f h : ℕ → α} (m n : ℕ), n ≤ m → (∀ x, x ≤ m → f x = h x) → pfx f n = pfx h n :=
    fun m n hn e => pfx_congr fun i hi => e i (by omega)
  match j, hj with
  | 0, _ =>
    refine Eq.trans ?_ (mA_coe _)
    exact cg 3 3 le_rfl fun y hy => cg 7 7 le_rfl fun x hx => e y hy x hx
  | 1, _ =>
    refine Eq.trans ?_ (mQ_coe _)
    exact cg 3 3 le_rfl fun m hm => cg 3 m hm fun y hy => cg 7 7 le_rfl fun x hx => e y hy x hx
  | 2, _ =>
    refine Eq.trans ?_ (mR_coe _)
    exact cg 3 3 le_rfl fun m hm => cg 3 m hm fun m' hm' => cg 3 m' hm' fun y hy => cg 7 7 le_rfl fun x hx => e y hy x hx
  | 3, _ =>
    refine Eq.trans ?_ (mB_coe _)
    exact cg 3 3 le_rfl fun y hy => cg 7 7 le_rfl fun m hm => cg 7 m hm fun x hx => e y hy x hx
  | 4, _ =>
    refine Eq.trans ?_ (mQB_coe _)
    exact cg 3 3 le_rfl fun m hm => cg 3 m hm fun y hy => cg 7 7 le_rfl fun m' hm' => cg 7 m' hm' fun x hx => e y hy x hx
  | 5, _ =>
    refine Eq.trans ?_ (mC_coe _)
    exact cg 3 3 le_rfl fun y hy => cg 7 7 le_rfl fun m hm => cg 7 m hm fun m' hm' => cg 7 m' hm' fun x hx => e y hy x hx
  | c + 6, hj =>
    show pfx _ 31 = ((sum32 (sl (cr w n c k) s) : ℝ) : EReal)
    have : sum32 (sl (cr w n c k) s) = pfx (fun b => cr w n c k (8 * b + s)) 31 := by
      rw [pfx31]; exact sum32_congr fun y x _ _ => congrArg (cr w n c k) (by ring)
    rw [this, ← pfx_coe]
    refine cg 31 31 le_rfl fun b hb => ?_
    have e' : 64 * (b / 8) + 8 * (b % 8) + s = 8 * b + s := by omega
    rw [vt_eq O hk hs (by omega) (by omega), e', back (O.code_real c (by omega) (8 * b + s) (by omega)), ← EReal.coe_mul]; rfl

end Slot

/-! ## The last steps over real numbers -/

omit O in
theorem sub8_coe (F : ℕ → EReal) (h : ℕ → ℝ) (e : ∀ s, s < 8 → F s = h s) : sub8 F = ((sub8 h : ℝ) : EReal) := by
  rw [sub8, sub8, ← pfx_coe]; exact pfx_congr fun i hi => e i (by omega)

section Sums

variable {k : ℕ} (hk : k < cnt w)
include hk

theorem S0_eq : S0 (M w bg n k) = (Formula.S0 (r w bg n k) : EReal) :=
  sub8_coe _ _ fun s hs => M_eq O hk hs 0 (by decide)

theorem Sx_eq : Sx (M w bg n k) = (Formula.Sx (r w bg n k) : EReal) :=
  sub8_coe _ _ fun s hs => by
    simp only [M_eq O hk hs _ (show 0 < 9 by decide), M_eq O hk hs _ (show 3 < 9 by decide), ← EReal.coe_mul, ← EReal.coe_sub, rm]

theorem Sy_eq : Sy (M w bg n k) = (Formula.Sy (r w bg n k) : EReal) :=
  sub8_coe _ _ fun s hs => by
    simp only [M_eq O hk hs _ (show 0 < 9 by decide), M_eq O hk hs _ (show 1 < 9 by decide), ← EReal.coe_mul, ← EReal.coe_sub, rm]

theorem Sxx_eq : Sxx (M w bg n k) = (Formula.Sxx (r w bg n k) : EReal) :=
  sub8_coe _ _ fun s hs => by
    simp only [M_eq O hk hs _ (show 0 < 9 by decide), M_eq O hk hs _ (show 3 < 9 by decide), M_eq O hk hs _ (show 5 < 9 by decide),
      ← EReal.coe_mul, ← EReal.coe_sub, ← EReal.coe_add, rm]

theorem Sxy_eq : Sxy (M w bg n k) = (Formula.Sxy (r w bg n k) : EReal) :=
  sub8_coe _ _ fun s hs => by
    simp only [M_eq O hk hs _ (show 0 < 9 by decide), M_eq O hk hs _ (show 1 < 9 by decide), M_eq O hk hs _ (show 3 < 9 by decide),
      M_eq O hk hs _ (show 4 < 9 by decide), ← EReal.coe_mul, ← EReal.coe_sub, ← EReal.coe_add, rm]

theorem Syy_eq : Syy (M w bg n k) = (Formula.Syy (r w bg n k) : EReal) :=
  sub8_coe _ _ fun s hs => by
    simp only [M_eq O hk hs _ (show 0 < 9 by decide), M_eq O hk hs _ (show 1 < 9 by decide), M_eq O hk hs _ (show 2 < 9 by decide),
      ← EReal.coe_mul, ← EReal.coe_sub, ← EReal.coe_add, rm]

theorem Cl_eq {c : ℕ} (hc : c < 3) : Cl (M w bg n k) c = ((∑ f ∈ range 256, cr w n c k f : ℝ) : EReal) := by
  rw [sum_pixels, ← sub8_eq]
  exact sub8_coe _ _ fun s hs => by rw [Nat.add_comm 6 c, M_eq O hk hs (c + 6) (by omega)]; rfl

end Sums

/-- THE EQUALITY: the kernel's quantities are the reference's. -/
theorem out_eq {k : ℕ} (h36 : k < 36) (q : ℕ) (hq : q < 9) : out w gs bg n q k = Spec.out w gs bg q k := by
  rw [out, select_listed w (by omega)]
  split
  case isFalse h => exact (out_zero O q (by omega) h36).symm
  case isTrue hk =>
    rw [Model.out_eq O q hk, raw, P5_listed O hk, back O.gs_real, back (O.prm_real 0 (by decide) k hk), back (O.prm_real 1 (by decide) k hk),
      back (O.prm_real 2 (by decide) k hk), back (O.prm_real 3 (by decide) k hk), back (O.prm_real 4 (by decide) k hk)]
    have dx : Dx (M w bg n k) (fl (prm w 0 k)).toReal = (Formula.Dx (a w 0 k) (r w bg n k) : EReal) := by
      rw [Dx, S0_eq O hk, Sx_eq O hk, ← EReal.coe_mul, ← EReal.coe_sub]; rfl
    have dy : Dy (M w bg n k) (fl (prm w 1 k)).toReal = (Formula.Dy (a w 1 k) (r w bg n k) : EReal) := by
      rw [Dy, S0_eq O hk, Sy_eq O hk, ← EReal.coe_mul, ← EReal.coe_sub]; rfl
    have dxx : Dxx (M w bg n k) (fl (prm w 0 k)).toReal = (Formula.Dxx (a w 0 k) (r w bg n k) : EReal) := by
      rw [Dxx, dx, Sx_eq O hk, Sxx_eq O hk, ← EReal.coe_sub, ← EReal.coe_mul, ← EReal.coe_add]; rfl
    have dyy : Dyy (M w bg n k) (fl (prm w 1 k)).toReal = (Formula.Dyy (a w 1 k) (r w bg n k) : EReal) := by
      rw [Dyy, dy, Sy_eq O hk, Syy_eq O hk, ← EReal.coe_sub, ← EReal.coe_mul, ← EReal.coe_add]; rfl
    have dxy : Dxy (M w bg n k) (fl (prm w 0 k)).toReal (fl (prm w 1 k)).toReal = (Formula.Dxy (a w 0 k) (a w 1 k) (r w bg n k) : EReal) := by
      rw [Dxy, dy, Sx_eq O hk, Sxy_eq O hk, ← EReal.coe_mul, ← EReal.coe_mul, ← EReal.coe_sub, ← EReal.coe_add]; rfl
    match q, hq with
    | 0, _ =>
      rw [last, dx, dy]
      simp only [← EReal.coe_mul, ← EReal.coe_add, ← EReal.coe_neg]
      refine congrArg _ ?_
      rw [Dx_eq, Dy_eq]; simp only [mul_sum, ← sum_add_distrib]
      exact sum_congr rfl fun f _ => by simp only [tm, ddx, ddy, a, EReal.toReal_coe]; ring
    | 1, _ =>
      rw [last, dx, dy]
      simp only [← EReal.coe_mul, ← EReal.coe_add, ← EReal.coe_neg]
      refine congrArg _ ?_
      rw [Dx_eq, Dy_eq]; simp only [mul_sum, ← sum_add_distrib]
      exact sum_congr rfl fun f _ => by simp only [tm, ddx, ddy, a, EReal.toReal_coe]; ring
    | 2, _ =>
      rw [last, S0_eq O hk, ← EReal.coe_mul]
      refine congrArg _ ?_
      rw [Formula.S0_eq, mul_sum]; rfl
    | 3, _ =>
      rw [last, dxx]
      simp only [← EReal.coe_mul, ← EReal.coe_add, ← EReal.coe_neg]
      refine congrArg _ ?_
      rw [Dxx_eq, mul_sum]
      exact sum_congr rfl fun f _ => by simp only [tm, ddx, ddy, a, EReal.toReal_coe]; ring
    | 4, _ =>
      rw [last, dxy]
      simp only [← EReal.coe_mul, ← EReal.coe_add, ← EReal.coe_neg]
      refine congrArg _ ?_
      rw [Dxy_eq, mul_sum]
      exact sum_congr rfl fun f _ => by simp only [tm, ddx, ddy, a, EReal.toReal_coe]; ring
    | 5, _ =>
      rw [last, dyy]
      simp only [← EReal.coe_mul, ← EReal.coe_add, ← EReal.coe_neg]
      refine congrArg _ ?_
      rw [Dyy_eq, mul_sum]
      exact sum_congr rfl fun f _ => by simp only [tm, ddx, ddy, a, EReal.toReal_coe]; ring
    | c + 6, hq =>
      have hc : c < 3 := by omega
      rw [last, Cl_eq O hk hc, ← EReal.coe_mul, ← EReal.coe_mul]
      refine congrArg _ ?_
      rw [mul_sum]
      refine sum_congr rfl fun f _ => ?_
      interval_cases c <;> simp only [tm, cr, EReal.toReal_coe] <;> ring

end Cert.Kern

end
-- ==== Proof.LastRead.lean ====
/- The last steps read at one slot and lane, as extended reals; and the block's result read row by row. -/
module

public import proofs.«01_k».proof.Proof.Last
public import proofs.«01_k».proof.Proof.Kern
public import Idealize.ShloMosaic.Lib.Pointwise.SelectCore

@[expose] public section

noncomputable section

namespace Cert.KernelIdeal.Hand.Last

open Cert.KernelIdeal Cert.KernelIdeal.Gen Idealize.ShloMosaic Idealize.ShloMosaic.TcCoe Cert.Formula

/-! ## The coefficients -/

theorem bx_real (s : ℕ) (hs : s < 8) : Ideal.ofBits .f32 (bx s) = ((sx s + 16 : ℝ) : EReal) := by
  interval_cases s <;> simp [bx, sx, Ideal.ofBits, Ideal.ieee, -EReal.coe_mul, -EReal.coe_add, -EReal.coe_sub] <;> norm_num
theorem b4x_real (s : ℕ) (hs : s < 8) : Ideal.ofBits .f32 (b4x s) = ((4 * (sx s + 16) : ℝ) : EReal) := by
  interval_cases s <;> simp [b4x, sx, Ideal.ofBits, Ideal.ieee, -EReal.coe_mul, -EReal.coe_add, -EReal.coe_sub] <;> norm_num
theorem bxx_real (s : ℕ) (hs : s < 8) : Ideal.ofBits .f32 (bxx s) = (((sx s + 16) * (sx s + 16) : ℝ) : EReal) := by
  interval_cases s <;> simp [bxx, sx, Ideal.ofBits, Ideal.ieee, -EReal.coe_mul, -EReal.coe_add, -EReal.coe_sub] <;> norm_num
theorem by_real (s : ℕ) (hs : s < 8) : Ideal.ofBits .f32 (by' s) = ((sy s + 16 : ℝ) : EReal) := by
  interval_cases s <;> simp [by', sy, Ideal.ofBits, Ideal.ieee, -EReal.coe_mul, -EReal.coe_add, -EReal.coe_sub] <;> norm_num
theorem b2y_real (s : ℕ) (hs : s < 8) : Ideal.ofBits .f32 (b2y s) = ((2 * (sy s + 16) : ℝ) : EReal) := by
  interval_cases s <;> simp [b2y, sy, Ideal.ofBits, Ideal.ieee, -EReal.coe_mul, -EReal.coe_add, -EReal.coe_sub] <;> norm_num
theorem b8y_real (s : ℕ) (hs : s < 8) : Ideal.ofBits .f32 (b8y s) = ((8 * (sy s + 16) : ℝ) : EReal) := by
  interval_cases s <;> simp [b8y, sy, Ideal.ofBits, Ideal.ieee, -EReal.coe_mul, -EReal.coe_add, -EReal.coe_sub] <;> norm_num
theorem byy_real (s : ℕ) (hs : s < 8) : Ideal.ofBits .f32 (byy s) = (((sy s + 16) * (sy s + 16) : ℝ) : EReal) := by
  interval_cases s <;> simp [byy, sy, Ideal.ofBits, Ideal.ieee, -EReal.coe_mul, -EReal.coe_add, -EReal.coe_sub] <;> norm_num
theorem bxy_real (s : ℕ) (hs : s < 8) : Ideal.ofBits .f32 (bxy s) = (((sx s + 16) * (sy s + 16) : ℝ) : EReal) := by
  interval_cases s <;> simp [bxy, sx, sy, Ideal.ofBits, Ideal.ieee, -EReal.coe_mul, -EReal.coe_add, -EReal.coe_sub] <;> norm_num

theorem two_real : Ideal.ofBits .f32 0x40000000#32 = ((2 : ℝ) : EReal) := by simp [Ideal.ofBits, Ideal.ieee, -EReal.coe_mul]; norm_num
theorem four_real : Ideal.ofBits .f32 0x40800000#32 = ((4 : ℝ) : EReal) := by simp [Ideal.ofBits, Ideal.ieee, -EReal.coe_mul]; norm_num
theorem eight_real : Ideal.ofBits .f32 0x41000000#32 = ((8 : ℝ) : EReal) := by simp [Ideal.ofBits, Ideal.ieee, -EReal.coe_mul]; norm_num
theorem sixteen_real : Ideal.ofBits .f32 0x41800000#32 = ((16 : ℝ) : EReal) := by simp [Ideal.ofBits, Ideal.ieee, -EReal.coe_mul]; norm_num
theorem half_real : Ideal.ofBits .f32 0x3F000000#32 = ((1 / 2 : ℝ) : EReal) := by simp [Ideal.ofBits, Ideal.ieee, -EReal.coe_mul]; norm_num
theorem zero_real : Ideal.ofBits .f32 0x00000000#32 = (0 : EReal) := by simp [Ideal.ofBits, Ideal.ieee]

/-! ## The nine rows at one slot and lane -/

section At

variable (m : ℕ → ℕ → FVec Ideal S8x128 .f32) (u v ca cb cc opm : FVec Ideal S8x128 .f32) (gs : EReal) (val : IVec S8x128 1) (i : S8x128.Idx)

theorem S0_at : S0 m i = Kern.S0 (fun j s => m j s i) := rfl
theorem Cl_at (c : ℕ) : Cl m c i = Kern.Cl (fun j s => m j s i) c := rfl

theorem Sx_at : Sx m i = Kern.Sx (fun j s => m j s i) :=
  (show Sx m i = sub8 fun s => Ideal.ofBits .f32 (bx s) * m 0 s i - Ideal.ofBits .f32 0x40000000#32 * m 3 s i from rfl).trans
    (pfx_congr fun s hs => by rw [bx_real s (by omega), two_real])
theorem Sy_at : Sy m i = Kern.Sy (fun j s => m j s i) :=
  (show Sy m i = sub8 fun s => Ideal.ofBits .f32 (by' s) * m 0 s i - Ideal.ofBits .f32 0x40800000#32 * m 1 s i from rfl).trans
    (pfx_congr fun s hs => by rw [by_real s (by omega), four_real])
theorem Sxx_at : Sxx m i = Kern.Sxx (fun j s => m j s i) :=
  (show Sxx m i = sub8 fun s => Ideal.ofBits .f32 (bxx s) * m 0 s i - Ideal.ofBits .f32 (b4x s) * m 3 s i
      + Ideal.ofBits .f32 0x40800000#32 * (Ideal.ofBits .f32 0x40000000#32 * m 5 s i - m 3 s i) from rfl).trans
    (pfx_congr fun s hs => by rw [bxx_real s (by omega), b4x_real s (by omega), four_real, two_real])
theorem Sxy_at : Sxy m i = Kern.Sxy (fun j s => m j s i) :=
  (show Sxy m i = sub8 fun s => Ideal.ofBits .f32 (bxy s) * m 0 s i - Ideal.ofBits .f32 (b4x s) * m 1 s i
      - Ideal.ofBits .f32 (b2y s) * m 3 s i + Ideal.ofBits .f32 0x41000000#32 * m 4 s i from rfl).trans
    (pfx_congr fun s hs => by rw [bxy_real s (by omega), b4x_real s (by omega), b2y_real s (by omega), eight_real])
theorem Syy_at : Syy m i = Kern.Syy (fun j s => m j s i) :=
  (show Syy m i = sub8 fun s => Ideal.ofBits .f32 (byy s) * m 0 s i - Ideal.ofBits .f32 (b8y s) * m 1 s i
      + Ideal.ofBits .f32 0x41800000#32 * (Ideal.ofBits .f32 0x40000000#32 * m 2 s i - m 1 s i) from rfl).trans
    (pfx_congr fun s hs => by rw [byy_real s (by omega), b8y_real s (by omega), sixteen_real, two_real])

theorem Dx_at : Dx m u i = Kern.Dx (fun j s => m j s i) (u i) :=
  congrArg₂ (fun a b => u i * a - b) (S0_at m i) (Sx_at m i)
theorem Dy_at : Dy m v i = Kern.Dy (fun j s => m j s i) (v i) :=
  congrArg₂ (fun a b => v i * a - b) (S0_at m i) (Sy_at m i)
theorem Dxx_at : Dxx m u i = Kern.Dxx (fun j s => m j s i) (u i) :=
  congr (congrArg₂ (fun a b c => u i * (a - b) + c) (Dx_at m u i) (Sx_at m i)) (Sxx_at m i)
theorem Dyy_at : Dyy m v i = Kern.Dyy (fun j s => m j s i) (v i) :=
  congr (congrArg₂ (fun a b c => v i * (a - b) + c) (Dy_at m v i) (Sy_at m i)) (Syy_at m i)
theorem Dxy_at : Dxy m u v i = Kern.Dxy (fun j s => m j s i) (u i) (v i) :=
  congr (congrArg₂ (fun a b c => u i * a - v i * b + c) (Dy_at m v i) (Sx_at m i)) (Sxy_at m i)

theorem mg_at : mg opm gs i = -gs * opm i := by
  refine (show mg opm gs i = (Ideal.ofBits .f32 0x00000000#32 - gs) * opm i from rfl).trans ?_
  rw [zero_real, sub_eq_add_neg, zero_add]
theorem hg_at : hg opm gs i = ((1 / 2 : ℝ) : EReal) * (-gs * opm i) :=
  congrArg₂ (· * ·) half_real (mg_at opm gs i)

theorem last_at (q : ℕ) : last m u v ca cb cc opm gs q i
    = Kern.last (fun j s => m j s i) (u i) (v i) (ca i) (cb i) (cc i) (opm i) gs q := by
  match q with
  | 0 => exact congr (congrArg₂ (fun a b c => a * (ca i * b + cb i * c)) (mg_at opm gs i) (Dx_at m u i)) (Dy_at m v i)
  | 1 => exact congr (congrArg₂ (fun a b c => a * (cb i * b + cc i * c)) (mg_at opm gs i) (Dx_at m u i)) (Dy_at m v i)
  | 2 => rfl
  | 3 => exact congrArg₂ (· * ·) (hg_at opm gs i) (Dxx_at m u i)
  | 4 => exact congrArg₂ (· * ·) (mg_at opm gs i) (Dxy_at m u v i)
  | 5 => exact congrArg₂ (· * ·) (hg_at opm gs i) (Dyy_at m v i)
  | c + 6 => rfl

theorem out_at (q : ℕ) : out m u v ca cb cc opm gs val q i
    = Scalar.select (val i) (Kern.last (fun j s => m j s i) (u i) (v i) (ca i) (cb i) (cc i) (opm i) gs q) 0 :=
  congrArg₂ (Scalar.select (val i)) (last_at m u v ca cb cc opm gs i q) zero_real

end At

/-- The last steps look at nine sums of eight sublanes. -/
theorem last_congr {m m' : ℕ → ℕ → EReal} (h : ∀ j, j < 9 → ∀ s, s < 8 → m j s = m' j s) (u v ca cb cc opm gs : EReal) (q : ℕ) (hq : q < 9) :
    Kern.last m u v ca cb cc opm gs q = Kern.last m' u v ca cb cc opm gs q := by
  have s : ∀ {f g : ℕ → EReal}, (∀ s, s < 8 → f s = g s) → sub8 f = sub8 g := fun e => pfx_congr fun s hs => e s (by omega)
  have e0 : Kern.S0 m = Kern.S0 m' := s fun s hs => h 0 (by decide) s hs
  have ex : Kern.Sx m = Kern.Sx m' := s fun s hs => by rw [h 0 (by decide) s hs, h 3 (by decide) s hs]
  have ey : Kern.Sy m = Kern.Sy m' := s fun s hs => by rw [h 0 (by decide) s hs, h 1 (by decide) s hs]
  have exx : Kern.Sxx m = Kern.Sxx m' := s fun s hs => by rw [h 0 (by decide) s hs, h 3 (by decide) s hs, h 5 (by decide) s hs]
  have exy : Kern.Sxy m = Kern.Sxy m' := s fun s hs => by
    rw [h 0 (by decide) s hs, h 1 (by decide) s hs, h 3 (by decide) s hs, h 4 (by decide) s hs]
  have eyy : Kern.Syy m = Kern.Syy m' := s fun s hs => by rw [h 0 (by decide) s hs, h 1 (by decide) s hs, h 2 (by decide) s hs]
  match q, hq with
  | 0, _ | 1, _ | 2, _ | 3, _ | 4, _ | 5, _ => simp only [Kern.last, Kern.Dx, Kern.Dy, Kern.Dxx, Kern.Dyy, Kern.Dxy, e0, ex, ey, exx, exy, eyy]
  | c + 6, hq =>
    have ec : Kern.Cl m c = Kern.Cl m' c := s fun s hs => h (6 + c) (by omega) s hs
    simp only [Kern.last, ec]

/-! ## The block's result, row by row -/

section Full

variable (o : ℕ → ℕ → FVec Ideal S8x128 .f32)

/-- Row `r` of the 384 at a lane. -/
def rowAt (r : ℕ) (l : Fin 128) : EReal :=
  if r < 288 then o (r / 32) (r / 8 % 4) (ValueIdx.ix2 (⟨r % 8, Nat.mod_lt _ (by decide)⟩ : Fin 8) l)
  else if r < 324 then o ((r - 288) / 4) 4 (ValueIdx.ix2 (⟨(r - 288) % 4, lt_of_lt_of_le (Nat.mod_lt _ (by decide)) (by decide)⟩ : Fin 8) l)
  else 0

theorem tails_at (j : S384x128.Idx) (d q : ℕ) (e : q + d = 9) : ∀ xs, xs = tails o q → ∀ hs c hc,
    concatenateAt S384x128 0 j xs hs c hc = rowAt o (288 + 4 * q + c) (j 1 : Fin 128) := by
  induction d generalizing q with
  | zero =>
    obtain rfl : q = 9 := by omega
    intro xs hx hs c hc
    obtain rfl : xs = [zeros] := hx
    unfold rowAt
    rw [if_neg (by omega), if_neg (by omega)]
    exact (concatenateAt_singleton (0 : Fin S384x128.rank) j _ hs c hc).trans zero_real
  | succ d ih =>
    intro xs hx hs c hc
    have ne : tails o q = tailPiece o q :: tails o (q + 1) := by
      unfold tails
      rw [show 9 - q = (9 - (q + 1)) + 1 by omega, List.range'_succ, List.map_cons, List.cons_append]
    obtain ⟨p, ys, hp⟩ : ∃ p ys, tails o (q + 1) = p :: ys :=
      List.exists_cons_of_ne_nil (by unfold tails; simp)
    rw [ne, hp] at hx
    subst hx
    refine (concatenateAt_cons (s := S4x128) (0 : Fin S384x128.rank) j _ p ys hs c hc).trans ?_
    by_cases hlt : c < 4
    · refine (dif_pos hlt).trans ?_
      unfold rowAt
      rw [if_neg (by omega), if_pos (by omega)]
      refine (extractStridedSlice_apply ![0, 0] _ _ _ (ValueIdx.ix2 (⟨c, by omega⟩ : Fin 8) (j 1 : Fin 128)) (fun a => ?_)).trans ?_
      · match a with
        | ⟨0, _⟩ => show c = 0 + c; omega
        | ⟨1, _⟩ => show (j 1 : Fin 128).val = 0 + (j 1 : Fin 128).val; omega
      · refine congr (congrArg (fun q => o q 4) (by omega)) (congrArg (fun a : Fin 8 => ValueIdx.ix2 a (j 1 : Fin 128)) (Fin.ext ?_))
        show c = (288 + 4 * q + c - 288) % 4; omega
    · refine (dif_neg hlt).trans ?_
      refine (ih (q + 1) (by omega) (p :: ys) hp.symm _ _ _).trans ?_
      refine congrArg (fun r => rowAt o r (j 1 : Fin 128)) ?_
      show 288 + 4 * (q + 1) + (c - 4) = 288 + 4 * q + c
      omega

theorem pieces_at (j : S384x128.Idx) (d p : ℕ) (e : p + d = 36) : ∀ xs, xs = pieces o p → ∀ hs c hc,
    concatenateAt S384x128 0 j xs hs c hc = rowAt o (8 * p + c) (j 1 : Fin 128) := by
  induction d generalizing p with
  | zero =>
    obtain rfl : p = 36 := by omega
    exact tails_at o j 9 0 rfl
  | succ d ih =>
    intro xs hx hs c hc
    have ne : pieces o p = piece o p :: pieces o (p + 1) := by
      unfold pieces
      rw [show 36 - p = (36 - (p + 1)) + 1 by omega, List.range'_succ, List.map_cons, List.cons_append]
    obtain ⟨x, ys, hp⟩ : ∃ x ys, pieces o (p + 1) = x :: ys :=
      List.exists_cons_of_ne_nil (by unfold pieces tails; simp)
    rw [ne, hp] at hx
    subst hx
    refine (concatenateAt_cons (s := S8x128) (0 : Fin S384x128.rank) j _ x ys hs c hc).trans ?_
    by_cases hlt : c < 8
    · refine (dif_pos hlt).trans ?_
      unfold rowAt
      rw [if_pos (by omega), show (8 * p + c) / 32 = p / 4 by omega, show (8 * p + c) / 8 % 4 = p % 4 by omega]
      refine congrArg (o (p / 4) (p % 4)) (funext fun a => Fin.ext ?_)
      match a with
      | ⟨0, _⟩ => show c = (8 * p + c) % 8; omega
      | ⟨1, _⟩ => rfl
    · refine (dif_neg hlt).trans ?_
      refine (ih (p + 1) (by omega) (x :: ys) hp.symm _ _ _).trans ?_
      refine congrArg (fun r => rowAt o r (j 1 : Fin 128)) ?_
      show 8 * (p + 1) + (c - 8) = 8 * p + c
      omega

theorem full_at (r : Fin 384) (l : Fin 128) : full o (ValueIdx.ix2 r l) = rowAt o r.val l := by
  refine (concatenate_apply S384x128 0 _ _ (ValueIdx.ix2 r l)).trans ((pieces_at o (ValueIdx.ix2 r l) 36 0 rfl _ rfl _ _ _).trans ?_)
  exact congrArg (fun r => rowAt o r l) (show 8 * 0 + r.val = r.val by omega)

theorem plane_at (off : ℕ) (h) (x : S1x128x128.Idx) (ho : off + 128 ≤ 384) :
    plane (extractStridedSlice S128x128 ![off, 0] (full o) h) x = rowAt o (off + (x 2 : Fin 128).val) (x 1 : Fin 128) := by
  have h2 : (x 2 : Fin 128).val < 128 := (x 2 : Fin 128).isLt
  unfold plane
  refine (shapeCast_addUnit_apply ![128, 128] _ _ x).trans ?_
  refine (transpose_apply [1, 0] _ _ _ (ValueIdx.ix2 (x 2 : Fin 128) (x 1 : Fin 128)) (fun b => match b with | ⟨0, _⟩ => rfl | ⟨1, _⟩ => rfl)).trans ?_
  refine (extractStridedSlice_apply ![off, 0] _ _ _ (ValueIdx.ix2 (⟨off + (x 2 : Fin 128).val, by omega⟩ : Fin 384) (x 1 : Fin 128)) (fun a => ?_)).trans (full_at o _ _)
  match a with
  | ⟨0, _⟩ => rfl
  | ⟨1, _⟩ => show (x 1 : Fin 128).val = 0 + (x 1 : Fin 128).val; omega

theorem slices_plane (p : Fin 3) : S384x128.Slices ![128 * p.val, 0] S128x128 := by
  refine ⟨rfl, fun a => ?_⟩
  have := p.isLt
  match a with
  | ⟨0, _⟩ => show 128 * p.val + 128 ≤ 384; omega
  | ⟨1, _⟩ => show 0 + 128 ≤ 128; omega

theorem inb_out (p : Fin 3) : ∀ a : Fin 3, (![p.val, 0, 0] : Fin 3 → ℕ) a + S1x128x128.size a ≤ S3x128x128.size a := by
  intro a
  have := p.isLt
  match a with
  | ⟨0, _⟩ => show p.val + 1 ≤ 3; omega
  | ⟨1, _⟩ => show 0 + 128 ≤ 128; omega
  | ⟨2, _⟩ => show 0 + 128 ≤ 128; omega

def outPlane (p : Fin 3) : View.Piece (Elt Ideal) S3x128x128 .f32 :=
  ⟨Rect.unit (s := S3x128x128) ![p.val, 0, 0] S1x128x128.size (inb_out p), plane (extractStridedSlice S128x128 ![128 * p.val, 0] (full o) (slices_plane p))⟩

theorem stored_eq : stored o = ([2, 1, 0] : List (Fin 3)).map (outPlane o) := rfl

theorem stored_at {κ : Kind} {sp : Space} (v : View sig κ sp S3x128x128 .f32) (f : v.ty.Contents (Elt Ideal)) (p : Fin 3) (n r : Fin 128) :
    v.read (Elt Ideal) (v.writes (Elt Ideal) f (stored o)) (ValueIdx.ix3 p n r) = rowAt o (128 * p.val + r.val) n := by
  rw [stored_eq]
  refine View.read_writes_apply_of_pieces (v := v) (f := f) (G := fun y : S3x128x128.Idx => rowAt o (128 * (y 0 : Fin 3).val + (y 2 : Fin 128).val) (y 1 : Fin 128)) _ ?_ (ValueIdx.ix3 p n r) ?_
  · intro P hP x
    obtain ⟨q, _, rfl⟩ := List.mem_map.mp hP
    revert x; intro (x : S1x128x128.Idx)
    have h0 : (x 0 : Fin 1).val < 1 := (x 0 : Fin 1).isLt
    have hq := q.isLt
    refine (plane_at o (128 * q.val) (slices_plane q) x (by omega)).trans ?_
    refine congrArg₂ (rowAt o) ?_ (Fin.ext ?_)
    · show 128 * q.val + (x 2 : Fin 128).val = 128 * (q.val + 1 * (x 0 : Fin 1).val) + (0 + 1 * (x 2 : Fin 128).val); omega
    · show (x 1 : Fin 128).val = 0 + 1 * (x 1 : Fin 128).val; omega
  · have m : ∀ q : Fin 3, q ∈ ([2, 1, 0] : List (Fin 3)) := by decide
    have hn := n.isLt
    have hr := r.isLt
    refine ⟨_, List.mem_map_of_mem (m p), (Rect.mem_set_unit (inb := inb_out p)).mpr fun a => ?_⟩
    match a with
    | ⟨0, _⟩ => show p.val ≤ p.val ∧ p.val < p.val + 1; omega
    | ⟨1, _⟩ => show 0 ≤ n.val ∧ n.val < 0 + 128; omega
    | ⟨2, _⟩ => show 0 ≤ r.val ∧ r.val < 0 + 128; omega

end Full

/-! ## What the rows read -/

theorem mask_at (w : IVec S1x128 32) (k : ℕ) (a : Fin 8) (l : Fin 128) :
    maskOf w k (ValueIdx.ix2 a l) = IntOp.cmpi .slt (BitVec.ofNat 32 (8 * k + a.val)) (w (ValueIdx.ix2 (0 : Fin 1) l)) := by
  unfold maskOf
  refine congrArg₂ (IntOp.cmpi .slt) ?_ (ValueIdx.broadcastTo_1b_ab_apply _ _ _ _)
  refine (congrArg (· + BitVec.ofNat 32 (8 * k)) (iota_single_apply _ _ _ _ _ _)).trans ?_
  rw [← BitVec.ofNat_add]
  exact congrArg (BitVec.ofNat 32) (Nat.add_comm _ _)

theorem sums_at (arg12 : Memref sig .tc .vmem S9x320x128 .f32) (L : List (View.Piece (Elt Ideal) S9x320x128 .f32)) (k j s : ℕ) (hk : k < 5) (hj : j < 9) (hs : s < 8)
    (a : Fin 8) (l : Fin 128) :
    sumsOf arg12 L k j s (ValueIdx.ix2 a l)
      = arg12.view.read (Elt Ideal) (arg12.view.writes (Elt Ideal) arg12.view.junk L) (ValueIdx.ix3 (⟨j, hj⟩ : Fin 9) (⟨8 * (8 * k + a.val) + s, by have := a.isLt; omega⟩ : Fin 320) l) := by
  have ha := a.isLt
  refine (shapeCast_dropUnit_apply ![8, 128] _ _ (ValueIdx.ix2 a l)).trans ?_
  refine congrArg (arg12.view.read (Elt Ideal) _) (funext fun b => Fin.ext ?_)
  match b with
  | ⟨0, _⟩ => show j % 9 + 1 * 0 = j; omega
  | ⟨1, _⟩ => show 64 * (k % 5) + s % 8 + 8 * a.val = 8 * (8 * k + a.val) + s; omega
  | ⟨2, _⟩ => show 0 + 1 * l.val = l.val; omega

theorem raw_at (arg10 : Memref sig .tc .vmem S8x40x128 .i32) (L : List (View.Piece (Elt Ideal) S8x40x128 .i32)) (k p : ℕ) (hk : k < 5) (hp : p < 8) (a : Fin 8) (l : Fin 128) :
    rawOf arg10 L k p (ValueIdx.ix2 a l)
      = Ideal.ofBits .f32 (arg10.view.read (Elt Ideal) (arg10.view.writes (Elt Ideal) arg10.view.junk L) (ValueIdx.ix3 (⟨p, hp⟩ : Fin 8) (⟨8 * k + a.val, by have := a.isLt; omega⟩ : Fin 40) l)) := by
  have ha := a.isLt
  refine congrArg (Ideal.ofBits .f32) ((shapeCast_dropUnit_apply ![8, 128] _ _ (ValueIdx.ix2 a l)).trans ?_)
  refine congrArg (arg10.view.read (Elt Ideal) _) (funext fun b => Fin.ext ?_)
  match b with
  | ⟨0, _⟩ => show p % 8 + 1 * 0 = p; omega
  | ⟨1, _⟩ => show 8 * (k % 5) + 1 * a.val = 8 * k + a.val; omega
  | ⟨2, _⟩ => show 0 + 1 * l.val = l.val; omega

theorem par_at (arg11 : Memref sig .tc .vmem S9x40x128 .f32) (L : List (View.Piece (Elt Ideal) S9x40x128 .f32)) (k p : ℕ) (hk : k < 5) (hp : p < 9) (a : Fin 8) (l : Fin 128) :
    parOf arg11 L k p (ValueIdx.ix2 a l)
      = arg11.view.read (Elt Ideal) (arg11.view.writes (Elt Ideal) arg11.view.junk L) (ValueIdx.ix3 (⟨p, hp⟩ : Fin 9) (⟨8 * k + a.val, by have := a.isLt; omega⟩ : Fin 40) l) := by
  have ha := a.isLt
  refine (shapeCast_dropUnit_apply ![8, 128] _ _ (ValueIdx.ix2 a l)).trans ?_
  refine congrArg (arg11.view.read (Elt Ideal) _) (funext fun b => Fin.ext ?_)
  match b with
  | ⟨0, _⟩ => show p % 9 + 1 * 0 = p; omega
  | ⟨1, _⟩ => show 8 * (k % 5) + 1 * a.val = 8 * k + a.val; omega
  | ⟨2, _⟩ => show 0 + 1 * l.val = l.val; omega

end Cert.KernelIdeal.Hand.Last

end
-- ==== Proof.LoopRead.lean ====
/- The loop over the slots: after `i` trips the two states hold `Walk.runT`, `Walk.runA`, and the sums of every slot
   taken so far lie in its eight rows. -/
module

public import proofs.«01_k».proof.Proof.HypsKernelIdeal
public import proofs.«01_k».proof.Proof.Walk

@[expose] public section

noncomputable section

namespace Cert.KernelIdeal.Hand

open Cert.KernelIdeal Cert.KernelIdeal.Gen Idealize.ShloMosaic Idealize.ShloMosaic.TcCoe Cert.Formula
open Idealize.ShloMosaic.ValueIdx (ix2 ix3 eq_ix2 eq_ix3)

theorem toNat_of (v1 : BitVec 32) (h : 0 ≤ v1.toInt) : v1.toNat = v1.toInt.toNat := by
  have d := BitVec.toInt_eq_toNat_cond v1
  have := v1.isLt
  split at d <;> omega

theorem trips_eq (v1 : BitVec 32) (h : v1.toInt ≤ 36) : (k0_t1_loop v1).trips = v1.toInt.toNat := by
  rcases lt_or_ge v1.toInt 0 with n | n
  · rw [trips1 v1 n]; omega
  have d : ∀ n : Fin 37, (k0_t1_loop (BitVec.ofNat 32 n.val)).trips = n.val := by decide +kernel
  have t := toNat_of v1 n
  have e := d ⟨v1.toNat, by omega⟩
  rw [← t]
  rwa [show BitVec.ofNat 32 v1.toNat = v1 by simp] at e

/-- A trip is one of a word that is not negative. -/
theorem toNat_eq (v1 : BitVec 32) (h : v1.toInt ≤ 36) (k : Fin (k0_t1_loop v1).trips) : v1.toNat = v1.toInt.toNat :=
  toNat_of v1 (by have hk : k.val < v1.toInt.toNat := trips_eq v1 h ▸ k.isLt
                  omega)

theorem slot_eq (v1 : BitVec 32) (h : v1.toInt ≤ 36) (k : Fin (k0_t1_loop v1).trips) : (slot v1 k).toNat = v1.toInt.toNat - 1 - k.val := by
  have d : ∀ n k : Fin 37, k < n → (Scalar.subi (Scalar.subi (BitVec.ofNat 32 n.val) 1#32) (0#32 + BitVec.ofNat 32 k.val * 1#32)).toNat = n.val - 1 - k.val := by
    decide +kernel
  have t := toNat_eq v1 h k
  have hk : k.val < v1.toNat := t ▸ trips_eq v1 h ▸ k.isLt
  rw [← t]
  have e := d ⟨v1.toNat, by omega⟩ ⟨k.val, by omega⟩ hk
  rwa [show BitVec.ofNat 32 v1.toNat = v1 by simp] at e

theorem momRow_eq (v1 : BitVec 32) (h : v1.toInt ≤ 36) (k : Fin (k0_t1_loop v1).trips) : momRow v1 k = 8 * (v1.toInt.toNat - 1 - k.val) := by
  have d : ∀ s : Fin 37, (Scalar.muli (BitVec.ofNat 32 s.val) 8#32).toNat = 8 * s.val := by decide +kernel
  have s := slot_eq v1 h k
  have e := d ⟨(slot v1 k).toNat, by omega⟩
  rw [show BitVec.ofNat 32 (slot v1 k).toNat = slot v1 k by simp] at e
  exact e.trans (congrArg (8 * ·) s)

/-- Element `r` of plane `j` at a lane: parameter `j` of slot `r`. -/
def prow (x : S9x40x128.Idx → EReal) (l : Fin 128) (r j : ℕ) : EReal :=
  x (ix3 (⟨j % 9, Nat.mod_lt _ (by decide)⟩ : Fin 9) (⟨r % 40, Nat.mod_lt _ (by decide)⟩ : Fin 40) l)

/-- Gradient of colour `c` at pixel `r`, at a lane. -/
def grow (x : S3x256x128.Idx → EReal) (l : Fin 128) (c r : ℕ) : EReal :=
  x (ix3 (⟨c % 3, Nat.mod_lt _ (by decide)⟩ : Fin 3) (⟨r % 256, Nat.mod_lt _ (by decide)⟩ : Fin 256) l)

section Loop

variable (arg7 : Memref sig .tc .vmem S256x128 .f32) (arg8 : Memref sig .tc .vmem S256x128 .f32) (arg9 : Memref sig .tc .vmem S3x256x128 .f32)
  (arg11 : Memref sig .tc .vmem S9x40x128 .f32) (arg12 : Memref sig .tc .vmem S9x320x128 .f32)
  (v1 : Elt Ideal .i32) (h1 : k0_chk1 v1) (X9 : BufTy.Contents (Elt Ideal) arg9.view.ty) (X11 : BufTy.Contents (Elt Ideal) arg11.view.ty)
  (G7 : BufTy.Contents (Elt Ideal) arg7.view.ty) (G8 : BufTy.Contents (Elt Ideal) arg8.view.ty) (G12 : BufTy.Contents (Elt Ideal) arg12.view.ty)
  (S7 S8 : ℕ → List (View.Piece (Elt Ideal) S256x128 .f32)) (S12 : ℕ → List (View.Piece (Elt Ideal) S9x320x128 .f32))

/-- The pieces written before each trip: none at first, then each trip's before those written so far. -/
structure Trips : Prop where
  zero7 : S7 0 = []
  zero8 : S8 0 = []
  zero12 : S12 0 = []
  succ7 : ∀ k : Fin (k0_t1_loop v1).trips, S7 (k.val + 1)
    = (tiles fun b => tra (par arg11 X11 v1 h1 k) (tile arg7 (arg7.view.writes (Elt Ideal) G7 (S7 k.val))) (b / 8) (b % 8)) ++ S7 k.val
  succ8 : ∀ k : Fin (k0_t1_loop v1).trips, S8 (k.val + 1)
    = (tiles fun b => acc (par arg11 X11 v1 h1 k) (tile arg8 (arg8.view.writes (Elt Ideal) G8 (S8 k.val))) (gtile arg9 X9) (b / 8) (b % 8)) ++ S8 k.val
  succ12 : ∀ k : Fin (k0_t1_loop v1).trips, S12 (k.val + 1)
    = moms (F := Ideal) v1 h1 k (mom arg7 arg8 arg9 arg11 v1 h1 X9 X11 k (arg7.view.writes (Elt Ideal) G7 (S7 k.val)) (arg8.view.writes (Elt Ideal) G8 (S8 k.val)))
      ++ S12 k.val

variable {arg7 arg8 arg9 arg11 arg12 v1 h1 X9 X11 G7 G8 S7 S8 S12}

abbrev P' (arg11 : Memref sig .tc .vmem S9x40x128 .f32) (X11 : BufTy.Contents (Elt Ideal) arg11.view.ty) (l : Fin 128) := prow (arg11.view.read (Elt Ideal) X11) l
abbrev G' (arg9 : Memref sig .tc .vmem S3x256x128 .f32) (X9 : BufTy.Contents (Elt Ideal) arg9.view.ty) (l : Fin 128) := grow (arg9.view.read (Elt Ideal) X9) l
abbrev R' (v : Memref sig .tc .vmem S256x128 .f32) (f : BufTy.Contents (Elt Ideal) v.view.ty) (l : Fin 128) : ℕ → EReal := row256 (F := Ideal) (v.view.read (Elt Ideal) f) l

theorem states (H : Trips arg7 arg8 arg9 arg11 v1 h1 X9 X11 G7 G8 S7 S8 S12) (hn : (v1 : BitVec 32).toInt ≤ 36) (l : Fin 128) :
    ∀ i, i ≤ (v1 : BitVec 32).toInt.toNat →
      (∀ r, r < 256 → R' arg7 (arg7.view.writes (Elt Ideal) G7 (S7 i)) l r = Walk.runT (P' arg11 X11 l) (v1 : BitVec 32).toInt.toNat (R' arg7 G7 l) i r)
      ∧ (∀ r, r < 256 → R' arg8 (arg8.view.writes (Elt Ideal) G8 (S8 i)) l r
          = Walk.runA (P' arg11 X11 l) (G' arg9 X9 l) (v1 : BitVec 32).toInt.toNat (R' arg8 G8 l) i r)
      ∧ ∀ (j : Fin 9) (r : Fin 320), arg12.view.read (Elt Ideal) (arg12.view.writes (Elt Ideal) G12 (S12 i)) (ix3 j r l)
          = if (v1 : BitVec 32).toInt.toNat - i ≤ r.val / 8 ∧ r.val / 8 < (v1 : BitVec 32).toInt.toNat then
              Walk.sums (P' arg11 X11 l (r.val / 8)) (Walk.runT (P' arg11 X11 l) (v1 : BitVec 32).toInt.toNat (R' arg7 G7 l) ((v1 : BitVec 32).toInt.toNat - 1 - r.val / 8))
                (Walk.runA (P' arg11 X11 l) (G' arg9 X9 l) (v1 : BitVec 32).toInt.toNat (R' arg8 G8 l) ((v1 : BitVec 32).toInt.toNat - 1 - r.val / 8)) (G' arg9 X9 l) (r.val % 8) j.val
            else arg12.view.read (Elt Ideal) G12 (ix3 j r l) := by
  intro i
  induction i with
  | zero =>
    intro _
    refine ⟨fun r _ => by rw [H.zero7]; rfl, fun r _ => by rw [H.zero8]; rfl, fun j r => ?_⟩
    rw [H.zero12, if_neg (by omega)]; rfl
  | succ i ih =>
    intro hi
    obtain ⟨i7, i8, i12⟩ := ih (by omega)
    have hk : i < (k0_t1_loop v1).trips := by rw [trips_eq v1 hn]; omega
    have hs := slot_eq v1 hn ⟨i, hk⟩
    have cell : ∀ s : Fin 8, Holds (par arg11 X11 v1 h1 ⟨i, hk⟩) (tile arg7 (arg7.view.writes (Elt Ideal) G7 (S7 i))) (tile arg8 (arg8.view.writes (Elt Ideal) G8 (S8 i)))
        (gtile arg9 X9) (P' arg11 X11 l ((v1 : BitVec 32).toInt.toNat - 1 - i)) (Walk.runT (P' arg11 X11 l) (v1 : BitVec 32).toInt.toNat (R' arg7 G7 l) i)
        (Walk.runA (P' arg11 X11 l) (G' arg9 X9 l) (v1 : BitVec 32).toInt.toNat (R' arg8 G8 l) i) (G' arg9 X9 l) s l := fun s =>
      { par := fun j hj => by
          rw [par_apply (hj := hj)]
          refine congrArg _ (congrArg₂ (fun a b => ix3 a b l) (Fin.ext (Nat.mod_eq_of_lt hj).symm) (Fin.ext ?_))
          show (slot v1 ⟨i, hk⟩).toNat = _ % 40
          rw [hs, Nat.mod_eq_of_lt]; omega
        tra := fun b hb => by rw [tile_apply (hb := hb)]; exact i7 (8 * b + s.val) (by omega)
        acc := fun b hb => by rw [tile_apply (hb := hb)]; exact i8 (8 * b + s.val) (by omega)
        grad := fun c hc b hb => by
          rw [gtile_apply (hp := hc) (hb := hb)]
          exact congrArg _ (congrArg (fun a => ix3 a _ l) (Fin.ext (Nat.mod_eq_of_lt hc).symm)) }
    refine ⟨fun r hr => ?_, fun r hr => ?_, fun j r => ?_⟩
    · rw [H.succ7 ⟨i, hk⟩]
      refine Eq.trans (read_tiles (F := Ideal) arg7 G7 _ (S7 i) (⟨r % 256, Nat.mod_lt _ (by decide)⟩ : Fin 256) l) ?_
      have e : r % 256 = r := Nat.mod_eq_of_lt hr
      simp only [e]
      rw [tra_at (cell _) _ _ (by omega) (by omega)]
      show _ = Walk.tra _ _ (r / 64) (r / 8 % 8) (r % 8)
      congr 1; omega
    · rw [H.succ8 ⟨i, hk⟩]
      refine Eq.trans (read_tiles (F := Ideal) arg8 G8 _ (S8 i) (⟨r % 256, Nat.mod_lt _ (by decide)⟩ : Fin 256) l) ?_
      have e : r % 256 = r := Nat.mod_eq_of_lt hr
      simp only [e]
      rw [acc_at (cell _) _ _ (by omega) (by omega)]
      show _ = Walk.acc _ _ _ (r / 64) (r / 8 % 8) (r % 8)
      congr 1; omega
    · rw [H.succ12 ⟨i, hk⟩, read_moms]
      have hm := momRow_eq v1 hn ⟨i, hk⟩
      by_cases hr : momRow v1 ⟨i, hk⟩ ≤ r.val ∧ r.val < momRow v1 ⟨i, hk⟩ + 8
      · have q : r.val / 8 = (v1 : BitVec 32).toInt.toNat - 1 - i := by rw [hm] at hr; simp only at hr; omega
        rw [dif_pos hr, if_pos (by omega)]
        refine (shapeCast_addUnit_apply ![8, 128] _ _ _).trans ?_
        have e := sums_at (cell ⟨r.val - momRow v1 ⟨i, hk⟩, by omega⟩) j.val j.isLt
        refine Eq.trans (congrArg _ (eq_ix2 _)) (e.trans ?_)
        rw [q, show (v1 : BitVec 32).toInt.toNat - 1 - ((v1 : BitVec 32).toInt.toNat - 1 - i) = i by omega]
        congr 1
        show r.val - momRow v1 ⟨i, hk⟩ = r.val % 8
        simp only at hm; omega
      · rw [dif_neg hr, i12 j r]
        rw [hm] at hr; simp only at hr
        by_cases c : (v1 : BitVec 32).toInt.toNat - i ≤ r.val / 8 ∧ r.val / 8 < (v1 : BitVec 32).toInt.toNat
        · rw [if_pos c, if_pos (by omega)]
        · rw [if_neg c, if_neg (by omega)]

end Loop

end Cert.KernelIdeal.Hand

end
-- ==== Proof.Prep.lean ====
/- What the preparation leaves in the buffers, lane by lane: the block's words, the states before the first trip, the
   gradients, the raw parameters and the prepared ones. -/
module

public import proofs.«01_k».proof.Proof.RunKernelIdeal
public import proofs.«01_k».proof.Proof.LoopRead
public import proofs.«01_k».proof.Proof.Bytes
public import proofs.«01_k».proof.Proof.Kern
public import Idealize.ShloMosaic.Lib.VecWindow
public import Idealize.ShloMosaic.Lib.WholeRead

@[expose] public section

noncomputable section

namespace Cert.KernelIdeal.Hand.Prep

open Cert.KernelIdeal Cert.KernelIdeal.Gen Idealize.ShloMosaic Idealize.ShloMosaic.TcCoe Cert.Formula Cert.Spec
open Idealize.ShloMosaic.ValueIdx (ix2 ix3 eq_ix2 eq_ix3)

/-! ## The pieces stored, as lists over the planes -/

theorem inb_plane (p : Fin 6) : ∀ a : Fin 2, (![128 * p.val, 0] : Fin 2 → ℕ) a + S128x128.size a ≤ S768x128.size a := by
  intro a
  have := p.isLt
  match a with
  | ⟨0, _⟩ => show 128 * p.val + 128 ≤ 768; omega
  | ⟨1, _⟩ => show 0 + 128 ≤ 128; omega

theorem inb_x (p : Fin 6) : ∀ a : Fin 3, (![p.val, 0, 0] : Fin 3 → ℕ) a + S1x128x128.size a ≤ S6x128x128.size a := by
  intro a
  have := p.isLt
  match a with
  | ⟨0, _⟩ => show p.val + 1 ≤ 6; omega
  | ⟨1, _⟩ => show 0 + 128 ≤ 128; omega
  | ⟨2, _⟩ => show 0 + 128 ≤ 128; omega

theorem inb_rows {n o : ℕ} (h : o + n ≤ 768) : ∀ a : Fin 2, (![o, 0] : Fin 2 → ℕ) a + (![n, 128] : Fin 2 → ℕ) a ≤ S768x128.size a := by
  intro a
  match a with
  | ⟨0, _⟩ => exact h
  | ⟨1, _⟩ => show 0 + 128 ≤ 128; omega

theorem inb_grad (p : Fin 3) : ∀ a : Fin 3, (![p.val, 0, 0] : Fin 3 → ℕ) a + S1x256x128.size a ≤ S3x256x128.size a := by
  intro a
  have := p.isLt
  match a with
  | ⟨0, _⟩ => show p.val + 1 ≤ 3; omega
  | ⟨1, _⟩ => show 0 + 256 ≤ 256; omega
  | ⟨2, _⟩ => show 0 + 128 ≤ 128; omega

theorem inb_head (p : Fin 8) : ∀ a : Fin 3, (![p.val, 0, 0] : Fin 3 → ℕ) a + S1x32x128.size a ≤ S8x40x128.size a := by
  intro a
  have := p.isLt
  match a with
  | ⟨0, _⟩ => show p.val + 1 ≤ 8; omega
  | ⟨1, _⟩ => show 0 + 32 ≤ 40; omega
  | ⟨2, _⟩ => show 0 + 128 ≤ 128; omega

theorem inb_tail (p : Fin 8) : ∀ a : Fin 3, (![p.val, 32, 0] : Fin 3 → ℕ) a + S1x8x128.size a ≤ S8x40x128.size a := by
  intro a
  have := p.isLt
  match a with
  | ⟨0, _⟩ => show p.val + 1 ≤ 8; omega
  | ⟨1, _⟩ => show 32 + 8 ≤ 40; omega
  | ⟨2, _⟩ => show 0 + 128 ≤ 128; omega

theorem inb_rawP (p : ℕ) : ∀ a : Fin 3, (![p % 8, 0, 0] : Fin 3 → ℕ) a + S1x40x128.size a ≤ S8x40x128.size a := by
  intro a
  match a with
  | ⟨0, _⟩ => show p % 8 + 1 ≤ 8; omega
  | ⟨1, _⟩ => show 0 + 40 ≤ 40; omega
  | ⟨2, _⟩ => show 0 + 128 ≤ 128; omega

theorem inb_parP (p : Fin 9) : ∀ a : Fin 3, (![p.val, 0, 0] : Fin 3 → ℕ) a + S1x40x128.size a ≤ S9x40x128.size a := by
  intro a
  have := p.isLt
  match a with
  | ⟨0, _⟩ => show p.val + 1 ≤ 9; omega
  | ⟨1, _⟩ => show 0 + 40 ≤ 40; omega
  | ⟨2, _⟩ => show 0 + 128 ≤ 128; omega

theorem inb_col (c : ℕ) : ∀ a : Fin 2, S40x128.size a = 0 ∨ (![c % 4, 0] : Fin 2 → ℕ) a + (![4, 1] : Fin 2 → ℕ) a * (S40x128.size a - 1) < S160x128.size a := by
  intro a
  right
  match a with
  | ⟨0, _⟩ => show c % 4 + 4 * (40 - 1) < 160; omega
  | ⟨1, _⟩ => show 0 + 1 * (128 - 1) < 128; omega

section Lists

variable {F : FTy → Type} [FloatOps F] [Named F]
variable (c : Dev nD)
  (arg2 : Memref sig .tc .vmem S6x128x128 .i32) (harg2 : arg2.IsWhole)
  (arg4 : Memref sig .tc .smem S3 .f32) (harg4 : arg4.IsWhole)
  (arg6 : Memref sig .tc .vmem S768x128 .i32)
  (arg10 : Memref sig .tc .vmem S8x40x128 .i32)
  (arg13 : Memref sig .tc .vmem S160x128 .f32)
  (x0 : Vec F S6x128x128 .i32) (x2 : Vec F S3 .f32)

def wordPlane (p : Fin 6) : View.Piece (Elt F) S768x128 .i32 :=
  ⟨Rect.unit (s := S768x128) ![128 * p.val, 0] S128x128.size (inb_plane p),
    k0_pay1179 (View.readAt (Elt F) arg2.view (Rect.unit (s := S6x128x128) ![p.val, 0, 0] S1x128x128.size (inb_x p)).toLoadRect (harg2.unread x0))⟩

theorem words_eq : kernelRun0_A.sl.HS0_6 c arg2 harg2 x0 = ([5, 4, 3, 2, 1, 0] : List (Fin 6)).map (wordPlane arg2 harg2 x0) := rfl

/-- Rows `o`, …, `o + n - 1` of the block's words. -/
def rowsOf (n o : ℕ) (h : o + n ≤ 768) : (⟨2, ![n, 128]⟩ : Shape).Idx → BitVec 32 :=
  arg6.view.readCov (kernelRun0_A.sl.HS0_6 c arg2 harg2 x0) (Rect.unit (s := S768x128) ![o, 0] ![n, 128] (inb_rows h)).toLoadRect

theorem state7_eq : kernelRun0_A.sl.HS1_1 c arg2 harg2 arg6 x0
    = [⟨Rect.unit ![0, 0] S256x128.size inb_S256x128_S256x128_0_0, k0_pay1186 (rowsOf c arg2 harg2 arg6 x0 256 0 (by decide))⟩] := rfl

def bgOf (o : Fin 3) : Elt F .f32 :=
  View.readAt (Elt F) arg4.view (Rect.unit (s := S3) ![o.val] S1.size (fun a => by have := o.isLt; match a with | ⟨0, _⟩ => show o.val + 1 ≤ 3; omega)).toLoadRect (harg4.unread x2)
    (Shape.Idx.first (numel1_S1.symm ▸ Nat.one_pos))

theorem state8_eq : kernelRun0_A.sl.HS2_1 c arg2 harg2 arg4 harg4 arg6 x0 x2
    = [⟨Rect.unit ![0, 0] S256x128.size inb_S256x128_S256x128_0_0,
        k0_pay1194 (k0_pay1191 (rowsOf c arg2 harg2 arg6 x0 64 256 (by decide)) (bgOf arg4 harg4 x2 0) (rowsOf c arg2 harg2 arg6 x0 64 320 (by decide)) (bgOf arg4 harg4 x2 1))
          (rowsOf c arg2 harg2 arg6 x0 64 384 (by decide)) (bgOf arg4 harg4 x2 2)⟩] := rfl

def gradPlane (p : Fin 3) : View.Piece (Elt F) S3x256x128 .f32 :=
  ⟨Rect.unit (s := S3x256x128) ![p.val, 0, 0] S1x256x128.size (inb_grad p), k0_pay1188 (rowsOf c arg2 harg2 arg6 x0 64 (256 + 64 * p.val) (by have := p.isLt; omega))⟩

theorem grads_eq : kernelRun0_A.sl.HS3_3 c arg2 harg2 arg6 x0 = ([2, 1, 0] : List (Fin 3)).map (gradPlane c arg2 harg2 arg6 x0) := rfl

def rawPlanes (p : Fin 8) : List (View.Piece (Elt F) S8x40x128 .i32) :=
  [⟨Rect.unit (s := S8x40x128) ![p.val, 32, 0] S1x8x128.size (inb_tail p), k0_pay1196 (F := F) (rowsOf c arg2 harg2 arg6 x0 4 (704 + 4 * p.val) (by have := p.isLt; omega))⟩,
    ⟨Rect.unit (s := S8x40x128) ![p.val, 0, 0] S1x32x128.size (inb_head p), k0_pay1195 (F := F) (rowsOf c arg2 harg2 arg6 x0 32 (448 + 32 * p.val) (by have := p.isLt; omega))⟩]

theorem raws_eq : kernelRun0_A.sl.HS4_16 c arg2 harg2 arg6 x0
    = ([7, 6, 5, 4, 3, 2, 1, 0] : List (Fin 8)).flatMap (rawPlanes c arg2 harg2 arg6 x0) := rfl

/-- Plane `p` of the raw parameters. -/
def rawP (p : ℕ) : Vec F S1x40x128 .i32 :=
  arg10.view.readCov (kernelRun0_A.sl.HS4_16 c arg2 harg2 arg6 x0) (Rect.unit (s := S8x40x128) ![p % 8, 0, 0] S1x40x128.size (inb_rawP p)).toLoadRect

theorem cols_eq : kernelRun0_A.sl.HS7_1 c arg2 harg2 arg6 arg10 x0
    = [⟨Rect.unit ![0, 0] S160x128.size inb_S160x128_S160x128_0_0, k0_pay1221 (rawP c arg2 harg2 arg6 arg10 x0 6)⟩] := rfl

/-- The codes of colour `q`, one of every four bytes. -/
def colP (q : ℕ) : Vec F S40x128 .f32 :=
  arg13.view.readCov (kernelRun0_A.sl.HS7_1 c arg2 harg2 arg6 arg10 x0) { off := ![q % 4, 0], size := S40x128.size, stride := ![4, 1], inb := inb_col q }

def parPay (j : ℕ) : FVec F S1x40x128 .f32 :=
  match j with
  | 0 => k0_pay1214 (rawP c arg2 harg2 arg6 arg10 x0 0)
  | 1 => k0_pay1215 (rawP c arg2 harg2 arg6 arg10 x0 1)
  | 2 => k0_pay1216 (rawP c arg2 harg2 arg6 arg10 x0 2)
  | 3 => k0_pay1217 (rawP c arg2 harg2 arg6 arg10 x0 3)
  | 4 => k0_pay1218 (rawP c arg2 harg2 arg6 arg10 x0 4)
  | 5 => k0_pay1220 (k0_pay1219 (k0_pay1213 (F := F) (rowsOf c arg2 harg2 arg6 x0 1 736 (by decide))) (rawP c arg2 harg2 arg6 arg10 x0 5))
  | q + 6 => k0_pay1223 (rawP c arg2 harg2 arg6 arg10 x0 7) (colP c arg2 harg2 arg6 arg10 arg13 x0 q)

def parPlane (j : Fin 9) : View.Piece (Elt F) S9x40x128 .f32 :=
  ⟨Rect.unit (s := S9x40x128) ![j.val, 0, 0] S1x40x128.size (inb_parP j), parPay c arg2 harg2 arg6 arg10 arg13 x0 j.val⟩

theorem pars_eq : kernelRun0_A.sl.HS5_9 c arg2 harg2 arg6 arg10 arg13 x0
    = ([8, 7, 6, 5, 4, 3, 2, 1, 0] : List (Fin 9)).map (parPlane c arg2 harg2 arg6 arg10 arg13 x0) := rfl

theorem zeros_eq : (kernelRun0_A.sl.HS6_1 : List (View.Piece (Elt F) S9x320x128 .f32))
    = [⟨Rect.unit ![0, 0, 0] S9x320x128.size inb_S9x320x128_S9x320x128_0_0_0, k0_pay1227 k0_pay1226⟩] := rfl

end Lists

end Cert.KernelIdeal.Hand.Prep

end
-- ==== Proof.PrepRead.lean ====
/- The preparation read lane by lane, as extended reals: the words of the lane's block, and what `Kern` makes of them. -/
module

public import proofs.«01_k».proof.Proof.Prep

@[expose] public section

noncomputable section

namespace Cert.KernelIdeal.Hand.Prep

open Cert.KernelIdeal Cert.KernelIdeal.Gen Idealize.ShloMosaic Idealize.ShloMosaic.TcCoe Cert.Formula Cert.Spec
open Idealize.ShloMosaic.ValueIdx (ix2 ix3 eq_ix2 eq_ix3)

/-- Word `i` of the block in lane `l`. -/
def wl (x0 : S6x128x128.Idx → BitVec 32) (l : Fin 128) (i : ℕ) : BitVec 32 :=
  x0 (ix3 (⟨i / 128 % 6, Nat.mod_lt _ (by decide)⟩ : Fin 6) l (⟨i % 128, Nat.mod_lt _ (by decide)⟩ : Fin 128))

def bgl (x2 : S3.Idx → EReal) (q : ℕ) : EReal := x2 (ValueIdx.ix1 (⟨q % 3, Nat.mod_lt _ (by decide)⟩ : Fin 3))

variable (c : Dev nD)
  (arg2 : Memref sig .tc .vmem S6x128x128 .i32) (harg2 : arg2.IsWhole)
  (arg4 : Memref sig .tc .smem S3 .f32) (harg4 : arg4.IsWhole)
  (arg6 : Memref sig .tc .vmem S768x128 .i32)
  (arg7 arg8 : Memref sig .tc .vmem S256x128 .f32)
  (arg9 : Memref sig .tc .vmem S3x256x128 .f32)
  (arg10 : Memref sig .tc .vmem S8x40x128 .i32)
  (arg11 : Memref sig .tc .vmem S9x40x128 .f32)
  (arg13 : Memref sig .tc .vmem S160x128 .f32)
  (x0 : Vec Ideal S6x128x128 .i32) (x2 : Vec Ideal S3 .f32)

/-! ## Words -/

theorem word_pay (p : Fin 6) (x : S128x128.Idx) :
    k0_pay1179 (F := Ideal) (View.readAt (Elt Ideal) arg2.view (Rect.unit (s := S6x128x128) ![p.val, 0, 0] S1x128x128.size (inb_x p)).toLoadRect (harg2.unread x0)) x
      = wl x0 (x 1 : Fin 128) (128 * p.val + (x 0 : Fin 128).val) := by
  unfold k0_pay1179
  simp only [shapeCast_self]
  refine (transpose_apply [1, 0] _ _ x (ix2 (x 1 : Fin 128) (x 0 : Fin 128)) (fun b => match b with | ⟨0, _⟩ => rfl | ⟨1, _⟩ => rfl)).trans ?_
  refine (shapeCast_dropUnit_apply ![128, 128] _ _ (ix2 (x 1 : Fin 128) (x 0 : Fin 128))).trans ?_
  rw [Memref.IsWhole.readAt_unread]
  have h0 : (x 0 : Fin 128).val < 128 := (x 0 : Fin 128).isLt
  have hp := p.isLt
  refine congrArg x0 (funext fun a => Fin.ext ?_)
  match a with
  | ⟨0, _⟩ => show p.val + 1 * 0 = (128 * p.val + (x 0 : Fin 128).val) / 128 % 6; omega
  | ⟨1, _⟩ => show 0 + 1 * (x 1 : Fin 128).val = (x 1 : Fin 128).val; omega
  | ⟨2, _⟩ => show 0 + 1 * (x 0 : Fin 128).val = (128 * p.val + (x 0 : Fin 128).val) % 128; omega

theorem words (f : BufTy.Contents (Elt Ideal) arg6.view.ty) (r : Fin 768) (l : Fin 128) :
    arg6.view.read (Elt Ideal) (arg6.view.writes (Elt Ideal) f (kernelRun0_A.sl.HS0_6 (F := Ideal) c arg2 harg2 x0)) (ix2 r l) = wl x0 l r.val := by
  rw [words_eq]
  refine View.read_writes_apply_of_pieces (v := arg6.view) (f := f) (G := fun y : S768x128.Idx => wl x0 (y 1 : Fin 128) (y 0 : Fin 768).val) _ ?_ (ix2 r l) ?_
  · intro p hp x
    obtain ⟨q, _, rfl⟩ := List.mem_map.mp hp
    revert x; intro (x : S128x128.Idx)
    refine (word_pay arg2 harg2 x0 q x).trans ?_
    refine congrArg₂ (wl x0) (Fin.ext ?_) ?_
    · show (x 1 : Fin 128).val = 0 + 1 * (x 1 : Fin 128).val; omega
    · show 128 * q.val + (x 0 : Fin 128).val = 128 * q.val + 1 * (x 0 : Fin 128).val; omega
  · have hr := r.isLt
    have m : ∀ q : Fin 6, q ∈ ([5, 4, 3, 2, 1, 0] : List (Fin 6)) := by decide
    refine ⟨_, List.mem_map_of_mem (m ⟨r.val / 128, by omega⟩), (Rect.mem_set_unit (inb := inb_plane ⟨r.val / 128, by omega⟩)).mpr fun a => ?_⟩
    match a with
    | ⟨0, _⟩ => show 128 * (r.val / 128) ≤ r.val ∧ r.val < 128 * (r.val / 128) + 128; omega
    | ⟨1, _⟩ => show 0 ≤ l.val ∧ l.val < 0 + 128; have := l.isLt; omega

theorem rowsOf_apply (n o : ℕ) (h : o + n ≤ 768) (r : Fin n) (l : Fin 128) :
    rowsOf (F := Ideal) c arg2 harg2 arg6 x0 n o h (ix2 r l) = wl x0 l (o + r.val) := by
  have hr := r.isLt
  refine Eq.trans ?_ (words c arg2 harg2 arg6 x0 arg6.view.junk ⟨o + r.val, by omega⟩ l)
  refine congrArg (arg6.view.read (Elt Ideal) _) (funext fun a => Fin.ext ?_)
  match a with
  | ⟨0, _⟩ => show o + 1 * r.val = o + r.val; omega
  | ⟨1, _⟩ => show 0 + 1 * l.val = l.val; omega

/-! ## The two states before the first trip, and the gradients -/

theorem state7 (f : BufTy.Contents (Elt Ideal) arg7.view.ty) (l : Fin 128) (r : ℕ) (hr : r < 256) :
    R' arg7 (arg7.view.writes (Elt Ideal) f (kernelRun0_A.sl.HS1_1 (F := Ideal) c arg2 harg2 arg6 x0)) l r = Kern.T0 (wl x0 l) r := by
  unfold R' row256
  rw [state7_eq]
  refine (congrFun (View.read_writes_full arg7.view f inb_S256x128_S256x128_0_0 _ []) _).trans ?_
  unfold k0_pay1186
  simp only [shapeCast_self]
  refine congrArg (Ideal.ofBits .f32) ((rowsOf_apply c arg2 harg2 arg6 x0 256 0 (by decide) ⟨r % 256, Nat.mod_lt _ (by decide)⟩ l).trans ?_)
  exact congrArg (wl x0 l) (by show 0 + r % 256 = r; omega)

theorem grad_pay (p : Fin 3) (h) (r : Fin 256) (l : Fin 128) :
    k0_pay1187 (F := Ideal) (rowsOf (F := Ideal) c arg2 harg2 arg6 x0 64 (256 + 64 * p.val) h) (ix2 r l) = gcode (wl x0 l) p.val r.val := by
  unfold k0_pay1187
  have hr := r.isLt
  refine congrArg (Ideal.ofBits .fp8e5m2) ((Bytes.bitcast_words _ _ (ix2 r l) ⟨r.val / 4, by omega⟩ l rfl rfl).trans ?_)
  rw [rowsOf_apply]

theorem grads (f : BufTy.Contents (Elt Ideal) arg9.view.ty) (l : Fin 128) (q : ℕ) (hq : q < 3) (r : ℕ) (hr : r < 256) :
    G' arg9 (arg9.view.writes (Elt Ideal) f (kernelRun0_A.sl.HS3_3 (F := Ideal) c arg2 harg2 arg6 x0)) l q r = gcode (wl x0 l) q r := by
  unfold G' grow
  rw [grads_eq, show (⟨q % 3, Nat.mod_lt _ (by decide)⟩ : Fin 3) = ⟨q, hq⟩ from Fin.ext (Nat.mod_eq_of_lt hq),
    show (⟨r % 256, Nat.mod_lt _ (by decide)⟩ : Fin 256) = ⟨r, hr⟩ from Fin.ext (Nat.mod_eq_of_lt hr)]
  refine View.read_writes_apply_of_pieces (v := arg9.view) (f := f) (G := fun y : S3x256x128.Idx => gcode (wl x0 (y 2 : Fin 128)) (y 0 : Fin 3).val (y 1 : Fin 256).val) _ ?_ (ix3 ⟨q, hq⟩ ⟨r, hr⟩ l) ?_
  · intro p hp x
    obtain ⟨q, _, rfl⟩ := List.mem_map.mp hp
    revert x; intro (x : S1x256x128.Idx)
    have h0 : (x 0 : Fin 1).val < 1 := (x 0 : Fin 1).isLt
    show k0_pay1188 (F := Ideal) _ x = _
    unfold k0_pay1188
    refine (shapeCast_addUnit_apply ![256, 128] _ _ x).trans ?_
    refine Eq.trans ?_ ((grad_pay c arg2 harg2 arg6 x0 q (by have := q.isLt; omega) (x 1 : Fin 256) (x 2 : Fin 128)).trans ?_)
    · exact congrArg _ (funext fun a => match a with | ⟨0, _⟩ => rfl | ⟨1, _⟩ => rfl)
    · refine congr (congrArg₂ (fun l p => gcode (wl x0 l) p) (Fin.ext ?_) ?_) ?_
      · show (x 2 : Fin 128).val = 0 + 1 * (x 2 : Fin 128).val; omega
      · show q.val = q.val + 1 * (x 0 : Fin 1).val; omega
      · show (x 1 : Fin 256).val = 0 + 1 * (x 1 : Fin 256).val; omega
  · have m : ∀ q : Fin 3, q ∈ ([2, 1, 0] : List (Fin 3)) := by decide
    refine ⟨_, List.mem_map_of_mem (m ⟨q, hq⟩), (Rect.mem_set_unit (inb := inb_grad ⟨q, hq⟩)).mpr fun a => ?_⟩
    match a with
    | ⟨0, _⟩ => show q ≤ q ∧ q < q + 1; omega
    | ⟨1, _⟩ => show 0 ≤ r ∧ r < 0 + 256; omega
    | ⟨2, _⟩ => show 0 ≤ l.val ∧ l.val < 0 + 128; have := l.isLt; omega

theorem bgOf_eq (o : Fin 3) : bgOf (F := Ideal) arg4 harg4 x2 o = bgl x2 o.val := by
  unfold bgOf bgl
  refine (Memref.IsWhole.readAt_unread harg4 x2 _ _).trans ?_
  have ho := o.isLt
  refine congrArg x2 (funext fun a => Fin.ext ?_)
  match a with
  | ⟨0, _⟩ =>
    have := (Shape.Idx.first (numel1_S1.symm ▸ Nat.one_pos) (0 : Fin 1) : Fin 1).isLt
    show o.val + 1 * (Shape.Idx.first (numel1_S1.symm ▸ Nat.one_pos) (0 : Fin 1) : Fin 1).val = o.val % 3
    omega

theorem state8 (f : BufTy.Contents (Elt Ideal) arg8.view.ty) (l : Fin 128) (r : ℕ) (hr : r < 256) :
    R' arg8 (arg8.view.writes (Elt Ideal) f (kernelRun0_A.sl.HS2_1 (F := Ideal) c arg2 harg2 arg4 harg4 arg6 x0 x2)) l r = Kern.A0 (wl x0 l) (bgl x2) r := by
  unfold R' row256
  rw [state8_eq, show (⟨r % 256, Nat.mod_lt _ (by decide)⟩ : Fin 256) = ⟨r, hr⟩ from Fin.ext (Nat.mod_eq_of_lt hr)]
  refine (congrFun (View.read_writes_full arg8.view f inb_S256x128_S256x128_0_0 _ []) _).trans ?_
  have g := fun (p : Fin 3) h => grad_pay c arg2 harg2 arg6 x0 p h (⟨r, hr⟩ : Fin 256) l
  unfold k0_pay1194 k0_pay1191
  simp only [shapeCast_self]
  exact congrArg₂ (· + ·) (congrArg₂ (· + ·) (congrArg₂ (· * ·) (g 0 (by decide)) (bgOf_eq arg4 harg4 x2 0)) (congrArg₂ (· * ·) (g 1 (by decide)) (bgOf_eq arg4 harg4 x2 1)))
    (congrArg₂ (· * ·) (g 2 (by decide)) (bgOf_eq arg4 harg4 x2 2))

/-! ## The raw parameters -/

theorem tail_pay (v : S4x128.Idx → BitVec 32) (x : S1x8x128.Idx) :
    k0_pay1196 (F := Ideal) v x = if h : (x 1 : Fin 8).val < 4 then v (ix2 (⟨(x 1 : Fin 8).val, h⟩ : Fin 4) (x 2 : Fin 128)) else 0#32 := by
  unfold k0_pay1196
  refine (shapeCast_addUnit_apply ![8, 128] _ _ x).trans ?_
  have h1 : (x 1 : Fin 8).val < 8 := (x 1 : Fin 8).isLt
  by_cases hx : (x 1 : Fin 8).val < 4
  · rw [dif_pos hx]
    exact concatenate_pair_apply_left (t := S8x128) (s₁ := S4x128) (s₂ := S4x128) 0 _ _ _ (fun a : Fin 2 => x a.succ) rfl (ix2 (⟨(x 1 : Fin 8).val, hx⟩ : Fin 4) (x 2 : Fin 128))
      (fun b => match b with | ⟨0, _⟩ => rfl | ⟨1, _⟩ => rfl)
  · rw [dif_neg hx]
    exact concatenate_pair_apply_right (t := S8x128) (s₁ := S4x128) (s₂ := S4x128) 0 _ _ _ (fun a : Fin 2 => x a.succ) rfl rfl (ix2 (⟨(x 1 : Fin 8).val - 4, by omega⟩ : Fin 4) (x 2 : Fin 128))
      (fun b hb => match b with | ⟨0, _⟩ => absurd rfl hb | ⟨1, _⟩ => rfl) (by show (x 1 : Fin 8).val - 4 + 4 = (x 1 : Fin 8).val; omega)

theorem head_pay (v : S32x128.Idx → BitVec 32) (x : S1x32x128.Idx) : k0_pay1195 (F := Ideal) v x = v (ix2 (x 1 : Fin 32) (x 2 : Fin 128)) := by
  unfold k0_pay1195
  exact (shapeCast_addUnit_apply ![32, 128] _ _ x).trans (congrArg v (funext fun a => match a with | ⟨0, _⟩ => rfl | ⟨1, _⟩ => rfl))

theorem raws (f : BufTy.Contents (Elt Ideal) arg10.view.ty) (p : Fin 8) (k : Fin 40) (l : Fin 128) (h36 : k.val < 36) :
    arg10.view.read (Elt Ideal) (arg10.view.writes (Elt Ideal) f (kernelRun0_A.sl.HS4_16 (F := Ideal) c arg2 harg2 arg6 x0)) (ix3 p k l) = prm (wl x0 l) p.val k.val := by
  rw [raws_eq]
  refine (View.read_writes_apply_of_pieces (v := arg10.view) (f := f)
    (G := fun y : S8x40x128.Idx => if (y 1 : Fin 40).val < 36 then prm (wl x0 (y 2 : Fin 128)) (y 0 : Fin 8).val (y 1 : Fin 40).val else 0#32) _ ?_ (ix3 p k l) ?_).trans (if_pos h36)
  · intro P hP x
    obtain ⟨q, _, hq⟩ := List.mem_flatMap.mp hP
    rcases List.mem_cons.mp hq with rfl | hq
    · revert x; intro (x : S1x8x128.Idx)
      have h0 : (x 0 : Fin 1).val < 1 := (x 0 : Fin 1).isLt
      have h1 : (x 1 : Fin 8).val < 8 := (x 1 : Fin 8).isLt
      refine (tail_pay _ x).trans ?_
      have e2 : (0 + 1 * (x 2 : Fin 128).val) = (x 2 : Fin 128).val := by omega
      by_cases hx : (x 1 : Fin 8).val < 4
      · rw [dif_pos hx]
        refine (rowsOf_apply c arg2 harg2 arg6 x0 4 (704 + 4 * q.val) _ ⟨(x 1 : Fin 8).val, hx⟩ (x 2 : Fin 128)).trans ?_
        refine Eq.symm ((if_pos (show 32 + 1 * (x 1 : Fin 8).val < 36 by omega)).trans ?_)
        refine (if_neg (show ¬ (32 + 1 * (x 1 : Fin 8).val < 32) by omega)).trans ?_
        refine congrArg₂ (wl x0) (Fin.ext e2) ?_
        show 704 + 4 * (q.val + 1 * (x 0 : Fin 1).val) + (32 + 1 * (x 1 : Fin 8).val - 32) = 704 + 4 * q.val + (x 1 : Fin 8).val
        omega
      · rw [dif_neg hx]
        exact (if_neg (show ¬ (32 + 1 * (x 1 : Fin 8).val < 36) by omega)).symm
    · obtain rfl := List.mem_singleton.mp hq
      revert x; intro (x : S1x32x128.Idx)
      have h0 : (x 0 : Fin 1).val < 1 := (x 0 : Fin 1).isLt
      have h1 : (x 1 : Fin 32).val < 32 := (x 1 : Fin 32).isLt
      refine (head_pay (rowsOf (F := Ideal) c arg2 harg2 arg6 x0 32 (448 + 32 * q.val) (by have := q.isLt; omega)) x).trans ?_
      refine (rowsOf_apply c arg2 harg2 arg6 x0 32 (448 + 32 * q.val) _ (x 1 : Fin 32) (x 2 : Fin 128)).trans ?_
      refine Eq.symm ((if_pos (show 0 + 1 * (x 1 : Fin 32).val < 36 by omega)).trans ?_)
      refine (if_pos (show 0 + 1 * (x 1 : Fin 32).val < 32 by omega)).trans ?_
      refine congrArg₂ (wl x0) (Fin.ext (show 0 + 1 * (x 2 : Fin 128).val = (x 2 : Fin 128).val by omega)) ?_
      show 448 + 32 * (q.val + 1 * (x 0 : Fin 1).val) + (0 + 1 * (x 1 : Fin 32).val) = 448 + 32 * q.val + (x 1 : Fin 32).val
      omega
  · have m : ∀ q : Fin 8, q ∈ ([7, 6, 5, 4, 3, 2, 1, 0] : List (Fin 8)) := by decide
    have hl := l.isLt
    by_cases hk : k.val < 32
    · refine ⟨_, List.mem_flatMap.mpr ⟨p, m p, List.mem_cons_of_mem _ List.mem_cons_self⟩, (Rect.mem_set_unit (inb := inb_head p)).mpr fun a => ?_⟩
      match a with
      | ⟨0, _⟩ => show p.val ≤ p.val ∧ p.val < p.val + 1; omega
      | ⟨1, _⟩ => show 0 ≤ k.val ∧ k.val < 0 + 32; omega
      | ⟨2, _⟩ => show 0 ≤ l.val ∧ l.val < 0 + 128; omega
    · refine ⟨_, List.mem_flatMap.mpr ⟨p, m p, List.mem_cons_self⟩, (Rect.mem_set_unit (inb := inb_tail p)).mpr fun a => ?_⟩
      match a with
      | ⟨0, _⟩ => show p.val ≤ p.val ∧ p.val < p.val + 1; omega
      | ⟨1, _⟩ => show 32 ≤ k.val ∧ k.val < 32 + 8; omega
      | ⟨2, _⟩ => show 0 ≤ l.val ∧ l.val < 0 + 128; omega

/-! ## The prepared parameters -/

theorem rawP_apply (p : ℕ) (hp : p < 8) (h) (k : Fin 40) (l : Fin 128) (h36 : k.val < 36) :
    shapeCast S40x128 (rawP (F := Ideal) c arg2 harg2 arg6 arg10 x0 p) h (ix2 k l) = prm (wl x0 l) p k.val := by
  refine (shapeCast_dropUnit_apply ![40, 128] _ _ (ix2 k l)).trans ?_
  refine Eq.trans ?_ (raws c arg2 harg2 arg6 arg10 x0 arg10.view.junk ⟨p, hp⟩ k l h36)
  refine congrArg (arg10.view.read (Elt Ideal) _) (funext fun a => Fin.ext ?_)
  match a with
  | ⟨0, _⟩ => show p % 8 + 1 * 0 = p; omega
  | ⟨1, _⟩ => show 0 + 1 * k.val = k.val; omega
  | ⟨2, _⟩ => show 0 + 1 * l.val = l.val; omega

theorem colP_apply (q : ℕ) (hq : q < 3) (k : Fin 40) (l : Fin 128) (h36 : k.val < 36) :
    colP (F := Ideal) c arg2 harg2 arg6 arg10 arg13 x0 q (ix2 k l) = Ideal.ofBits .fp8e4m3 ((prm (wl x0 l) 6 k.val).extractLsb' (8 * q) 8) := by
  have hk := k.isLt
  unfold colP
  rw [cols_eq]
  have ey : ({ off := ![q % 4, 0], size := S40x128.size, stride := ![4, 1], inb := inb_col q } : LoadRect S160x128).idx (ix2 k l)
      = ix2 (⟨4 * k.val + q, by omega⟩ : Fin 160) l := funext fun a => Fin.ext (by
    match a with
    | ⟨0, _⟩ => show q % 4 + 4 * k.val = 4 * k.val + q; omega
    | ⟨1, _⟩ => show 0 + 1 * l.val = l.val; omega)
  refine (congrArg (arg13.view.read (Elt Ideal) _) ey).trans ?_
  refine (congrFun (View.read_writes_full arg13.view arg13.view.junk inb_S160x128_S160x128_0_0 _ []) _).trans ?_
  unfold k0_pay1221
  simp only [shapeCast_self]
  refine congrArg (Ideal.ofBits .fp8e4m3) ((Bytes.bitcast_words _ _ (ix2 (⟨4 * k.val + q, by omega⟩ : Fin 160) l) k l (by show (4 * k.val + q) / 4 = k.val; omega) rfl).trans ?_)
  rw [rawP_apply c arg2 harg2 arg6 arg10 x0 6 (by decide) _ k l h36]
  exact congrArg (fun i => BitVec.extractLsb' (8 * i) 8 _) (by show (4 * k.val + q) % 4 = q; omega)

theorem parPay_apply (j : ℕ) (hj : j < 9) (k : Fin 40) (l : Fin 128) (h36 : k.val < 36) :
    parPay (F := Ideal) c arg2 harg2 arg6 arg10 arg13 x0 j (ix3 (0 : Fin 1) k l) = Kern.P (wl x0 l) k.val j := by
  have e : ∀ (v : FVec Ideal S40x128 .f32) (h : S40x128.ShapeCasts S1x40x128), shapeCast S1x40x128 v h (ix3 (0 : Fin 1) k l) = v (ix2 k l) := fun v h =>
    (shapeCast_addUnit_apply ![40, 128] _ _ (ix3 (0 : Fin 1) k l)).trans (congrArg v (funext fun a => match a with | ⟨0, _⟩ => rfl | ⟨1, _⟩ => rfl))
  have r := fun p hp h => rawP_apply c arg2 harg2 arg6 arg10 x0 p hp h k l h36
  match j, hj with
  | 0, _ => show k0_pay1214 (F := Ideal) _ _ = _; unfold k0_pay1214; exact (e _ _).trans (congrArg fl (r 0 (by decide) _))
  | 1, _ => show k0_pay1215 (F := Ideal) _ _ = _; unfold k0_pay1215; exact (e _ _).trans (congrArg fl (r 1 (by decide) _))
  | 2, _ => show k0_pay1216 (F := Ideal) _ _ = _; unfold k0_pay1216; exact (e _ _).trans (congrArg (fun x => fl x * Kern.halfLog) (r 2 (by decide) _))
  | 3, _ => show k0_pay1217 (F := Ideal) _ _ = _; unfold k0_pay1217; exact (e _ _).trans (congrArg (fun x => fl x * Kern.negLog) (r 3 (by decide) _))
  | 4, _ => show k0_pay1218 (F := Ideal) _ _ = _; unfold k0_pay1218; exact (e _ _).trans (congrArg (fun x => fl x * Kern.halfLog) (r 4 (by decide) _))
  | 5, _ =>
    show k0_pay1220 (F := Ideal) (k0_pay1219 _ _) _ = _
    unfold k0_pay1220 k0_pay1219
    refine (e _ _).trans ?_
    have z : Ideal.ofBits .f32 0x00000000#32 = 0 := by simp [Ideal.ofBits, Ideal.ieee]
    have m : k0_pay1213 (F := Ideal) (rowsOf (F := Ideal) c arg2 harg2 arg6 x0 1 736 (by decide)) (ix2 k l) = listed (wl x0 l) k.val := by
      unfold k0_pay1213 listed
      refine congrArg₂ (IntOp.cmpi .slt) (iota_single_apply _ _ _ _ _ _) ?_
      exact (ValueIdx.broadcastTo_1b_ab_apply _ _ _ _).trans (rowsOf_apply c arg2 harg2 arg6 x0 1 736 (by decide) 0 l)
    refine (congr (congrArg₂ (fun m x => Scalar.select m (fl x)) m (r 5 (by decide) _)) z).trans rfl
  | q + 6, hj =>
    show k0_pay1223 (F := Ideal) _ _ _ = _
    unfold k0_pay1223 k0_pay1222
    exact (e _ _).trans (congrArg₂ (fun x y => fl x * y) (r 7 (by decide) _) (colP_apply c arg2 harg2 arg6 arg10 arg13 x0 q (by omega) k l h36))

theorem pars (f : BufTy.Contents (Elt Ideal) arg11.view.ty) (l : Fin 128) (k : ℕ) (h36 : k < 36) (j : ℕ) (hj : j < 9) :
    P' arg11 (arg11.view.writes (Elt Ideal) f (kernelRun0_A.sl.HS5_9 (F := Ideal) c arg2 harg2 arg6 arg10 arg13 x0)) l k j = Kern.P (wl x0 l) k j := by
  unfold P' prow
  rw [pars_eq, show (⟨j % 9, Nat.mod_lt _ (by decide)⟩ : Fin 9) = ⟨j, hj⟩ from Fin.ext (Nat.mod_eq_of_lt hj),
    show (⟨k % 40, Nat.mod_lt _ (by decide)⟩ : Fin 40) = ⟨k, by omega⟩ from Fin.ext (Nat.mod_eq_of_lt (by omega))]
  refine (View.read_writes_apply_of_pieces (v := arg11.view) (f := f)
    (G := fun y : S9x40x128.Idx => parPay (F := Ideal) c arg2 harg2 arg6 arg10 arg13 x0 (y 0 : Fin 9).val (ix3 (0 : Fin 1) (y 1 : Fin 40) (y 2 : Fin 128))) _ ?_
    (ix3 ⟨j, hj⟩ ⟨k, by omega⟩ l) ?_).trans (parPay_apply c arg2 harg2 arg6 arg10 arg13 x0 j hj ⟨k, by omega⟩ l h36)
  · intro P hP x
    obtain ⟨q, _, rfl⟩ := List.mem_map.mp hP
    revert x; intro (x : S1x40x128.Idx)
    have h0 : (x 0 : Fin 1).val < 1 := (x 0 : Fin 1).isLt
    refine congrArg₂ (parPay (F := Ideal) c arg2 harg2 arg6 arg10 arg13 x0) ?_ (funext fun a => Fin.ext ?_)
    · show q.val = q.val + 1 * (x 0 : Fin 1).val; omega
    · match a with
      | ⟨0, _⟩ => show (x 0 : Fin 1).val = 0; omega
      | ⟨1, _⟩ => show (x 1 : Fin 40).val = 0 + 1 * (x 1 : Fin 40).val; omega
      | ⟨2, _⟩ => show (x 2 : Fin 128).val = 0 + 1 * (x 2 : Fin 128).val; omega
  · have m : ∀ q : Fin 9, q ∈ ([8, 7, 6, 5, 4, 3, 2, 1, 0] : List (Fin 9)) := by decide
    refine ⟨_, List.mem_map_of_mem (m ⟨j, hj⟩), (Rect.mem_set_unit (inb := inb_parP ⟨j, hj⟩)).mpr fun a => ?_⟩
    match a with
    | ⟨0, _⟩ => show j ≤ j ∧ j < j + 1; omega
    | ⟨1, _⟩ => show 0 ≤ k ∧ k < 0 + 40; omega
    | ⟨2, _⟩ => show 0 ≤ l.val ∧ l.val < 0 + 128; have := l.isLt; omega

end Cert.KernelIdeal.Hand.Prep

end
-- ==== Proof.WalkCongr.lean ====
/- The walk over the slots looks only at the nine parameters of the slots it takes and at the 256 pixels of the block. -/
module

public import proofs.«01_k».proof.Proof.Walk

@[expose] public section

noncomputable section

namespace Cert.Walk

open Idealize.ShloMosaic Cert.Formula

section Cell

variable {p p' : ℕ → EReal} {T T' A A' : ℕ → EReal} {G G' : ℕ → ℕ → EReal}
variable (hp : ∀ j, j < 9 → p j = p' j)
include hp

theorem vis_congr (y x s : ℕ) : vis p y x s = vis p' y x s := by
  simp only [vis, dx, dy, hp 0 (by decide), hp 1 (by decide), hp 2 (by decide), hp 3 (by decide), hp 4 (by decide)]

theorem alpha_congr (y x s : ℕ) : alpha p y x s = alpha p' y x s := by
  simp only [alpha, vis_congr hp, hp 5 (by decide)]

variable {y x s : ℕ} (hy : y < 4) (hx : x < 8) (hs : s < 8)
include hy hx hs

omit hp in
theorem at_lt : 8 * (8 * y + x) + s < 256 := by omega

section T
variable (hT : ∀ f, f < 256 → T f = T' f)
include hT

theorem tra_congr : tra p T y x s = tra p' T' y x s := by
  simp only [tra, alpha_congr hp, hT _ (at_lt hy hx hs)]

theorem vt_congr : vt p T y x s = vt p' T' y x s := by
  simp only [vt, vis_congr hp, tra_congr hp hy hx hs hT]
end T

section A
variable (hA : ∀ f, f < 256 → A f = A' f) (hG : ∀ c, c < 3 → ∀ f, f < 256 → G c f = G' c f)
include hA hG

theorem err_congr : err p A G y x s = err p' A' G' y x s := by
  simp only [err, hp 6 (by decide), hp 7 (by decide), hp 8 (by decide), hA _ (at_lt hy hx hs), hG 0 (by decide) _ (at_lt hy hx hs),
    hG 1 (by decide) _ (at_lt hy hx hs), hG 2 (by decide) _ (at_lt hy hx hs)]

theorem acc_congr : acc p A G y x s = acc p' A' G' y x s := by
  simp only [acc, alpha_congr hp, err_congr hp hy hx hs hA hG, hA _ (at_lt hy hx hs)]

theorem res_congr (hT : ∀ f, f < 256 → T f = T' f) : res p T A G s y x = res p' T' A' G' s y x := by
  simp only [res, vt_congr hp hy hx hs hT, err_congr hp hy hx hs hA hG]
end A

end Cell

theorem sums_congr {p p' : ℕ → EReal} {T T' A A' : ℕ → EReal} {G G' : ℕ → ℕ → EReal}
    (hp : ∀ j, j < 9 → p j = p' j) {s : ℕ} (hs : s < 8) (hT : ∀ f, f < 256 → T f = T' f)
    (hA : ∀ f, f < 256 → A f = A' f) (hG : ∀ c, c < 3 → ∀ f, f < 256 → G c f = G' c f) (j : ℕ) (hj : j < 9) :
    sums p T A G s j = sums p' T' A' G' s j := by
  have e : ∀ y, y ≤ 3 → ∀ x, x ≤ 7 → res p T A G s y x = res p' T' A' G' s y x :=
    fun y hy x hx => res_congr hp (by omega) (by omega) hs hA hG hT
  have cg : ∀ {α : Type} [Add α] {f h : ℕ → α} (m n : ℕ), n ≤ m → (∀ x, x ≤ m → f x = h x) → pfx f n = pfx h n :=
    fun m n hn e => pfx_congr fun i hi => e i (by omega)
  match j, hj with
  | 0, _ => exact cg 3 3 le_rfl fun y hy => cg 7 7 le_rfl fun x hx => e y hy x hx
  | 1, _ => exact cg 3 3 le_rfl fun m hm => cg 3 m hm fun y hy => cg 7 7 le_rfl fun x hx => e y hy x hx
  | 2, _ => exact cg 3 3 le_rfl fun m hm => cg 3 m hm fun m' hm' => cg 3 m' hm' fun y hy => cg 7 7 le_rfl fun x hx => e y hy x hx
  | 3, _ => exact cg 3 3 le_rfl fun y hy => cg 7 7 le_rfl fun m hm => cg 7 m hm fun x hx => e y hy x hx
  | 4, _ => exact cg 3 3 le_rfl fun m hm => cg 3 m hm fun y hy => cg 7 7 le_rfl fun m' hm' => cg 7 m' hm' fun x hx => e y hy x hx
  | 5, _ => exact cg 3 3 le_rfl fun y hy => cg 7 7 le_rfl fun m hm => cg 7 m hm fun m' hm' => cg 7 m' hm' fun x hx => e y hy x hx
  | c + 6, hj =>
    exact cg 31 31 le_rfl fun b hb => congrArg₂ (· * ·) (vt_congr hp (by omega) (by omega) hs hT) (hG c (by omega) _ (by omega))

section Run

variable {P P' : ℕ → ℕ → EReal} {G G' : ℕ → ℕ → EReal} {n : ℕ} {T0 T0' A0 A0' : ℕ → EReal}
variable (hP : ∀ k, k < n → ∀ j, j < 9 → P k j = P' k j)
include hP

theorem runT_congr (hT : ∀ f, f < 256 → T0 f = T0' f) (i : ℕ) (hi : i ≤ n) :
    ∀ f, f < 256 → runT P n T0 i f = runT P' n T0' i f := by
  induction i with
  | zero => exact hT
  | succ i ih => exact fun f hf => tra_congr (hP _ (by omega)) (by omega) (by omega) (by omega) (ih (by omega))

theorem runA_congr (hA : ∀ f, f < 256 → A0 f = A0' f) (hG : ∀ c, c < 3 → ∀ f, f < 256 → G c f = G' c f) (i : ℕ) (hi : i ≤ n) :
    ∀ f, f < 256 → runA P G n A0 i f = runA P' G' n A0' i f := by
  induction i with
  | zero => exact hA
  | succ i ih => exact fun f hf => acc_congr (hP _ (by omega)) (by omega) (by omega) (by omega) (ih (by omega)) hG

end Run

end Cert.Walk
-- ==== Proof.LoopSt.lean ====
/- The generated loop's pieces are the trips' pieces. -/
module

public import proofs.«01_k».proof.Proof.LoopRead

@[expose] public section

noncomputable section

namespace Cert.KernelIdeal.Hand

open Cert.KernelIdeal Cert.KernelIdeal.Gen Idealize.ShloMosaic Idealize.ShloMosaic.TcCoe Idealize.SL Idealize.SL.Sem

variable (𝒱 : Variants) (c : Dev nD) (bd : Option 𝒱.V) (i : grid0.Coords) (arg1 : Memref sig .tc .smem S255 .i32) (harg1 : arg1.IsWhole) (arg2 : Memref sig .tc .vmem S6x128x128 .i32) (harg2 : arg2.IsWhole) (arg3 : Memref sig .tc .smem S1 .f32) (harg3 : arg3.IsWhole) (arg4 : Memref sig .tc .smem S3 .f32) (harg4 : arg4.IsWhole) (arg5 : Memref sig .tc .vmem S3x128x128 .f32) (harg5 : arg5.IsWhole) (arg6 : Memref sig .tc .vmem S768x128 .i32) (harg6 : arg6.IsWhole) (arg7 : Memref sig .tc .vmem S256x128 .f32) (harg7 : arg7.IsWhole) (arg8 : Memref sig .tc .vmem S256x128 .f32) (harg8 : arg8.IsWhole) (arg9 : Memref sig .tc .vmem S3x256x128 .f32) (harg9 : arg9.IsWhole) (arg10 : Memref sig .tc .vmem S8x40x128 .i32) (harg10 : arg10.IsWhole) (arg11 : Memref sig .tc .vmem S9x40x128 .f32) (harg11 : arg11.IsWhole) (arg12 : Memref sig .tc .vmem S9x320x128 .f32) (harg12 : arg12.IsWhole) (arg13 : Memref sig .tc .vmem S160x128 .f32) (harg13 : arg13.IsWhole) (v1 : Elt Ideal .i32) (k0_hw1 : k0_chk1 v1) (v228 : FVec Ideal S9x320x128 .f32) (v229 : Vec Ideal S9x320x128 .f32)
  (X9 : BufTy.Contents (Elt Ideal) arg9.view.ty) (X11 : BufTy.Contents (Elt Ideal) arg11.view.ty)
  (G7 : BufTy.Contents (Elt Ideal) arg7.view.ty) (G8 : BufTy.Contents (Elt Ideal) arg8.view.ty) (G12 : BufTy.Contents (Elt Ideal) arg12.view.ty)

theorem trips_st (init : BitVec 32) :
    Trips arg7 arg8 arg9 arg11 v1 k0_hw1 X9 X11 G7 G8
      (fun k => (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 G7 G8 G12 init k).2.1)
      (fun k => (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 G7 G8 G12 init k).2.2.1)
      (fun k => (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 G7 G8 G12 init k).2.2.2) where
  zero7 := rfl
  zero8 := rfl
  zero12 := rfl
  succ7 k := by
    show (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 G7 G8 G12 init (k.val + 1)).2.1 = _
    rw [st_k0_t1_succ]
    exact congrArg (· ++ _) (trip_tra ..)
  succ8 k := by
    show (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 G7 G8 G12 init (k.val + 1)).2.2.1 = _
    rw [st_k0_t1_succ]
    exact congrArg (· ++ _) (trip_acc ..)
  succ12 k := by
    show (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v228 v229 X9 X11 G7 G8 G12 init (k.val + 1)).2.2.2 = _
    rw [st_k0_t1_succ]
    exact congrArg (· ++ _) (trip_mom ..)

end Cert.KernelIdeal.Hand

end
-- ==== Proof.Rows.lean ====
/- The rows the kernel stores of one block, lane by lane: the nine quantities of the block's splats. -/
module

public import proofs.«01_k».proof.Proof.Stored
public import proofs.«01_k».proof.Proof.LastRead
public import proofs.«01_k».proof.Proof.PrepRead
public import proofs.«01_k».proof.Proof.WalkCongr
public import proofs.«01_k».proof.Proof.LoopSt
public import Idealize.ShloMosaic.Lib.LoopRemainder

@[expose] public section

noncomputable section

namespace Cert.KernelIdeal.Hand.Last

open Cert.Spec (fl)
open Cert.KernelIdeal Cert.KernelIdeal.Gen Idealize.ShloMosaic Idealize.ShloMosaic.TcCoe Cert.Formula Cert.KernelIdeal.Hand.Prep

variable (c : Dev nD) (i : grid0.Coords)
  (arg2 : Memref sig .tc .vmem S6x128x128 .i32) (harg2 : arg2.IsWhole)
  (arg3 : Memref sig .tc .smem S1 .f32) (harg3 : arg3.IsWhole)
  (arg4 : Memref sig .tc .smem S3 .f32) (harg4 : arg4.IsWhole)
  (arg5 : Memref sig .tc .vmem S3x128x128 .f32) (harg5 : arg5.IsWhole)
  (arg6 : Memref sig .tc .vmem S768x128 .i32) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S3x256x128 .f32) (harg9 : arg9.IsWhole)
  (arg10 : Memref sig .tc .vmem S8x40x128 .i32) (harg10 : arg10.IsWhole)
  (arg11 : Memref sig .tc .vmem S9x40x128 .f32) (harg11 : arg11.IsWhole)
  (arg12 : Memref sig .tc .vmem S9x320x128 .f32) (harg12 : arg12.IsWhole)
  (arg13 : Memref sig .tc .vmem S160x128 .f32) (harg13 : arg13.IsWhole)
  (x0 : Vec Ideal S6x128x128 .i32) (x1 : Vec Ideal S1 .f32) (x2 : Vec Ideal S3 .f32) (xt0 : TbBuf0 (F := Ideal) c tbM0_0)
  (k0_hw1 : k0_chk1 (tbM0_0.view.readAt (Elt Ideal) (Rect.unit (s := S255) (k0_off1 i) S1.size (k0_off1_inb i)).toLoadRect xt0 (Shape.Idx.first (numel1_S1.symm ▸ Nat.one_pos))))

/-- The scale, the one word of its operand. -/
theorem scale_eq : kernelRun0_A.sl.r_10 (F := Ideal) c arg3 harg3 x1 = x1 (ValueIdx.ix1 (0 : Fin 1)) :=
  (Memref.IsWhole.readAt_unread harg3 _ _ _).trans (congrArg x1 (funext fun a => Fin.ext (match a with | ⟨0, _⟩ => rfl)))

/-- The loop over the trips left over makes none. -/
theorem sumPieces_eq : sumPieces (F := Ideal) c i arg2 harg2 arg3 harg3 arg4 harg4 arg5 harg5 arg6 harg6 arg7 harg7 arg8 harg8 arg9 harg9 arg10 harg10 arg11 harg11 arg12 harg12 arg13 harg13 x0 x2 xt0 k0_hw1
    = (loop1 (F := Ideal) c i arg2 harg2 arg3 harg3 arg4 harg4 arg5 harg5 arg6 harg6 arg7 harg7 arg8 harg8 arg9 harg9 arg10 harg10 arg11 harg11 arg12 harg12 arg13 harg13 x0 x2 xt0 k0_hw1 (k0_t1_loop (kernelRun0_A.sl.r c i xt0)).trips).2.2.2 ++ kernelRun0_A.sl.HS6_1 := by
  have h : Scf.trips (k0_t2_loop (kernelRun0_A.sl.r c i xt0)).lb (k0_t2_loop (kernelRun0_A.sl.r c i xt0)).ub (k0_t2_loop (kernelRun0_A.sl.r c i xt0)).st = 0 := Scf.rem_trips _ _
  unfold sumPieces
  rw [h]
  rfl

variable (n : ℕ) (hn : (kernelRun0_A.sl.r c i xt0 : BitVec 32).toInt.toNat = n) (h36 : n ≤ 36) (l : Fin 128)
include hn h36

/-- What the sums' buffer holds when the loops are done. -/
theorem sums_eq (j : Fin 9) (r : Fin 320) :
    arg12.view.read (Elt Ideal) (arg12.view.writes (Elt Ideal) arg12.view.junk (sumPieces (F := Ideal) c i arg2 harg2 arg3 harg3 arg4 harg4 arg5 harg5 arg6 harg6 arg7 harg7 arg8 harg8 arg9 harg9 arg10 harg10 arg11 harg11 arg12 harg12 arg13 harg13 x0 x2 xt0 k0_hw1)) (ValueIdx.ix3 j r l)
      = Kern.M (wl x0 l) (bgl x2) n (r.val / 8) j.val (r.val % 8) := by
  have hj := j.isLt
  rw [sumPieces_eq, View.writes_append, trips_eq _ (by omega)]
  have S := (states (arg12.view.writes (Elt Ideal) arg12.view.junk kernelRun0_A.sl.HS6_1) (trips_st Variants.none c none i tbM0_0 htbM0_0 arg2 harg2 arg3 harg3 arg4 harg4 arg5 harg5 arg6 harg6 arg7 harg7 arg8 harg8 arg9 harg9 arg10 harg10 arg11 harg11 arg12 harg12 arg13 harg13 (kernelRun0_A.sl.r c i xt0) k0_hw1 (k0_pay1226 (F := Ideal)) (k0_pay1226 (F := Ideal))
    (arg9.view.writes (Elt Ideal) arg9.view.junk (kernelRun0_A.sl.HS3_3 c arg2 harg2 arg6 x0))
    (arg11.view.writes (Elt Ideal) arg11.view.junk (kernelRun0_A.sl.HS5_9 c arg2 harg2 arg6 arg10 arg13 x0))
    (arg7.view.writes (Elt Ideal) arg7.view.junk (kernelRun0_A.sl.HS1_1 c arg2 harg2 arg6 x0))
    (arg8.view.writes (Elt Ideal) arg8.view.junk (kernelRun0_A.sl.HS2_1 c arg2 harg2 arg4 harg4 arg6 x0 x2))
    (arg12.view.writes (Elt Ideal) arg12.view.junk kernelRun0_A.sl.HS6_1) (0#32)) (by omega) l _ le_rfl).2.2 j r
  refine S.trans ?_
  rw [hn, Kern.M]
  by_cases hr : r.val / 8 < n
  · rw [if_pos ⟨by omega, hr⟩, if_pos hr]
    have hP := fun k (hk : k < n) j (hj : j < 9) => pars c arg2 harg2 arg6 arg10 arg11 arg13 x0 arg11.view.junk l k (by omega) j hj
    have hG := fun q (hq : q < 3) f (hf : f < 256) => grads c arg2 harg2 arg6 arg9 x0 arg9.view.junk l q hq f hf
    exact Walk.sums_congr (hP _ hr) (Nat.mod_lt _ (by decide))
      (Walk.runT_congr hP (fun f hf => state7 c arg2 harg2 arg6 arg7 x0 arg7.view.junk l f hf) _ (by omega))
      (Walk.runA_congr hP (fun f hf => state8 c arg2 harg2 arg4 harg4 arg6 arg8 x0 x2 arg8.view.junk l f hf) hG _ (by omega)) hG j.val hj
  · rw [if_neg (by omega), if_neg hr, zeros_eq]
    exact (congrFun (View.read_writes_full arg12.view _ inb_S9x320x128_S9x320x128_0_0_0 _ []) _).trans zero_real

set_option maxHeartbeats 1000000 in
/-- One quantity of one splat. -/
theorem rows_eq (q k : ℕ) (a : Fin 8) (hq : q < 9) (hk : k < 5) (hka : 8 * k + a.val < 36) :
    rows arg10 arg11 arg12 (kernelRun0_A.sl.HS4_16 (F := Ideal) c arg2 harg2 arg6 x0) (kernelRun0_A.sl.HS5_9 (F := Ideal) c arg2 harg2 arg6 arg10 arg13 x0)
        (sumPieces (F := Ideal) c i arg2 harg2 arg3 harg3 arg4 harg4 arg5 harg5 arg6 harg6 arg7 harg7 arg8 harg8 arg9 harg9 arg10 harg10 arg11 harg11 arg12 harg12 arg13 harg13 x0 x2 xt0 k0_hw1) (kernelRun0_A.sl.r_10 (F := Ideal) c arg3 harg3 x1) (kernelRun0_A.sl.v155 (F := Ideal) c arg2 harg2 arg6 x0)
        q k (ValueIdx.ix2 a l)
      = Kern.out (wl x0 l) (x1 (ValueIdx.ix1 (0 : Fin 1))) (bgl x2) n q (8 * k + a.val) := by
  have ha := a.isLt
  have R : ∀ p (hp : p < 8), rawOf arg10 (kernelRun0_A.sl.HS4_16 (F := Ideal) c arg2 harg2 arg6 x0) k p (ValueIdx.ix2 a l) = fl (Spec.prm (wl x0 l) p (8 * k + a.val)) :=
    fun p hp => (raw_at arg10 _ k p hk hp a l).trans
      (congrArg (Ideal.ofBits .f32) (raws c arg2 harg2 arg6 arg10 x0 arg10.view.junk ⟨p, hp⟩ ⟨8 * k + a.val, by omega⟩ l hka))
  have Q : parOf arg11 (kernelRun0_A.sl.HS5_9 (F := Ideal) c arg2 harg2 arg6 arg10 arg13 x0) k 5 (ValueIdx.ix2 a l) = Kern.P (wl x0 l) (8 * k + a.val) 5 :=
    (par_at arg11 _ k 5 hk (by decide) a l).trans
      (Eq.trans (congrArg (fun z : Fin 40 => arg11.view.read (Elt Ideal) (arg11.view.writes (Elt Ideal) arg11.view.junk (kernelRun0_A.sl.HS5_9 (F := Ideal) c arg2 harg2 arg6 arg10 arg13 x0))
          (ValueIdx.ix3 (⟨5, by decide⟩ : Fin 9) z l)) (Fin.ext (Nat.mod_eq_of_lt (show 8 * k + a.val < 40 by omega)).symm))
        (pars c arg2 harg2 arg6 arg10 arg11 arg13 x0 arg11.view.junk l (8 * k + a.val) hka 5 (by decide)))
  have W : kernelRun0_A.sl.v155 (F := Ideal) c arg2 harg2 arg6 x0 (ValueIdx.ix2 (0 : Fin 1) l) = wl x0 l 736 :=
    rowsOf_apply c arg2 harg2 arg6 x0 1 736 (by decide) (0 : Fin 1) l
  unfold rows
  rw [out_at, mask_at, W, R 0 (by decide), R 1 (by decide), R 2 (by decide), R 3 (by decide), R 4 (by decide), Q, scale_eq]
  refine congrArg (fun z => Scalar.select (Spec.listed (wl x0 l) (8 * k + a.val)) z 0) (last_congr (fun j hj s hs => ?_) _ _ _ _ _ _ _ q hq)
  rw [sums_at arg12 _ k j s hk hj hs a l, sums_eq c i arg2 harg2 arg3 harg3 arg4 harg4 arg5 harg5 arg6 harg6 arg7 harg7 arg8 harg8 arg9 harg9 arg10 harg10 arg11 harg11 arg12 harg12 arg13 harg13 x0 x2 xt0 k0_hw1 n hn h36 l]
  show Kern.M _ _ n ((8 * (8 * k + a.val) + s) / 8) j ((8 * (8 * k + a.val) + s) % 8) = _
  rw [show (8 * (8 * k + a.val) + s) / 8 = 8 * k + a.val by omega, show (8 * (8 * k + a.val) + s) % 8 = s by omega]

/-- One row of the block's output. -/
theorem rowAt_eq (O : Model.Ok (wl x0 l) (x1 (ValueIdx.ix1 (0 : Fin 1))) (bgl x2) n) (r : ℕ) :
    rowAt (rows arg10 arg11 arg12 (kernelRun0_A.sl.HS4_16 (F := Ideal) c arg2 harg2 arg6 x0) (kernelRun0_A.sl.HS5_9 (F := Ideal) c arg2 harg2 arg6 arg10 arg13 x0)
        (sumPieces (F := Ideal) c i arg2 harg2 arg3 harg3 arg4 harg4 arg5 harg5 arg6 harg6 arg7 harg7 arg8 harg8 arg9 harg9 arg10 harg10 arg11 harg11 arg12 harg12 arg13 harg13 x0 x2 xt0 k0_hw1) (kernelRun0_A.sl.r_10 (F := Ideal) c arg3 harg3 x1) (kernelRun0_A.sl.v155 (F := Ideal) c arg2 harg2 arg6 x0)) r l
      = Spec.row (wl x0 l) (x1 (ValueIdx.ix1 (0 : Fin 1))) (bgl x2) r := by
  have E := rows_eq c i arg2 harg2 arg3 harg3 arg4 harg4 arg5 harg5 arg6 harg6 arg7 harg7 arg8 harg8 arg9 harg9 arg10 harg10 arg11 harg11 arg12 harg12 arg13 harg13 x0 x1 x2 xt0 k0_hw1 n hn h36 l
  unfold rowAt Spec.row
  split
  · rw [E _ _ _ (by omega) (by omega) (by show 8 * (r / 8 % 4) + r % 8 < 36; omega)]
    show Kern.out _ _ _ n (r / 32) (8 * (r / 8 % 4) + r % 8) = _
    rw [show 8 * (r / 8 % 4) + r % 8 = r % 32 by omega, Kern.out_eq O (by omega) _ (by omega)]
  · split
    · rw [E _ _ _ (by omega) (by omega) (by show 8 * 4 + (r - 288) % 4 < 36; omega)]
      show Kern.out _ _ _ n ((r - 288) / 4) (32 + (r - 288) % 4) = _
      rw [Kern.out_eq O (by omega) _ (by omega)]
    · rfl

/-- The block of the output after the kernel's run at one grid point. -/
theorem block_eq (O : Model.Ok (wl x0 l) (x1 (ValueIdx.ix1 (0 : Fin 1))) (bgl x2) n) {κ : Kind} {sp : Space} (v : View sig κ sp S3x128x128 .f32)
    (f : v.ty.Contents (Elt Ideal)) (p : Fin 3) (r : Fin 128) :
    v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 x0 x1 x2 xt0 k0_hw1).1) (ValueIdx.ix3 p l r)
      = Spec.row (wl x0 l) (x1 (ValueIdx.ix1 (0 : Fin 1))) (bgl x2) (128 * p.val + r.val) := by
  rw [run_stored, stored_at]
  exact rowAt_eq c i arg2 harg2 arg3 harg3 arg4 harg4 arg5 harg5 arg6 harg6 arg7 harg7 arg8 harg8 arg9 harg9 arg10 harg10 arg11 harg11 arg12 harg12 arg13 harg13 x0 x1 x2 xt0 k0_hw1 n hn h36 l O _

end Cert.KernelIdeal.Hand.Last

end
-- ==== Proof.Value.lean ====
/- The kernel's result is the reference's: block by block, the output array the pipeline leaves. -/
module

public import proofs.«01_k».proof.Proof.Rows
public import proofs.«01_k».proof.Proof.RefRun
public import proofs.«01_k».proof.Proof.Frames
public import Idealize.ShloMosaic.Lib.Pipeline.ValueKit.Geometry

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array: the reference's function of the arguments. -/
def val (c : Dev nD) : Buf (Elt Ideal) ((c : Thread nD τ).loc main_v0) :=
  Spec.result (m ((c : Thread nD τ).loc main_arg0)) (m ((c : Thread nD τ).loc main_arg2)) (m ((c : Thread nD τ).loc main_arg3))

/-! ## The blocks at grid point `t` -/

theorem point_lt (t : Fin grid0.N) : t.val < 255 := N_0 ▸ t.isLt

theorem coord : ∀ t : Fin grid0.N, (BitVec.ofNat 32 (grid0.coords t 0).val).toNat = t.val := by decide +kernel

theorem word_at : ∀ t : Fin grid0.N, k0_off1 (grid0.coords t) 0 = t.val := by decide +kernel

/-- The block with number `l` among those of point `t`. -/
def blk (t : Fin grid0.N) (l : Fin 128) : Fin 32640 := ⟨128 * t.val + l.val, by have := point_lt t; omega⟩

theorem words_at (hO : Ok m) (c : Dev nD) (t : Fin (cfgM m hO).N) (l : Fin 128) (i : ℕ) :
    Prep.wl (iblk m hO c 0 t) l i = Spec.wd (m ((c : Thread nD τ).loc main_arg0)) (blk t l) i := by
  refine congrArg (m ((c : Thread nD τ).loc main_arg0)) (funext fun a => Fin.ext ?_)
  match a with
  | ⟨0, _⟩ => show 0 * 6 + 1 * (i / 128 % 6) = i / 128 % 6; omega
  | ⟨1, _⟩ =>
    show (BitVec.ofNat 32 (grid0.coords t 0).val).toNat * 128 + 1 * l.val = 128 * t.val + l.val
    rw [coord t]; omega
  | ⟨2, _⟩ => show 0 * 128 + 1 * (i % 128) = i % 128; omega

theorem scale_at (hO : Ok m) (c : Dev nD) (t : Fin (cfgM m hO).N) :
    (iblk m hO c 1 t : Vec Ideal S1 .f32) (ValueIdx.ix1 (0 : Fin 1)) = m ((c : Thread nD τ).loc main_arg2) (ValueIdx.ix1 (0 : Fin 1)) := by
  refine congrArg (m ((c : Thread nD τ).loc main_arg2)) (funext fun a => Fin.ext ?_)
  match a with
  | ⟨0, _⟩ => rfl

theorem ground_at (hO : Ok m) (c : Dev nD) (t : Fin (cfgM m hO).N) (q : ℕ) :
    Prep.bgl (iblk m hO c 2 t) q = Spec.bgd (m ((c : Thread nD τ).loc main_arg3)) q := by
  refine congrArg (m ((c : Thread nD τ).loc main_arg3)) (funext fun a => Fin.ext ?_)
  match a with
  | ⟨0, _⟩ => show 0 * 3 + 1 * (q % 3) = q % 3; omega

theorem count_at (c : Dev nD) (t : Fin grid0.N) :
    (kernelRun0_A.sl.r (F := Ideal) c (grid0.coords t) (tbl m 0) : BitVec 32)
      = m ((c : Thread nD τ).loc main_arg1) (ValueIdx.ix1 (⟨t.val, point_lt t⟩ : Fin 255)) := by
  obtain rfl : c = 0 := Subsingleton.elim _ _
  refine congrArg (m (((0 : Dev nD) : Thread nD τ).loc main_arg1)) (funext fun a => Fin.ext ?_)
  match a with
  | ⟨0, _⟩ => exact (Nat.add_zero _).trans (word_at t)

/-! ## What the body leaves at point `t`, and the whole array -/

theorem outs_eq (h : Cert.Pre_KernelIdeal_pre_value m) (hO : Ok m) (hH : Hyps m hO) (c : Dev nD) (t : Fin (cfgM m hO).N) (p : Fin 3) (l r : Fin 128) :
    outsAt0 m hO hH c t (ValueIdx.ix3 p l r)
      = val m c (ValueIdx.ix3 p (blk t l) r) := by
  have O := PreValue.block (h c) (blk t l) ⟨t.val, point_lt t⟩ l (by show 128 * t.val + l.val = t.val * 128 + l.val; omega)
  have ew : Prep.wl (iblk m hO c 0 t) l = Spec.wd (m ((c : Thread nD τ).loc main_arg0)) (blk t l) := funext (words_at m hO c t l)
  have eb : Prep.bgl (iblk m hO c 2 t) = Spec.bgd (m ((c : Thread nD τ).loc main_arg3)) := funext (ground_at m hO c t)
  have eg := scale_at m hO c t
  have en := congrArg (fun v : BitVec 32 => v.toInt.toNat) (count_at m c t)
  refine (Last.block_eq c (grid0.coords t) (ms0_0 m hO t) (hs0_0 m hO t) (ms0_1 m hO t) (hs0_1 m hO t) (ms0_2 m hO t) (hs0_2 m hO t) (ms0_3 m hO t) (hs0_3 m hO t)
    scM0_0 (Memref.isWhole_whole _) scM0_1 (Memref.isWhole_whole _) scM0_2 (Memref.isWhole_whole _) scM0_3 (Memref.isWhole_whole _)
    scM0_4 (Memref.isWhole_whole _) scM0_5 (Memref.isWhole_whole _) scM0_6 (Memref.isWhole_whole _) scM0_7 (Memref.isWhole_whole _)
    (iblk m hO c 0 t) (iblk m hO c 1 t) (iblk m hO c 2 t) (tbl m 0) (Hyps.c0 hH c t) _ en O.n_le l ?_ VO0_3 VO0_3.junk p r).trans ?_
  · rw [ew, eb, eg]; exact O
  · rw [ew, eb, eg]; rfl

theorem place (hO : Ok m) (t : Fin (cfgM m hO).N) (p : Fin 3) (l r : Fin 128) :
    (((cfgM m hO).win 3).blk t).view.emb (ValueIdx.ix3 p l r) = (ValueIdx.ix3 p (blk t l) r : S3x32640x128.Idx) := by
  refine funext fun a => Fin.ext ?_
  match a with
  | ⟨0, _⟩ => show 0 * 3 + 1 * p.val = p.val; omega
  | ⟨1, _⟩ =>
    show (BitVec.ofNat 32 (grid0.coords t 0).val).toNat * 128 + 1 * l.val = 128 * t.val + l.val
    rw [coord t]; omega
  | ⟨2, _⟩ => show 0 * 128 + 1 * r.val = r.val; omega

theorem mem_of {κ : Kind} {sp : Space} {s : Shape} {e : EltTy} (v : View sig κ sp s e) (x : s.Idx) (i) (h : v.emb x = i) : i ∈ v.set := h ▸ v.emb_mem_set x

theorem cover (hO : Ok m) (i : S3x32640x128.Idx) :
    ∃ t : Fin (cfgM m hO).N, ((cfgM m hO).win 3).flush t = true ∧ i ∈ (((cfgM m hO).win 3).blk t).view.set := by
  have h1 : (i 1 : Fin 32640).val < 32640 := (i 1 : Fin 32640).isLt
  have ht : (i 1 : Fin 32640).val / 128 < grid0.N := by rw [N_0]; omega
  refine ⟨⟨(i 1 : Fin 32640).val / 128, ht⟩, flush0_3 _ _, ?_⟩
  have e : i = ValueIdx.ix3 (i 0 : Fin 3) (blk ⟨(i 1 : Fin 32640).val / 128, ht⟩ ⟨(i 1 : Fin 32640).val % 128, Nat.mod_lt _ (by decide)⟩) (i 2 : Fin 128) := by
    refine funext fun a => Fin.ext ?_
    match a with
    | ⟨0, _⟩ => rfl
    | ⟨1, _⟩ => show (i 1 : Fin 32640).val = 128 * ((i 1 : Fin 32640).val / 128) + (i 1 : Fin 32640).val % 128; omega
    | ⟨2, _⟩ => rfl
  exact mem_of (((cfgM m hO).win 3).blk ⟨(i 1 : Fin 32640).val / 128, ht⟩).view
    (ValueIdx.ix3 (i 0 : Fin 3) (⟨(i 1 : Fin 32640).val % 128, Nat.mod_lt _ (by decide)⟩ : Fin 128) (i 2 : Fin 128)) i ((place m hO ⟨(i 1 : Fin 32640).val / 128, ht⟩ _ _ _).trans e.symm)

section Array
attribute [local irreducible] outsAt0 val

theorem flushed_eq (h : Cert.Pre_KernelIdeal_pre_value m) (hO : Ok m) (hH : Hyps m hO) (c : Dev nD) (t : Fin (cfgM m hO).N) :
    (dats m hO hH 0 c).flushed 3 t = (((cfgM m hO).win 3).blk t).view.read (Elt Ideal) (val m c) := by
  show ((cfgM m hO).win 3).cut (grid0.coords t) ((dats m hO hH 0 c).after 3 t) = _
  rw [after0_3]
  refine funext ?_
  intro (y : S3x128x128.Idx)
  rw [show y = ValueIdx.ix3 (y 0 : Fin 3) (y 1 : Fin 128) (y 2 : Fin 128) from ValueIdx.eq_ix3 y]
  exact (outs_eq m h hO hH c t _ _ _).trans (congrArg (val m c) (place m hO t _ _ _).symm)

theorem final (h : Cert.Pre_KernelIdeal_pre_value m) (hO : Ok m) (hH : Hyps m hO) (c : Dev nD) :
    (dats m hO hH 0 c).arrAt 3 (cfgM m hO).N = val m c :=
  (dats m hO hH 0 c).arrAt_eq_of_cover 3 (val m c) (fun t _ => flushed_eq m h hO hH c t) (cover m hO)

end Array

/-- The run, with its result. -/
theorem run (h : Cert.Pre_KernelIdeal_pre_value m) (hO : Ok m) (hH : Hyps m hO) :
    θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h' c => ⟨((h'.1 c).1 3).trans (final m h hO hH c), h'.2 c⟩)
    (θ_run_and (run_main m ρ hO hH) (unchanged m ρ hO hH))

end Cert.KernelIdeal.Hand

namespace Cert.Proof

open Idealize.ShloMosaic Idealize.SL.Sem

/-- Over the extended reals the kernel and the reference compute the same array. -/
theorem algebraic : Cert.algebraic_KernelIdeal_ReferenceIdeal_pre_pre_value := by
  intro m g m' g' h hm
  refine ⟨Cert.KernelIdeal.Hand.val m, Cert.KernelIdeal.Hand.run m g h (Cert.KernelIdeal.Hand.ok m) (hyps_of_value m h), ?_⟩
  refine (θ_run Cert.ReferenceIdeal.defs _ _).mono (fun r hr c => ⟨?_, (hr.2.1 c)⟩)
    (θ_run_and (Cert.RefRun.run m' g') (Cert.ReferenceIdeal.Gen.frame m' g'))
  rw [hr.1 c, (hm c).1, (hm c).2.2.1, (hm c).2.2.2]
  rfl

end Cert.Proof

end
-- ==== Proof.lean ====
module

public import proofs.«01_k».proof.Defs
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_pre.Gen.facts,
    Cert.Pre_pre_value.Gen.facts, kernel_frame, ideal_frame, ideal_frame_value,
    reference_frame, reference_frame_value, constants, algebraic⟩

end Cert.Proof

end
